-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S4x512x256 : Shape := ⟨3, ![4, 512, 256]⟩
abbrev S4 : Shape := ⟨1, ![4]⟩
abbrev S4x5075 : Shape := ⟨2, ![4, 5075]⟩
abbrev S10x25 : Shape := ⟨2, ![10, 25]⟩
abbrev S281x9 : Shape := ⟨2, ![281, 9]⟩
abbrev S9 : Shape := ⟨1, ![9]⟩
abbrev S_ : Shape := ⟨0, ![]⟩

class Facts : Prop where
  bcast_S_S4x5075 : S_.BroadcastsInDim S4x5075 (![] : Fin 0 → Fin S4x5075.rank)
  reducesTo_S4x5075_S_d0_1 : S4x5075.ReducesTo [0, 1] S_
  h_S_ : 0 < S_.numel

variable [Facts]

def fn_where {F : FTy → Type} [FloatOps F] (arg0 : IVec S4x5075 1) (arg1 : IVec S4x5075 1) (arg2 : IVec S_ 1) : IVec S4x5075 1 :=
  let v0 : IVec S4x5075 1 := broadcastInDim S4x5075 ![] bcast_S_S4x5075 arg2
  let v1 : IVec S4x5075 1 := select arg0 arg1 v0
  v1

def fn {F : FTy → Type} [FloatOps F] (main_arg0 : FVec F S4x512x256 .f32) (main_arg1 : IVec S4 32) (main_arg2 : IVec S4x5075 32) (main_arg3 : IVec S4x5075 32) (main_arg4 : IVec S4x5075 1) (main_arg5 : FVec F S10x25 .f32) (main_arg6 : FVec F S281x9 .f32) (main_arg7 : FVec F S9 .f32) : IVec S_ 1 :=
  let main_c : IVec S_ 32 := constantI S_ 32 0#32
  let main_v0 : IVec S4x5075 32 := broadcastInDim S4x5075 ![] bcast_S_S4x5075 main_c
  let main_v1 : IVec S4x5075 1 := cmpi .sge main_arg2 main_v0
  let main_c_0 : IVec S_ 32 := constantI S_ 32 512#32
  let main_v2 : IVec S4x5075 32 := broadcastInDim S4x5075 ![] bcast_S_S4x5075 main_c_0
  let main_v3 : IVec S4x5075 1 := cmpi .slt main_arg2 main_v2
  let main_v4 : IVec S4x5075 1 := andi main_v1 main_v3
  let main_v5 : IVec S4x5075 1 := cmpi .slt main_arg2 main_arg3
  let main_v6 : IVec S4x5075 1 := andi main_v4 main_v5
  let main_c_1 : IVec S_ 1 := constantI S_ 1 1#1
  let main_v7 : IVec S4x5075 1 := fn_where (F := F) main_arg4 main_v6 main_c_1
  let main_c_2 : IVec S_ 1 := constantI S_ 1 1#1
  let main_v8 : IVec S_ 1 := (fun x v => Host.reduce IntOp.andi x v reducesTo_S4x5075_S_d0_1 h_S_) main_v7 main_c_2
  main_v8
-- ==== Kernel.lean ====
abbrev S4x512x256 : Shape := ⟨3, ![4, 512, 256]⟩
abbrev S4 : Shape := ⟨1, ![4]⟩
abbrev S4x5075 : Shape := ⟨2, ![4, 5075]⟩
abbrev S10x25 : Shape := ⟨2, ![10, 25]⟩
abbrev S281x9 : Shape := ⟨2, ![281, 9]⟩
abbrev S9 : Shape := ⟨1, ![9]⟩
abbrev S1x9 : Shape := ⟨2, ![1, 9]⟩
abbrev S2561x128 : Shape := ⟨2, ![2561, 128]⟩
abbrev S4x5120 : Shape := ⟨2, ![4, 5120]⟩
abbrev S256x9 : Shape := ⟨2, ![256, 9]⟩
abbrev S25x9 : Shape := ⟨2, ![25, 9]⟩
abbrev S10x9 : Shape := ⟨2, ![10, 9]⟩
abbrev S1x512x256 : Shape := ⟨3, ![1, 512, 256]⟩
abbrev S512x256 : Shape := ⟨2, ![512, 256]⟩
abbrev S512x9 : Shape := ⟨2, ![512, 9]⟩
abbrev S512 : Shape := ⟨1, ![512]⟩
abbrev S512x1 : Shape := ⟨2, ![512, 1]⟩
abbrev S512x6 : Shape := ⟨2, ![512, 6]⟩
abbrev S512x16 : Shape := ⟨2, ![512, 16]⟩
abbrev S1x256 : Shape := ⟨2, ![1, 256]⟩
abbrev S511x256 : Shape := ⟨2, ![511, 256]⟩
abbrev S2x256 : Shape := ⟨2, ![2, 256]⟩
abbrev S510x256 : Shape := ⟨2, ![510, 256]⟩
abbrev S3x256 : Shape := ⟨2, ![3, 256]⟩
abbrev S509x256 : Shape := ⟨2, ![509, 256]⟩
abbrev S4x256 : Shape := ⟨2, ![4, 256]⟩
abbrev S508x256 : Shape := ⟨2, ![508, 256]⟩
abbrev S5x256 : Shape := ⟨2, ![5, 256]⟩
abbrev S507x256 : Shape := ⟨2, ![507, 256]⟩
abbrev S6x256 : Shape := ⟨2, ![6, 256]⟩
abbrev S506x256 : Shape := ⟨2, ![506, 256]⟩
abbrev S7x256 : Shape := ⟨2, ![7, 256]⟩
abbrev S505x256 : Shape := ⟨2, ![505, 256]⟩
abbrev S512x128 : Shape := ⟨2, ![512, 128]⟩
abbrev S8x256 : Shape := ⟨2, ![8, 256]⟩
abbrev S504x256 : Shape := ⟨2, ![504, 256]⟩
abbrev S9x256 : Shape := ⟨2, ![9, 256]⟩
abbrev S503x256 : Shape := ⟨2, ![503, 256]⟩
abbrev S1 : Shape := ⟨1, ![1]⟩
abbrev S1x1 : Shape := ⟨2, ![1, 1]⟩
abbrev S1x6 : Shape := ⟨2, ![1, 6]⟩
abbrev S1x16 : Shape := ⟨2, ![1, 16]⟩
abbrev S1x128 : Shape := ⟨2, ![1, 128]⟩
abbrev S20488x16 : Shape := ⟨2, ![20488, 16]⟩
abbrev S4x46080 : Shape := ⟨2, ![4, 46080]⟩
abbrev S640 : Shape := ⟨1, ![640]⟩
abbrev S640x16 : Shape := ⟨2, ![640, 16]⟩
abbrev S5760 : Shape := ⟨1, ![5760]⟩
abbrev S_ : Shape := ⟨0, ![]⟩
abbrev S1x640 : Shape := ⟨2, ![1, 640]⟩
abbrev S128x16 : Shape := ⟨2, ![128, 16]⟩
abbrev S128 : Shape := ⟨1, ![128]⟩
abbrev S16 : Shape := ⟨1, ![16]⟩
abbrev S1x5760 : Shape := ⟨2, ![1, 5760]⟩
abbrev S4x5120x9 : Shape := ⟨3, ![4, 5120, 9]⟩
abbrev S4x5075x9 : Shape := ⟨3, ![4, 5075, 9]⟩

abbrev nBuf : Table → Nat
  | .hbm => 18
  | .local .tc .vmem => 9
  | .local .scVector .vmem => 4
  | _ => 0

abbrev bufTy : (tb : Table) → Fin (nBuf tb) → BufTy
  | .hbm, ⟨0, _⟩ => ⟨S4x512x256, .f32⟩
  | .hbm, ⟨1, _⟩ => ⟨S4, .i32⟩
  | .hbm, ⟨2, _⟩ => ⟨S4x5075, .i32⟩
  | .hbm, ⟨3, _⟩ => ⟨S4x5075, .i32⟩
  | .hbm, ⟨4, _⟩ => ⟨S4x5075, .i1⟩
  | .hbm, ⟨5, _⟩ => ⟨S10x25, .f32⟩
  | .hbm, ⟨6, _⟩ => ⟨S281x9, .f32⟩
  | .hbm, ⟨7, _⟩ => ⟨S9, .f32⟩
  | .hbm, ⟨8, _⟩ => ⟨S1x9, .f32⟩
  | .hbm, ⟨9, _⟩ => ⟨S4x5075, .i32⟩
  | .hbm, ⟨10, _⟩ => ⟨S2561x128, .f32⟩
  | .hbm, ⟨11, _⟩ => ⟨S4x5120, .i32⟩
  | .hbm, ⟨12, _⟩ => ⟨S20488x16, .f32⟩
  | .hbm, ⟨13, _⟩ => ⟨S4x46080, .f32⟩
  | .hbm, ⟨14, _⟩ => ⟨S4x5120, .i32⟩
  | .hbm, ⟨15, _⟩ => ⟨S4x5120x9, .f32⟩
  | .hbm, ⟨16, _⟩ => ⟨S4x5075x9, .f32⟩
  | .hbm, ⟨17, _⟩ => ⟨S4x5075, .i32⟩
  | .local .tc .vmem, ⟨0, _⟩ => ⟨S4x512x256, .f32⟩
  | .local .tc .vmem, ⟨1, _⟩ => ⟨S10x25, .f32⟩
  | .local .tc .vmem, ⟨2, _⟩ => ⟨S281x9, .f32⟩
  | .local .tc .vmem, ⟨3, _⟩ => ⟨S1x9, .f32⟩
  | .local .tc .vmem, ⟨4, _⟩ => ⟨S4x5075, .i32⟩
  | .local .tc .vmem, ⟨5, _⟩ => ⟨S4x5075, .i32⟩
  | .local .tc .vmem, ⟨6, _⟩ => ⟨S4x5075, .i32⟩
  | .local .tc .vmem, ⟨7, _⟩ => ⟨S2561x128, .f32⟩
  | .local .tc .vmem, ⟨8, _⟩ => ⟨S4x5120, .i32⟩
  | .local .scVector .vmem, ⟨0, _⟩ => ⟨S640, .i32⟩
  | .local .scVector .vmem, ⟨1, _⟩ => ⟨S640x16, .f32⟩
  | .local .scVector .vmem, ⟨2, _⟩ => ⟨S5760, .f32⟩
  | .local .scVector .vmem, ⟨3, _⟩ => ⟨S640, .i32⟩
  | _, _ => ⟨S4x512x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v3_scv : Ref sig .scVector := ⟨.hbm, 12, rfl⟩
abbrev main_v2_1_scv : Ref sig .scVector := ⟨.hbm, 11, rfl⟩
abbrev main_v4_0_scv : Ref sig .scVector := ⟨.hbm, 13, rfl⟩
abbrev main_v4_1_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x25 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S281x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x5075 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5075 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x5075 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2561x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x5120 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c640_i32 : BitVec 32 := 640#32
  let v29 : BitVec 32 := Scalar.muli v28 c640_i32
  ![v18.toNat, v29.toNat]
@[reducible] def k1_t1_loop : Scf.Loop 32 :=
  let c0_i32_56 : BitVec 32 := 0#32
  let c40_i32 : BitVec 32 := 40#32
  let v62 : BitVec 32 := Scalar.addi c0_i32_56 c40_i32
  let c1_i32_57 : BitVec 32 := 1#32
  ⟨c0_i32_56, v62, c1_i32_57⟩

def k1_chk1 (v61 : IVec S16 32) (v67 : IVec S16 32) : Prop :=
  (∀ a x, ((![v67, v61] : Fin 2 → IVec S16 32) a x).toNat < S640x16.size a)
theorem k1_idx1_inb : ∀ (v61 : IVec S16 32) (v67 : IVec S16 32) (k1_hw1 : k1_chk1 v61 v67), ∀ a x, ((![v67, v61] : Fin 2 → IVec S16 32) a x).toNat < S640x16.size a := fun v61 v67 k1_hw1 => k1_hw1
def k1_off2 (k1_t1 : Fin k1_t1_loop.trips) : Fin 1 → Nat :=
  let c0_i32_60 : BitVec 32 := 0#32
  let c0_i32_56 : BitVec 32 := 0#32
  let c1_i32_57 : BitVec 32 := 1#32
  let arg11 : BitVec 32 := Scf.iv c0_i32_56 c1_i32_57 k1_t1
  let c16_i32 : BitVec 32 := 16#32
  let v64 : BitVec 32 := Scalar.muli arg11 c16_i32
  let v65 : BitVec 32 := Scalar.addi c0_i32_60 v64
  let v70 : Index := Scalar.indexCast v65
  ![v70.toNat]

def k1_chk2 (v67 : IVec S16 32) (v74 : IVec S16 32) : Prop :=
  (∀ a x, ((![v67, v74] : Fin 2 → IVec S16 32) a x).toNat < S640x16.size a)
theorem k1_idx2_inb : ∀ (v67 : IVec S16 32) (v74 : IVec S16 32) (k1_hw2 : k1_chk2 v67 v74), ∀ a x, ((![v67, v74] : Fin 2 → IVec S16 32) a x).toNat < S640x16.size a := fun v67 v74 k1_hw2 => k1_hw2

def k1_chk3 (v77 : IVec S16 32) : Prop :=
  (∀ a x, ((![v77] : Fin 1 → IVec S16 32) a x).toNat < S5760.size a)
theorem k1_idx3_inb : ∀ (v77 : IVec S16 32) (k1_hw3 : k1_chk3 v77), ∀ a x, ((![v77] : Fin 1 → IVec S16 32) a x).toNat < S5760.size a := fun v77 k1_hw3 => k1_hw3

def k1_chk4 (v67 : IVec S16 32) (v78 : IVec S16 32) : Prop :=
  (∀ a x, ((![v67, v78] : Fin 2 → IVec S16 32) a x).toNat < S640x16.size a)
theorem k1_idx4_inb : ∀ (v67 : IVec S16 32) (v78 : IVec S16 32) (k1_hw4 : k1_chk4 v67 v78), ∀ a x, ((![v67, v78] : Fin 2 → IVec S16 32) a x).toNat < S640x16.size a := fun v67 v78 k1_hw4 => k1_hw4

def k1_chk5 (v81 : IVec S16 32) : Prop :=
  (∀ a x, ((![v81] : Fin 1 → IVec S16 32) a x).toNat < S5760.size a)
theorem k1_idx5_inb : ∀ (v81 : IVec S16 32) (k1_hw5 : k1_chk5 v81), ∀ a x, ((![v81] : Fin 1 → IVec S16 32) a x).toNat < S5760.size a := fun v81 k1_hw5 => k1_hw5

def k1_chk6 (v67 : IVec S16 32) (v82 : IVec S16 32) : Prop :=
  (∀ a x, ((![v67, v82] : Fin 2 → IVec S16 32) a x).toNat < S640x16.size a)
theorem k1_idx6_inb : ∀ (v67 : IVec S16 32) (v82 : IVec S16 32) (k1_hw6 : k1_chk6 v67 v82), ∀ a x, ((![v67, v82] : Fin 2 → IVec S16 32) a x).toNat < S640x16.size a := fun v67 v82 k1_hw6 => k1_hw6

def k1_chk7 (v85 : IVec S16 32) : Prop :=
  (∀ a x, ((![v85] : Fin 1 → IVec S16 32) a x).toNat < S5760.size a)
theorem k1_idx7_inb : ∀ (v85 : IVec S16 32) (k1_hw7 : k1_chk7 v85), ∀ a x, ((![v85] : Fin 1 → IVec S16 32) a x).toNat < S5760.size a := fun v85 k1_hw7 => k1_hw7

def k1_chk8 (v67 : IVec S16 32) (v86 : IVec S16 32) : Prop :=
  (∀ a x, ((![v67, v86] : Fin 2 → IVec S16 32) a x).toNat < S640x16.size a)
theorem k1_idx8_inb : ∀ (v67 : IVec S16 32) (v86 : IVec S16 32) (k1_hw8 : k1_chk8 v67 v86), ∀ a x, ((![v67, v86] : Fin 2 → IVec S16 32) a x).toNat < S640x16.size a := fun v67 v86 k1_hw8 => k1_hw8

def k1_chk9 (v89 : IVec S16 32) : Prop :=
  (∀ a x, ((![v89] : Fin 1 → IVec S16 32) a x).toNat < S5760.size a)
theorem k1_idx9_inb : ∀ (v89 : IVec S16 32) (k1_hw9 : k1_chk9 v89), ∀ a x, ((![v89] : Fin 1 → IVec S16 32) a x).toNat < S5760.size a := fun v89 k1_hw9 => k1_hw9

def k1_chk10 (v67 : IVec S16 32) (v90 : IVec S16 32) : Prop :=
  (∀ a x, ((![v67, v90] : Fin 2 → IVec S16 32) a x).toNat < S640x16.size a)
theorem k1_idx10_inb : ∀ (v67 : IVec S16 32) (v90 : IVec S16 32) (k1_hw10 : k1_chk10 v67 v90), ∀ a x, ((![v67, v90] : Fin 2 → IVec S16 32) a x).toNat < S640x16.size a := fun v67 v90 k1_hw10 => k1_hw10

def k1_chk11 (v93 : IVec S16 32) : Prop :=
  (∀ a x, ((![v93] : Fin 1 → IVec S16 32) a x).toNat < S5760.size a)
theorem k1_idx11_inb : ∀ (v93 : IVec S16 32) (k1_hw11 : k1_chk11 v93), ∀ a x, ((![v93] : Fin 1 → IVec S16 32) a x).toNat < S5760.size a := fun v93 k1_hw11 => k1_hw11

def k1_chk12 (v67 : IVec S16 32) (v94 : IVec S16 32) : Prop :=
  (∀ a x, ((![v67, v94] : Fin 2 → IVec S16 32) a x).toNat < S640x16.size a)
theorem k1_idx12_inb : ∀ (v67 : IVec S16 32) (v94 : IVec S16 32) (k1_hw12 : k1_chk12 v67 v94), ∀ a x, ((![v67, v94] : Fin 2 → IVec S16 32) a x).toNat < S640x16.size a := fun v67 v94 k1_hw12 => k1_hw12

def k1_chk13 (v97 : IVec S16 32) : Prop :=
  (∀ a x, ((![v97] : Fin 1 → IVec S16 32) a x).toNat < S5760.size a)
theorem k1_idx13_inb : ∀ (v97 : IVec S16 32) (k1_hw13 : k1_chk13 v97), ∀ a x, ((![v97] : Fin 1 → IVec S16 32) a x).toNat < S5760.size a := fun v97 k1_hw13 => k1_hw13

def k1_chk14 (v67 : IVec S16 32) (v98 : IVec S16 32) : Prop :=
  (∀ a x, ((![v67, v98] : Fin 2 → IVec S16 32) a x).toNat < S640x16.size a)
theorem k1_idx14_inb : ∀ (v67 : IVec S16 32) (v98 : IVec S16 32) (k1_hw14 : k1_chk14 v67 v98), ∀ a x, ((![v67, v98] : Fin 2 → IVec S16 32) a x).toNat < S640x16.size a := fun v67 v98 k1_hw14 => k1_hw14

def k1_chk15 (v101 : IVec S16 32) : Prop :=
  (∀ a x, ((![v101] : Fin 1 → IVec S16 32) a x).toNat < S5760.size a)
theorem k1_idx15_inb : ∀ (v101 : IVec S16 32) (k1_hw15 : k1_chk15 v101), ∀ a x, ((![v101] : Fin 1 → IVec S16 32) a x).toNat < S5760.size a := fun v101 k1_hw15 => k1_hw15

def k1_chk16 (v67 : IVec S16 32) (v102 : IVec S16 32) : Prop :=
  (∀ a x, ((![v67, v102] : Fin 2 → IVec S16 32) a x).toNat < S640x16.size a)
theorem k1_idx16_inb : ∀ (v67 : IVec S16 32) (v102 : IVec S16 32) (k1_hw16 : k1_chk16 v67 v102), ∀ a x, ((![v67, v102] : Fin 2 → IVec S16 32) a x).toNat < S640x16.size a := fun v67 v102 k1_hw16 => k1_hw16

def k1_chk17 (v105 : IVec S16 32) : Prop :=
  (∀ a x, ((![v105] : Fin 1 → IVec S16 32) a x).toNat < S5760.size a)
theorem k1_idx17_inb : ∀ (v105 : IVec S16 32) (k1_hw17 : k1_chk17 v105), ∀ a x, ((![v105] : Fin 1 → IVec S16 32) a x).toNat < S5760.size a := fun v105 k1_hw17 => k1_hw17

def k1_chk18 (v67 : IVec S16 32) (v106 : IVec S16 32) : Prop :=
  (∀ a x, ((![v67, v106] : Fin 2 → IVec S16 32) a x).toNat < S640x16.size a)
theorem k1_idx18_inb : ∀ (v67 : IVec S16 32) (v106 : IVec S16 32) (k1_hw18 : k1_chk18 v67 v106), ∀ a x, ((![v67, v106] : Fin 2 → IVec S16 32) a x).toNat < S640x16.size a := fun v67 v106 k1_hw18 => k1_hw18

def k1_chk19 (v109 : IVec S16 32) : Prop :=
  (∀ a x, ((![v109] : Fin 1 → IVec S16 32) a x).toNat < S5760.size a)
theorem k1_idx19_inb : ∀ (v109 : IVec S16 32) (k1_hw19 : k1_chk19 v109), ∀ a x, ((![v109] : Fin 1 → IVec S16 32) a x).toNat < S5760.size a := fun v109 k1_hw19 => k1_hw19
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c640_i32 : BitVec 32 := 640#32
  let v29 : BitVec 32 := Scalar.muli v28 c640_i32
  let c9_i32_59 : BitVec 32 := 9#32
  let v63 : BitVec 32 := Scalar.muli v29 c9_i32_59
  ![v18.toNat, v63.toNat]
def k1_off4 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c640_i32 : BitVec 32 := 640#32
  let v29 : BitVec 32 := Scalar.muli v28 c640_i32
  ![v18.toNat, v29.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x512x256 : Shape := ⟨3, ![4, 512, 256]⟩
abbrev S4 : Shape := ⟨1, ![4]⟩
abbrev S4x5075 : Shape := ⟨2, ![4, 5075]⟩
abbrev S10x25 : Shape := ⟨2, ![10, 25]⟩
abbrev S281x9 : Shape := ⟨2, ![281, 9]⟩
abbrev S9 : Shape := ⟨1, ![9]⟩
abbrev S10 : Shape := ⟨1, ![10]⟩
abbrev S4x5075x1 : Shape := ⟨3, ![4, 5075, 1]⟩
abbrev S1x1x10 : Shape := ⟨3, ![1, 1, 10]⟩
abbrev S4x5075x10 : Shape := ⟨3, ![4, 5075, 10]⟩
abbrev S_ : Shape := ⟨0, ![]⟩
abbrev S4x5075x10x1 : Shape := ⟨4, ![4, 5075, 10, 1]⟩
abbrev S4x5075x10x256 : Shape := ⟨4, ![4, 5075, 10, 256]⟩
abbrev S4x5075x256 : Shape := ⟨3, ![4, 5075, 256]⟩
abbrev S4x5075x25 : Shape := ⟨3, ![4, 5075, 25]⟩
abbrev S4x5075x281 : Shape := ⟨3, ![4, 5075, 281]⟩
abbrev S4x5075x9 : Shape := ⟨3, ![4, 5075, 9]⟩
abbrev S1x1x9 : Shape := ⟨3, ![1, 1, 9]⟩

abbrev nBuf : Space → Nat
  | .hbm => 80
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4, .i32⟩
  | .hbm, ⟨2, _⟩ => ⟨S4x5075, .i32⟩
  | .hbm, ⟨3, _⟩ => ⟨S4x5075, .i32⟩
  | .hbm, ⟨4, _⟩ => ⟨S4x5075, .i1⟩
  | .hbm, ⟨5, _⟩ => ⟨S10x25, .f32⟩
  | .hbm, ⟨6, _⟩ => ⟨S281x9, .f32⟩
  | .hbm, ⟨7, _⟩ => ⟨S9, .f32⟩
  | .hbm, ⟨8, _⟩ => ⟨S10, .i32⟩
  | .hbm, ⟨9, _⟩ => ⟨S4x5075x1, .i32⟩
  | .hbm, ⟨10, _⟩ => ⟨S1x1x10, .i32⟩
  | .hbm, ⟨11, _⟩ => ⟨S4x5075x10, .i32⟩
  | .hbm, ⟨12, _⟩ => ⟨S4x5075x10, .i32⟩
  | .hbm, ⟨13, _⟩ => ⟨S4x5075x10, .i32⟩
  | .hbm, ⟨14, _⟩ => ⟨S4x5075x1, .i32⟩
  | .hbm, ⟨15, _⟩ => ⟨S4x5075x10, .i32⟩
  | .hbm, ⟨16, _⟩ => ⟨S4x5075x10, .i1⟩
  | .hbm, ⟨17, _⟩ => ⟨S_, .i32⟩
  | .hbm, ⟨18, _⟩ => ⟨S4x5075x10, .i32⟩
  | .hbm, ⟨19, _⟩ => ⟨S4x5075x10, .i32⟩
  | .hbm, ⟨20, _⟩ => ⟨S_, .i32⟩
  | .hbm, ⟨21, _⟩ => ⟨S4x5075x10, .i32⟩
  | .hbm, ⟨22, _⟩ => ⟨S4x5075x10, .i1⟩
  | .hbm, ⟨23, _⟩ => ⟨S_, .i32⟩
  | .hbm, ⟨24, _⟩ => ⟨S4x5075x10, .i32⟩
  | .hbm, ⟨25, _⟩ => ⟨S4x5075x10, .i32⟩
  | .hbm, ⟨26, _⟩ => ⟨S4x5075x10, .i32⟩
  | .hbm, ⟨27, _⟩ => ⟨S4x5075x10x1, .i32⟩
  | .hbm, ⟨28, _⟩ => ⟨S4x5075x10x256, .f32⟩
  | .hbm, ⟨29, _⟩ => ⟨S4x5075x10x1, .i1⟩
  | .hbm, ⟨30, _⟩ => ⟨S_, .f32⟩
  | .hbm, ⟨31, _⟩ => ⟨S_, .f32⟩
  | .hbm, ⟨32, _⟩ => ⟨S4x5075x10x256, .i1⟩
  | .hbm, ⟨33, _⟩ => ⟨S4x5075x10x256, .f32⟩
  | .hbm, ⟨34, _⟩ => ⟨S4x5075x10x256, .f32⟩
  | .hbm, ⟨35, _⟩ => ⟨S_, .f32⟩
  | .hbm, ⟨36, _⟩ => ⟨S4x5075x256, .f32⟩
  | .hbm, ⟨37, _⟩ => ⟨S4x5075x1, .i1⟩
  | .hbm, ⟨38, _⟩ => ⟨S_, .f32⟩
  | .hbm, ⟨39, _⟩ => ⟨S_, .f32⟩
  | .hbm, ⟨40, _⟩ => ⟨S4x5075x256, .i1⟩
  | .hbm, ⟨41, _⟩ => ⟨S4x5075x256, .f32⟩
  | .hbm, ⟨42, _⟩ => ⟨S4x5075x256, .f32⟩
  | .hbm, ⟨43, _⟩ => ⟨S4x5075, .i32⟩
  | .hbm, ⟨44, _⟩ => ⟨S_, .i32⟩
  | .hbm, ⟨45, _⟩ => ⟨S4x5075, .i32⟩
  | .hbm, ⟨46, _⟩ => ⟨S4x5075, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S4x5075, .i32⟩
  | .hbm, ⟨51, _⟩ => ⟨S4x5075, .i32⟩
  | .hbm, ⟨52, _⟩ => ⟨S_, .i32⟩
  | .hbm, ⟨53, _⟩ => ⟨S4x5075, .i32⟩
  | .hbm, ⟨54, _⟩ => ⟨S4x5075, .i32⟩
  | .hbm, ⟨55, _⟩ => ⟨S_, .i32⟩
  | .hbm, ⟨56, _⟩ => ⟨S4x5075, .i32⟩
  | .hbm, ⟨57, _⟩ => ⟨S4x5075, .i1⟩
  | .hbm, ⟨58, _⟩ => ⟨S_, .i32⟩
  | .hbm, ⟨59, _⟩ => ⟨S4x5075, .i32⟩
  | .hbm, ⟨60, _⟩ => ⟨S4x5075, .i32⟩
  | .hbm, ⟨61, _⟩ => ⟨S4x5075, .i32⟩
  | .hbm, ⟨62, _⟩ => ⟨S4x5075x1, .i32⟩
  | .hbm, ⟨63, _⟩ => ⟨S4x5075x25, .f32⟩
  | .hbm, ⟨64, _⟩ => ⟨S4x5075x281, .f32⟩
  | .hbm, ⟨65, _⟩ => ⟨S4x5075x1, .i1⟩
  | .hbm, ⟨66, _⟩ => ⟨S_, .f32⟩
  | .hbm, ⟨67, _⟩ => ⟨S_, .f32⟩
  | .hbm, ⟨68, _⟩ => ⟨S4x5075x281, .i1⟩
  | .hbm, ⟨69, _⟩ => ⟨S4x5075x281, .f32⟩
  | .hbm, ⟨70, _⟩ => ⟨S4x5075x281, .f32⟩
  | .hbm, ⟨71, _⟩ => ⟨S4x5075x9, .f32⟩
  | .hbm, ⟨72, _⟩ => ⟨S1x1x9, .f32⟩
  | .hbm, ⟨73, _⟩ => ⟨S4x5075x9, .f32⟩
  | .hbm, ⟨74, _⟩ => ⟨S4x5075x9, .f32⟩
  | .hbm, ⟨75, _⟩ => ⟨S4x5075x9, .i32⟩
  | .hbm, ⟨76, _⟩ => ⟨S_, .f32⟩
  | .hbm, ⟨77, _⟩ => ⟨S_, .i32⟩
  | .hbm, ⟨78, _⟩ => ⟨S4x5075, .f32⟩
  | .hbm, ⟨79, _⟩ => ⟨S4x5075, .i32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v22 : Ref sig .tc := ⟨.hbm, 42, rfl⟩
abbrev main_v23 : Ref sig .tc := ⟨.hbm, 43, rfl⟩
abbrev main_c_4 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_c_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v26 : Ref sig .tc := ⟨.hbm, 54, rfl⟩
abbrev main_c_7 : Ref sig .tc := ⟨.hbm, 55, rfl⟩
abbrev main_v27 : Ref sig .tc := ⟨.hbm, 56, rfl⟩
abbrev main_v28 : Ref sig .tc := ⟨.hbm, 57, rfl⟩
abbrev main_c_8 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_9 : Ref sig .tc := ⟨.hbm, 66, rfl⟩
abbrev main_call3_v0 : Ref sig .tc := ⟨.hbm, 67, rfl⟩
abbrev main_call3_v1 : Ref sig .tc := ⟨.hbm, 68, rfl⟩
abbrev main_call3_v2 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call4_v0 : Ref sig .tc := ⟨.hbm, 75, rfl⟩
abbrev main_call4_cst : Ref sig .tc := ⟨.hbm, 76, rfl⟩
abbrev main_call4_c : Ref sig .tc := ⟨.hbm, 77, rfl⟩
abbrev main_call4_v1_0 : Ref sig .tc := ⟨.hbm, 78, rfl⟩
abbrev main_v41 : Ref sig .tc := ⟨.hbm, 79, rfl⟩

abbrev nD : Nat := 1
abbrev τ : Topo := Topo.v7x

variable {F : FTy → Type} [FloatOps F]
-- ==== Proof.Gather.lean ====
/-
  Several indirect gathers in flight on ONE semaphore. Each gather is a run of equal row copies, so all of them together
  are one counted batch of rows (`Transfers.Batch`): a gather issues the batch's next rows, a wait sized to one gather
  consumes that many rows' units, and the last wait hands every row back.
-/
module

public import Idealize.ShloMosaic.Lib.SparseCore.Stream
public import Idealize.ShloMosaic.Lib.Batch
public import Idealize.ShloMosaic.Lib.Tactic

@[expose] public section

noncomputable section

namespace Cert.Proof.Gather

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers Idealize.ShloMosaic.SparseCore

/-! ## The pending rows of a batch -/

section Pending

variable {M : Type} [URA M]

/-- The rows pending from `k` are the next `o` rows and those pending from `k + o`. -/
theorem pending_split {n : ℕ} (Φ : Fin n → sProp M) (k o : ℕ) (h : k + o ≤ n) :
    bigSep (pending k) Φ = iprop((bigSep Finset.univ fun j : Fin o => Φ ⟨k + j.val, by omega⟩) ∗ bigSep (pending (k + o)) Φ) := by
  classical
  let f : Fin o ↪ Fin n := ⟨fun j => ⟨k + j.val, by omega⟩, fun a b hab => by
    have := congrArg Fin.val hab; simp only at this; exact Fin.ext (by omega)⟩
  have hd : Disjoint (Finset.univ.map f) (pending (n := n) (k + o)) := by
    rw [Finset.disjoint_left]
    intro t ht hp
    obtain ⟨j, -, rfl⟩ := Finset.mem_map.mp ht
    have hp' := (Finset.mem_filter.mp hp).2
    have : k + o ≤ k + j.val := hp'
    omega
  have hu : pending (n := n) k = Finset.univ.map f ∪ pending (k + o) := by
    ext t
    simp only [pending, Finset.mem_union, Finset.mem_map, Finset.mem_filter, Finset.mem_univ, true_and]
    constructor
    · intro ht
      by_cases hl : k + o ≤ t.val
      · exact .inr hl
      · exact .inl ⟨⟨t.val - k, by omega⟩, Fin.ext (by change k + (t.val - k) = t.val; omega)⟩
    · rintro (⟨j, rfl⟩ | ht)
      · change k ≤ k + j.val; omega
      · omega
  rw [hu, BI.bigSep_union hd, BI.bigSep_map]
  rfl

end Pending

/-! ## The issue -/

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What row `j` of a gather hands back once it has landed: its row of the destination, written with the whole gather's
    payload; its entry of the list; its piece of the source's share. -/
def landedRow (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fo : Buf (Elt F) (offs.view.loc c))
    (g : Buf (Elt F) (dst.view.loc c)) (j : Fin (s.size hg.axis')) : sProp 𝕄 :=
  iprop(((dst.view.loc c ↦[(dst.view.slice (s.rowRect hg.axis' j)).set]{fullShare} g)
      ∗ (offs.view.loc c ↦[{offs.view.emb (si.rowMajor.symm (j.cast hn.symm))}]{qo} fo))
    ∗ (src.view.loc c ↦[src.view.set]{pieceOf q _ ho j} fs))

instance landedRow_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fo : Buf (Elt F) (offs.view.loc c))
    (g : Buf (Elt F) (dst.view.loc c)) (j : Fin (s.size hg.axis')) :
    Storable (upEmb : UEmb _ 𝕄) (landedRow c src dst hg offs hn ho q qo fs fo g j) := by
  unfold landedRow; infer_instance

/-- A gather's rows, all landed, are its destination, its list and its source's share. -/
theorem landedRows_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fo : Buf (Elt F) (offs.view.loc c))
    (g : Buf (Elt F) (dst.view.loc c)) :
    (bigSep Finset.univ (landedRow (Ix := Ix) (Name := Name) (U := U) (Lvl := Lvl) c src dst hg offs hn ho q qo fs fo g))
      ⊢ iprop((dst.view.loc c ↦[dst.view.set]{fullShare} g) ∗ (src.view.loc c ↦[src.view.set]{q} fs)
          ∗ (offs.view.loc c ↦[offs.view.set]{qo} fo)) := by
  have hen : Function.Bijective fun j : Fin (s.size hg.axis') => si.rowMajor.symm (j.cast hn.symm) :=
    si.rowMajor.symm.bijective.comp (finCongr hn.symm).bijective
  unfold landedRow
  iintro H
  ihave H1 := bigSep_sep_out _ _ _ $$ H
  icases H1 with ⟨H2, Hs⟩
  ihave H3 := bigSep_sep_out _ _ _ $$ H2
  icases H3 with ⟨Hd, Hl⟩
  isplitl [Hd]; · iapply (Entails.of_eq (pointsTo_rows c dst.view hg.axis' fullShare g).symm) $$ Hd
  isplitl [Hs]; · iapply (Entails.of_eq (pointsTo_piecesOf src.view.set fs ho q).symm) $$ Hs
  iapply (Entails.of_eq (pointsTo_entries c offs.view _ hen qo fo).symm) $$ Hl

/-- The issue of one gather of a batch: with `k` of the batch's `n` rows issued and none waited for, the gather issues
    rows `k …`, as many as its destination has, each landing as the batch's delivery of that row asks (`hD`). -/
theorem wp_gatherIntoBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {kk : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    {n : ℕ} {D : Fin n → sProp 𝕄} (ι : Ix) (N k : ℕ)
    (hN : ∀ j, (dst.slice (s.rowRect hg.axis' j) (s.stride_rowRect hg.axis' j)).view.dmaCredit = N)
    (ho : 0 < s.size hg.axis') (hk : k + s.size hg.axis' ≤ n)
    (hin : ∀ x, (offs.view.read (Elt F) fo x).toNat < s₀.size hg.axis)
    (hD : ∀ j : Fin (s.size hg.axis'), landedRow c src dst hg offs hn ho q qo fs fo
        (dst.view.write (Elt F) fd (gatherPayload hg (src.view.read (Elt F) fs) (rows (offs.view.read (Elt F) fo) hn hin)) Finset.univ) j
          ⊢ D ⟨k + j.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D k 0)
      ⊢ iprop((Batch EC c (.dma sem) ι N D (k + s.size hg.axis') 0 -∗ wp frame (wpE defs 𝒱 c bd) Set.univ (kk ⟨⟩) Q)
          -∗ wp frame (wpE defs 𝒱 c bd) Set.univ (enqueueIndirectGather hp src dst hg offs hn sem hsrc he hsp hr >>= kk) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let G := dst.view.write (Elt F) fd (gatherPayload hg (src.view.read (Elt F) fs) r) Finset.univ
  let rd : Fin (s.size hg.axis') → RowDma τ sig (Elt F) c.2 sem := fun j => gatherRow c src dst hg sem hsrc he hsp hr j (r j)
  let w : (j : Fin (s.size hg.axis')) → (s.rowShape hg.axis').Idx → Elt F e := fun j i => src.view.read (Elt F) fs (hg.rowIdx (r j) i)
  have hsum : ∑ j, (dst.slice (s.rowRect hg.axis' j) (s.stride_rowRect hg.axis' j)).view.dmaCredit = s.size hg.axis' * N := by
    rw [Finset.sum_congr rfl fun j _ => hN j, Finset.sum_const, Finset.card_univ, Fintype.card_fin, smul_eq_mul]
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hen : Function.Bijective S.entry := si.rowMajor.symm.bijective.comp (finCongr hn.symm).bijective
  -- a row written on its own holds, on the row, what the whole gather's payload leaves
  have hwr : ∀ j, ∀ i ∈ (dst.view.slice (s.rowRect hg.axis' j)).set,
      (dst.view.slice (s.rowRect hg.axis' j)).write (Elt F) fd (w j) Finset.univ i = G i := fun j i hi => by
    obtain ⟨x, -, rfl⟩ := Finset.mem_map.mp hi
    have h1 := View.write_emb_of_mem (Val := Elt F) (v := dst.view.slice (s.rowRect hg.axis' j)) fd (w j) (M := Finset.univ) (Finset.mem_univ x)
    have h2 := View.write_emb_of_mem (Val := Elt F) (v := dst.view) fd (gatherPayload hg (src.view.read (Elt F) fs) r) (M := Finset.univ)
      (Finset.mem_univ ((s.rowRect hg.axis' j).emb x))
    rw [h1]
    change _ = dst.view.write (Elt F) fd (gatherPayload hg (src.view.read (Elt F) fs) r) Finset.univ (dst.view.emb ((s.rowRect hg.axis' j).emb x))
    rw [h2]
    change cast _ (w j x) = cast _ (gatherPayload hg (src.view.read (Elt F) fs) r ((s.rowRect hg.axis' j).emb x))
    exact congrArg (fun z => cast _ (src.view.read (Elt F) fs z)) (Shape.Gathers.idx_rowRect_emb hg r j x).symm
  unfold Batch
  iintro ⟨Hs, Hd, Ho, ⟨%γ, %γ₀, %κ, #Hinv, HI, H0, Hcred⟩⟩ Hk
  ihave HI' := (Entails.of_eq (pending_split (fun t => count EC (γ t) 0) k (s.size hg.axis') hk)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd hsum) $$ [Hd' Ho' Hs' Hγ]
  · have hrow : ∀ j : Fin (s.size hg.axis'), iprop(inv κ (batchBody EC (c, SemLoc.dma sem) N D γ γ₀)
          ∗ ((((dst.view.loc c ↦[(dst.view.slice (s.rowRect hg.axis' j)).set]{fullShare} fd) ∗ S.heldEntry qo fo j)
          ∗ (src.view.loc c ↦[src.view.set]{pieceOf q _ ho j} fs)) ∗ count EC (γ ⟨k + j.val, by omega⟩) 0))
        ⊢ iprop(S.heldEntry qo fo j ∗ (S.heldEntry qo fo j -∗ rowRes c (rd j))) := fun j => by
      iintro ⟨#Hinv, ⟨⟨Hr, He⟩, Hsq⟩, Hγj⟩
      isplitl [He]; · iexact He
      iintro He
      unfold rowRes
      iexists pieceOf q _ ho j, fs, iprop((dst.view.loc c ↦[(dst.view.slice (s.rowRect hg.axis' j)).set]{fullShare} ((dst.view.slice (s.rowRect hg.axis' j)).write (Elt F) fd (w j) Finset.univ)) ∗ S.heldEntry qo fo j)
      isplitl [Hsq]; · iexact Hsq
      isplitl [Hr He]
      · iapply writeUpdate_frame
        isplitl [Hr]
        · iapply (pointsTo_writeUpdate c (v := dst.view.slice (s.rowRect hg.axis' j)) subset_rfl) $$ Hr
        · iexact He
      · have hland : iprop(((dst.view.loc c ↦[(dst.view.slice (s.rowRect hg.axis' j)).set]{fullShare} ((dst.view.slice (s.rowRect hg.axis' j)).write (Elt F) fd (w j) Finset.univ)) ∗ S.heldEntry qo fo j)
            ∗ (src.view.loc c ↦[src.view.set]{pieceOf q _ ho j} fs)) ⊢ D ⟨k + j.val, by omega⟩ := by
          refine Entails.trans ?_ (hD j)
          unfold landedRow
          rw [pointsTo_congr (hwr j)]
          exact .rfl
        have hc : iprop(inv κ (batchBody EC (c, SemLoc.dma sem) N D γ γ₀) ∗ count EC (γ ⟨k + j.val, by omega⟩) 0)
            ⊢ creditUpdate (c, SemLoc.dma sem) (dst.slice (s.rowRect hg.axis' j) (s.stride_rowRect hg.axis' j)).view.dmaCredit 0
              (iprop(((dst.view.loc c ↦[(dst.view.slice (s.rowRect hg.axis' j)).set]{fullShare} ((dst.view.slice (s.rowRect hg.axis' j)).write (Elt F) fd (w j) Finset.univ)) ∗ S.heldEntry qo fo j)
                ∗ (src.view.loc c ↦[src.view.set]{pieceOf q _ ho j} fs)) : sProp 𝕄) := by
          rw [hN j]
          exact batch_creditUpdate EC ⟨k + j.val, by omega⟩ hland
        iapply hc
        isplitr; · iexact Hinv
        iexact Hγj
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun j _ => hrow j)
    isplitr; · iexact Hinv
    iexact H3
  iintro Hcred'
  iapply Hk
  iexists γ, γ₀, κ
  isplitr; · iexact Hinv
  isplitl [HI]; · iexact HI
  isplitl [H0]; · iexact H0
  rw [show (k + s.size hg.axis') * N - 0 = (k * N - 0) + s.size hg.axis' * N by rw [Nat.sub_zero, Nat.sub_zero, Nat.add_mul], ← tallyAt_add]
  icombine Hcred Hcred' as H
  iexact H

end Cert.Proof.Gather

end
-- ==== Proof.Common.lean ====
/-
  The certificate's setting: the program as the SparseCore launch theorem sees it, the ghost state, the arrays' locations,
  and the values the SparseCore call computes from a table and a list of row numbers.
-/
module

public import proofs.«01_k».proof.Defs
public import proofs.«01_k».proof.Proof.Gather
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program -/

/-- The labels of the table call's pipeline. -/
abbrev ΛP : Labels := Pipeline.Sig Λ₀ (Fin 1) fun p => (pcfgs (F := F) p).Adm
/-- The one SparseCore call. -/
abbrev K : SparseCore.Cfg τ sig (ΛP (F := F)) 1 := sc (F := F)
/-- The bodies with the pipeline's. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state: the handshakes' rounds, the table call's pipeline, the copies' counters -/

abbrev UH : Type := URounds (GSem nD τ sig) ℕ
abbrev UP : Type := URounds (GSem nD τ sig) Unit
abbrev UU : Type := UH × (UP × Counters)

/-- The model of the proofs. -/
abbrev MM (F : FTy → Type) : Type := MT nD τ sig (HIx 1) (Elt F) ℕ UU ℕ

abbrev EH : Emb UH (MM F) :=
  (Emb.inl : Emb UH UU).trans (uEmb (nD := nD) (sig := sig) (Ix := HIx 1) (Val := Elt F) (Name := ℕ) (U := UU) (Lvl := ℕ)).toEmb

abbrev EP : Emb UP (MM F) :=
  (((Emb.inl : Emb UP (UP × Counters)).trans (Emb.inr : Emb (UP × Counters) UU))).trans
    (uEmb (nD := nD) (sig := sig) (Ix := HIx 1) (Val := Elt F) (Name := ℕ) (U := UU) (Lvl := ℕ)).toEmb

instance EH_landsIn : (EH : Emb UH (MM F)).LandsIn (upEmb : UEmb _ (MM F)) := by unfold EH; infer_instance
instance EP_landsIn : (EP : Emb UP (MM F)).LandsIn (upEmb : UEmb _ (MM F)) := by unfold EP; infer_instance

/-! ## The arrays of the SparseCore call, as the host's TensorCore names them -/

abbrev tLoc (d : Dev nD) : Loc nD τ sig := (SparseCore.T d).loc main_v3
abbrev iLoc (d : Dev nD) : Loc nD τ sig := (SparseCore.T d).loc main_v2_1
abbrev sLoc (d : Dev nD) : Loc nD τ sig := (SparseCore.T d).loc main_v4_0
abbrev pLoc (d : Dev nD) : Loc nD τ sig := (SparseCore.T d).loc main_v4_1

/-! ## What the SparseCore call computes -/

section Values

variable [FloatOps F]

/-- Entry `c` of the table's row `w`. -/
def entry (tab : Vec F S20488x16 .f32) (w : BitVec 32) (c : Fin 16) : F .f32 :=
  tab (ix2 ⟨w.toNat % 20488, Nat.mod_lt _ (by decide)⟩ c)

/-- A tile's 640 gathered rows. -/
def rowsOf (tab : Vec F S20488x16 .f32) (w : IVec S640 32) : Vec F S640x16 .f32 :=
  fun x => entry tab (w (ix1 (x 0))) (x 1)

/-- The nine scores of each of a tile's rows, one row after the other. -/
def scoresOf (r : Vec F S640x16 .f32) : Vec F S5760 .f32 :=
  fun y => r (ix2 ⟨(y 0).val / 9, by have : (y 0).val < 5760 := (y 0).isLt; omega⟩ ⟨(y 0).val % 9, by omega⟩)

/-- The class number in each of a tile's rows, as a word. -/
def predsOf (r : Vec F S640x16 .f32) : IVec S640 32 :=
  fun y => FloatOps.fptosi 32 (r (ix2 (y 0) ⟨9, by omega⟩))

/-- The call's scores: nine to each of 5120 list entries of a batch. -/
def scoresOut (tab : Vec F S20488x16 .f32) (idx : IVec S4x5120 32) : Vec F S4x46080 .f32 :=
  fun y => entry tab (idx (ix2 (y 0) ⟨(y 1).val / 9, by have : (y 1).val < 46080 := (y 1).isLt; omega⟩)) ⟨(y 1).val % 9, by omega⟩

/-- The call's class numbers. -/
def predsOut (tab : Vec F S20488x16 .f32) (idx : IVec S4x5120 32) : IVec S4x5120 32 :=
  fun y => FloatOps.fptosi 32 (entry tab (idx y) ⟨9, by omega⟩)

end Values

end Cert.Proof.Run

end
-- ==== Proof.Table.lean ====
module

public import proofs.«01_k».proof.Proof.Common

/-! The table of scores in closed form: what each block of rows holds, and that
the five stores of the table's body write these blocks. -/

@[expose] public section
noncomputable section

namespace Cert.Proof.Run

open Cert.KernelIdeal Cert.KernelIdeal.Gen
open Idealize.ShloMosaic

variable {F : FTy → Type} [FloatOps F]

/-- The features moved up by `k` rows, the last row standing in past the end. -/
def shifted (e : FVec F S512x256 .f32) : ℕ → FVec F S512x256 .f32
  | 1 => concatenate S512x256 0 [⟨S511x256, extractStridedSlice S511x256 ![1, 0] e slices_S512x256_o1_0_S511x256⟩, ⟨S1x256, extractStridedSlice S1x256 ![511, 0] e slices_S512x256_o511_0_S1x256⟩] concatenates_S511x256_S1x256_S512x256_d0
  | 2 => concatenate S512x256 0 [⟨S510x256, extractStridedSlice S510x256 ![2, 0] e slices_S512x256_o2_0_S510x256⟩, ⟨S2x256, broadcastTo S2x256 (shapeCast S1x256 (extractStridedSlice S1x256 ![511, 0] e slices_S512x256_o511_0_S1x256) shapeCasts_S1x256_S1x256) broadcasts_S1x256_S2x256⟩] concatenates_S510x256_S2x256_S512x256_d0
  | 3 => concatenate S512x256 0 [⟨S509x256, extractStridedSlice S509x256 ![3, 0] e slices_S512x256_o3_0_S509x256⟩, ⟨S3x256, broadcastTo S3x256 (shapeCast S1x256 (extractStridedSlice S1x256 ![511, 0] e slices_S512x256_o511_0_S1x256) shapeCasts_S1x256_S1x256) broadcasts_S1x256_S3x256⟩] concatenates_S509x256_S3x256_S512x256_d0
  | 4 => concatenate S512x256 0 [⟨S508x256, extractStridedSlice S508x256 ![4, 0] e slices_S512x256_o4_0_S508x256⟩, ⟨S4x256, broadcastTo S4x256 (shapeCast S1x256 (extractStridedSlice S1x256 ![511, 0] e slices_S512x256_o511_0_S1x256) shapeCasts_S1x256_S1x256) broadcasts_S1x256_S4x256⟩] concatenates_S508x256_S4x256_S512x256_d0
  | 5 => concatenate S512x256 0 [⟨S507x256, extractStridedSlice S507x256 ![5, 0] e slices_S512x256_o5_0_S507x256⟩, ⟨S5x256, broadcastTo S5x256 (shapeCast S1x256 (extractStridedSlice S1x256 ![511, 0] e slices_S512x256_o511_0_S1x256) shapeCasts_S1x256_S1x256) broadcasts_S1x256_S5x256⟩] concatenates_S507x256_S5x256_S512x256_d0
  | 6 => concatenate S512x256 0 [⟨S506x256, extractStridedSlice S506x256 ![6, 0] e slices_S512x256_o6_0_S506x256⟩, ⟨S6x256, broadcastTo S6x256 (shapeCast S1x256 (extractStridedSlice S1x256 ![511, 0] e slices_S512x256_o511_0_S1x256) shapeCasts_S1x256_S1x256) broadcasts_S1x256_S6x256⟩] concatenates_S506x256_S6x256_S512x256_d0
  | 7 => concatenate S512x256 0 [⟨S505x256, extractStridedSlice S505x256 ![7, 0] e slices_S512x256_o7_0_S505x256⟩, ⟨S7x256, broadcastTo S7x256 (shapeCast S1x256 (extractStridedSlice S1x256 ![511, 0] e slices_S512x256_o511_0_S1x256) shapeCasts_S1x256_S1x256) broadcasts_S1x256_S7x256⟩] concatenates_S505x256_S7x256_S512x256_d0
  | 8 => concatenate S512x256 0 [⟨S504x256, extractStridedSlice S504x256 ![8, 0] e slices_S512x256_o8_0_S504x256⟩, ⟨S8x256, broadcastTo S8x256 (shapeCast S1x256 (extractStridedSlice S1x256 ![511, 0] e slices_S512x256_o511_0_S1x256) shapeCasts_S1x256_S1x256) broadcasts_S1x256_S8x256⟩] concatenates_S504x256_S8x256_S512x256_d0
  | 9 => concatenate S512x256 0 [⟨S503x256, extractStridedSlice S503x256 ![9, 0] e slices_S512x256_o9_0_S503x256⟩, ⟨S9x256, broadcastTo S9x256 (shapeCast S1x256 (extractStridedSlice S1x256 ![511, 0] e slices_S512x256_o511_0_S1x256) shapeCasts_S1x256_S1x256) broadcasts_S1x256_S9x256⟩] concatenates_S503x256_S9x256_S512x256_d0
  | _ => e

/-- The running maximum over the first `k + 1` shifts. -/
def runMax (e : FVec F S512x256 .f32) : ℕ → FVec F S512x256 .f32
  | 0 => e
  | k + 1 => maximumf (runMax e k) (shifted e (k + 1))

/-- The row of the length's part of the scores. -/
def lenRow (lenb : FVec F S10x9 .f32) : ℕ → FVec F S1x9 .f32
  | 0 => extractStridedSlice S1x9 ![0, 0] lenb slices_S10x9_o0_0_S1x9
  | 1 => extractStridedSlice S1x9 ![1, 0] lenb slices_S10x9_o1_0_S1x9
  | 2 => extractStridedSlice S1x9 ![2, 0] lenb slices_S10x9_o2_0_S1x9
  | 3 => extractStridedSlice S1x9 ![3, 0] lenb slices_S10x9_o3_0_S1x9
  | 4 => extractStridedSlice S1x9 ![4, 0] lenb slices_S10x9_o4_0_S1x9
  | 5 => extractStridedSlice S1x9 ![5, 0] lenb slices_S10x9_o5_0_S1x9
  | 6 => extractStridedSlice S1x9 ![6, 0] lenb slices_S10x9_o6_0_S1x9
  | 7 => extractStridedSlice S1x9 ![7, 0] lenb slices_S10x9_o7_0_S1x9
  | 8 => extractStridedSlice S1x9 ![8, 0] lenb slices_S10x9_o8_0_S1x9
  | 9 => extractStridedSlice S1x9 ![9, 0] lenb slices_S10x9_o9_0_S1x9
  | _ => extractStridedSlice S1x9 ![0, 0] lenb slices_S10x9_o0_0_S1x9

/-- The scores of all starts at length `k`. -/
def scoresAtLen (w : FVec F S256x9 .bf16) (b : FVec F S1x9 .f32) (lenb : FVec F S10x9 .f32)
    (e : FVec F S512x256 .f32) (k : ℕ) : FVec F S512x9 .f32 :=
  addf (addf (matmul dot_S512x256_S256x9_S512x9_1_0_0_1_n_n none (truncf .bf16 (runMax e k) bitsLt_bf16_f32) w
      (constant S512x9 .f32 0))
    (broadcastTo S512x9 (lenRow lenb k) broadcasts_S1x9_S512x9))
    (broadcastTo S512x9 b broadcasts_S1x9_S512x9)

/-- The lane of the first largest score, as a column of words. -/
def firstLane (sc : FVec F S512x9 .f32) : IVec S512x1 32 :=
  shapeCast S512x1 (multiReductionI .minsi [1] S512
    (select (cmpf .oeq sc (broadcastTo S512x9 (shapeCast S512x1
        (multiReduction .maximumf [1] S512 sc 0xFF800000#32 reduces_S512x9_S512 (.inl rfl) rfl)
        shapeCasts_S512_S512x1) broadcasts_S512x1_S512x9))
      (iota .tc S512x9 32 [1] iota_S512x9_d1_w32) (broadcast S512x9 9#32))
    2147483647#32 reduces_S512x9_S512 rfl) shapeCasts_S512_S512x1

/-- Scores, the lane of the largest, and six zeros. -/
def padRow (sc : FVec F S512x9 .f32) : FVec F S512x16 .f32 :=
  concatenate S512x16 1 [⟨S512x9, sc⟩, ⟨S512x1, sitofp .f32 (firstLane sc)⟩,
    ⟨S512x6, broadcast S512x6 (Scalar.ofBits .f32 0x00000000#32)⟩] concatenates_S512x9_S512x1_S512x6_S512x16_d1

/-- The rows of one sequence at length `k`. -/
def block (w : FVec F S256x9 .bf16) (b : FVec F S1x9 .f32) (lenb : FVec F S10x9 .f32)
    (e : FVec F S512x256 .f32) (k : ℕ) : FVec F S512x16 .f32 :=
  padRow (scoresAtLen w b lenb e k)

/-- Eight blocks side by side. -/
def eight (b0 b1 b2 b3 b4 b5 b6 b7 : FVec F S512x16 .f32) : FVec F S512x128 .f32 :=
  concatenate S512x128 1 [⟨S512x16, b0⟩, ⟨S512x16, b1⟩, ⟨S512x16, b2⟩, ⟨S512x16, b3⟩, ⟨S512x16, b4⟩, ⟨S512x16, b5⟩, ⟨S512x16, b6⟩, ⟨S512x16, b7⟩] concatenates_S512x16_S512x16_S512x16_S512x16_S512x16_S512x16_S512x16_S512x16_S512x128_d1

/-- The same for one row: the scores of an absent span. -/
def firstLane1 (sc : FVec F S1x9 .f32) : IVec S1x1 32 :=
  shapeCast S1x1 (multiReductionI .minsi [1] S1
    (select (cmpf .oeq sc (broadcastTo S1x9 (shapeCast S1x1
        (multiReduction .maximumf [1] S1 sc 0xFF800000#32 reduces_S1x9_S1 (.inl rfl) rfl)
        shapeCasts_S1_S1x1) broadcasts_S1x1_S1x9))
      (iota .tc S1x9 32 [1] iota_S1x9_d1_w32) (broadcast S1x9 9#32))
    2147483647#32 reduces_S1x9_S1 rfl) shapeCasts_S1_S1x1

def padRow1 (sc : FVec F S1x9 .f32) : FVec F S1x16 .f32 :=
  concatenate S1x16 1 [⟨S1x9, sc⟩, ⟨S1x1, sitofp .f32 (firstLane1 sc)⟩,
    ⟨S1x6, broadcast S1x6 (Scalar.ofBits .f32 0x00000000#32)⟩] concatenates_S1x9_S1x1_S1x6_S1x16_d1

def eight1 (b : FVec F S1x16 .f32) : FVec F S1x128 .f32 :=
  concatenate S1x128 1 [⟨S1x16, b⟩, ⟨S1x16, b⟩, ⟨S1x16, b⟩, ⟨S1x16, b⟩, ⟨S1x16, b⟩, ⟨S1x16, b⟩, ⟨S1x16, b⟩, ⟨S1x16, b⟩] concatenates_S1x16_S1x16_S1x16_S1x16_S1x16_S1x16_S1x16_S1x16_S1x128_d1

theorem absent_eq (v5 : Vec F S1x9 .f32) : k0_pay104 (k0_pay4 v5) = eight1 (padRow1 (k0_pay4 v5)) := rfl

/-- What the store of group 0 writes, from what the body loads. -/
def stored0 (v0 : Vec F S281x9 .f32) (v5 : Vec F S1x9 .f32) (v7 : Vec F S10x25 .f32) (v10 : Vec F S1x512x256 .f32) : FVec F S512x128 .f32 :=
  let v30 := k0_pay7 v0 v5 v7 v10
  let v41 := k0_pay9 v0 v5 v7 v10
  let v42 := iota .tc S512x9 32 [1] iota_S512x9_d1_w32
  let v53 := k0_pay10 v41 v42
  let v2 := k0_pay3 v0
  let v6 := k0_pay4 v5
  let v9 := k0_pay5 v0 v7
  let v11 := k0_pay6 v10
  let v34 := k0_pay8 v10
  let v78 := k0_pay12 v2 v6 v9 v11 v34
  let v91 := k0_pay14 v2 v6 v9 v11 v34
  let v92 := iota .tc S512x9 32 [1] iota_S512x9_d1_w32
  let v103 := k0_pay15 v91 v92
  let v84 := k0_pay13 v11 v34
  let v128 := k0_pay17 v2 v6 v9 v11 v84
  let v141 := k0_pay19 v2 v6 v9 v11 v84
  let v142 := iota .tc S512x9 32 [1] iota_S512x9_d1_w32
  let v153 := k0_pay20 v141 v142
  let v134 := k0_pay18 v11 v84
  let v178 := k0_pay22 v2 v6 v9 v11 v134
  let v191 := k0_pay24 v2 v6 v9 v11 v134
  let v192 := iota .tc S512x9 32 [1] iota_S512x9_d1_w32
  k0_pay25 v30 v53 v78 v103 v128 v153 v178 v191 v192

set_option maxRecDepth 100000 in
set_option maxHeartbeats 4000000 in
theorem stored0_eq (v0 : Vec F S281x9 .f32) (v5 : Vec F S1x9 .f32) (v7 : Vec F S10x25 .f32) (v10 : Vec F S1x512x256 .f32) :
    stored0 v0 v5 v7 v10 = eight (block (k0_pay3 v0) (k0_pay4 v5) (k0_pay5 v0 v7) (k0_pay6 v10) 0)
      (block (k0_pay3 v0) (k0_pay4 v5) (k0_pay5 v0 v7) (k0_pay6 v10) 1)
      (block (k0_pay3 v0) (k0_pay4 v5) (k0_pay5 v0 v7) (k0_pay6 v10) 2)
      (block (k0_pay3 v0) (k0_pay4 v5) (k0_pay5 v0 v7) (k0_pay6 v10) 3)
      (block (k0_pay3 v0) (k0_pay4 v5) (k0_pay5 v0 v7) (k0_pay6 v10) 4)
      (block (k0_pay3 v0) (k0_pay4 v5) (k0_pay5 v0 v7) (k0_pay6 v10) 5)
      (block (k0_pay3 v0) (k0_pay4 v5) (k0_pay5 v0 v7) (k0_pay6 v10) 6)
      (block (k0_pay3 v0) (k0_pay4 v5) (k0_pay5 v0 v7) (k0_pay6 v10) 7) := rfl

/-- What the store of group 1 writes, from what the body loads. -/
def stored1 (v0 : Vec F S281x9 .f32) (v5 : Vec F S1x9 .f32) (v7 : Vec F S10x25 .f32) (v10 : Vec F S1x512x256 .f32) (v256 : Vec F S1x512x256 .f32) : FVec F S512x128 .f32 :=
  let v2 := k0_pay3 v0
  let v6 := k0_pay4 v5
  let v9 := k0_pay5 v0 v7
  let v11 := k0_pay6 v10
  let v34 := k0_pay8 v10
  let v84 := k0_pay13 v11 v34
  let v134 := k0_pay18 v11 v84
  let v184 := k0_pay23 v11 v134
  let v230 := k0_pay27 v2 v6 v9 v11 v184
  let v238 := k0_pay28 v2 v11 v184
  let v240 := k0_pay29 v9
  let v255 := k0_pay30 v6 v238 v240
  let v276 := k0_pay32 v2 v6 v9 v256
  let v287 := k0_pay34 v2 v6 v9 v256
  let v299 := k0_pay35 v287
  let v257 := k0_pay31 v256
  let v280 := k0_pay33 v256
  let v324 := k0_pay37 v2 v6 v9 v257 v280
  let v337 := k0_pay39 v2 v6 v9 v257 v280
  let v349 := k0_pay40 v337
  let v330 := k0_pay38 v257 v280
  let v374 := k0_pay42 v2 v6 v9 v257 v330
  let v387 := k0_pay44 v2 v6 v9 v257 v330
  k0_pay45 v230 v255 v276 v299 v324 v349 v374 v387

set_option maxRecDepth 100000 in
set_option maxHeartbeats 4000000 in
theorem stored1_eq (v0 : Vec F S281x9 .f32) (v5 : Vec F S1x9 .f32) (v7 : Vec F S10x25 .f32) (v10 : Vec F S1x512x256 .f32) (v256 : Vec F S1x512x256 .f32) :
    stored1 v0 v5 v7 v10 v256 = eight (block (k0_pay3 v0) (k0_pay4 v5) (k0_pay5 v0 v7) (k0_pay6 v10) 8)
      (block (k0_pay3 v0) (k0_pay4 v5) (k0_pay5 v0 v7) (k0_pay6 v10) 9)
      (block (k0_pay3 v0) (k0_pay4 v5) (k0_pay5 v0 v7) (k0_pay6 v256) 0)
      (block (k0_pay3 v0) (k0_pay4 v5) (k0_pay5 v0 v7) (k0_pay6 v256) 1)
      (block (k0_pay3 v0) (k0_pay4 v5) (k0_pay5 v0 v7) (k0_pay6 v256) 2)
      (block (k0_pay3 v0) (k0_pay4 v5) (k0_pay5 v0 v7) (k0_pay6 v256) 3)
      (block (k0_pay3 v0) (k0_pay4 v5) (k0_pay5 v0 v7) (k0_pay6 v256) 4)
      (block (k0_pay3 v0) (k0_pay4 v5) (k0_pay5 v0 v7) (k0_pay6 v256) 5) := rfl

/-- What the store of group 2 writes, from what the body loads. -/
def stored2 (v0 : Vec F S281x9 .f32) (v5 : Vec F S1x9 .f32) (v7 : Vec F S10x25 .f32) (v256 : Vec F S1x512x256 .f32) (v502 : Vec F S1x512x256 .f32) : FVec F S512x128 .f32 :=
  let v6 := k0_pay4 v5
  let v2 := k0_pay3 v0
  let v9 := k0_pay5 v0 v7
  let v257 := k0_pay31 v256
  let v280 := k0_pay33 v256
  let v330 := k0_pay38 v257 v280
  let v380 := k0_pay43 v257 v330
  let v426 := k0_pay47 v2 v6 v9 v257 v380
  let v434 := k0_pay49 v2 v257 v380
  let v451 := k0_pay50 v6 v9 v434
  let v432 := k0_pay48 v257 v380
  let v476 := k0_pay52 v2 v6 v9 v257 v432
  let v484 := k0_pay53 v2 v257 v432
  let v501 := k0_pay54 v6 v9 v484
  let v522 := k0_pay56 v2 v6 v9 v502
  let v531 := k0_pay58 v2 v9 v502
  let v545 := k0_pay59 v6 v531
  let v503 := k0_pay55 v502
  let v526 := k0_pay57 v502
  let v570 := k0_pay61 v2 v6 v9 v503 v526
  let v581 := k0_pay63 v2 v9 v503 v526
  k0_pay64 v6 v426 v451 v476 v501 v522 v545 v570 v581

set_option maxRecDepth 100000 in
set_option maxHeartbeats 4000000 in
theorem stored2_eq (v0 : Vec F S281x9 .f32) (v5 : Vec F S1x9 .f32) (v7 : Vec F S10x25 .f32) (v256 : Vec F S1x512x256 .f32) (v502 : Vec F S1x512x256 .f32) :
    stored2 v0 v5 v7 v256 v502 = eight (block (k0_pay3 v0) (k0_pay4 v5) (k0_pay5 v0 v7) (k0_pay6 v256) 6)
      (block (k0_pay3 v0) (k0_pay4 v5) (k0_pay5 v0 v7) (k0_pay6 v256) 7)
      (block (k0_pay3 v0) (k0_pay4 v5) (k0_pay5 v0 v7) (k0_pay6 v256) 8)
      (block (k0_pay3 v0) (k0_pay4 v5) (k0_pay5 v0 v7) (k0_pay6 v256) 9)
      (block (k0_pay3 v0) (k0_pay4 v5) (k0_pay5 v0 v7) (k0_pay6 v502) 0)
      (block (k0_pay3 v0) (k0_pay4 v5) (k0_pay5 v0 v7) (k0_pay6 v502) 1)
      (block (k0_pay3 v0) (k0_pay4 v5) (k0_pay5 v0 v7) (k0_pay6 v502) 2)
      (block (k0_pay3 v0) (k0_pay4 v5) (k0_pay5 v0 v7) (k0_pay6 v502) 3) := rfl

/-- What the store of group 3 writes, from what the body loads. -/
def stored3 (v0 : Vec F S281x9 .f32) (v5 : Vec F S1x9 .f32) (v7 : Vec F S10x25 .f32) (v502 : Vec F S1x512x256 .f32) (v748 : Vec F S1x512x256 .f32) : FVec F S512x128 .f32 :=
  let v6 := k0_pay4 v5
  let v2 := k0_pay3 v0
  let v9 := k0_pay5 v0 v7
  let v503 := k0_pay55 v502
  let v526 := k0_pay57 v502
  let v576 := k0_pay62 v503 v526
  let v622 := k0_pay66 v2 v6 v9 v503 v576
  let v629 := k0_pay68 v503 v576
  let v647 := k0_pay69 v2 v6 v9 v629
  let v628 := k0_pay67 v503 v576
  let v672 := k0_pay71 v2 v6 v9 v503 v628
  let v679 := k0_pay73 v503 v628
  let v697 := k0_pay74 v2 v6 v9 v679
  let v678 := k0_pay72 v503 v628
  let v722 := k0_pay76 v2 v6 v9 v503 v678
  let v729 := k0_pay77 v503 v678
  let v747 := k0_pay78 v2 v6 v9 v729
  let v768 := k0_pay80 v2 v6 v9 v748
  let v774 := k0_pay82 v2 v748
  let v775 := k0_pay83 v9
  k0_pay84 v6 v622 v647 v672 v697 v722 v747 v768 v774 v775

set_option maxRecDepth 100000 in
set_option maxHeartbeats 4000000 in
theorem stored3_eq (v0 : Vec F S281x9 .f32) (v5 : Vec F S1x9 .f32) (v7 : Vec F S10x25 .f32) (v502 : Vec F S1x512x256 .f32) (v748 : Vec F S1x512x256 .f32) :
    stored3 v0 v5 v7 v502 v748 = eight (block (k0_pay3 v0) (k0_pay4 v5) (k0_pay5 v0 v7) (k0_pay6 v502) 4)
      (block (k0_pay3 v0) (k0_pay4 v5) (k0_pay5 v0 v7) (k0_pay6 v502) 5)
      (block (k0_pay3 v0) (k0_pay4 v5) (k0_pay5 v0 v7) (k0_pay6 v502) 6)
      (block (k0_pay3 v0) (k0_pay4 v5) (k0_pay5 v0 v7) (k0_pay6 v502) 7)
      (block (k0_pay3 v0) (k0_pay4 v5) (k0_pay5 v0 v7) (k0_pay6 v502) 8)
      (block (k0_pay3 v0) (k0_pay4 v5) (k0_pay5 v0 v7) (k0_pay6 v502) 9)
      (block (k0_pay3 v0) (k0_pay4 v5) (k0_pay5 v0 v7) (k0_pay6 v748) 0)
      (block (k0_pay3 v0) (k0_pay4 v5) (k0_pay5 v0 v7) (k0_pay6 v748) 1) := rfl

/-- What the store of group 4 writes, from what the body loads. -/
def stored4 (v0 : Vec F S281x9 .f32) (v5 : Vec F S1x9 .f32) (v7 : Vec F S10x25 .f32) (v748 : Vec F S1x512x256 .f32) : FVec F S512x128 .f32 :=
  let v2 := k0_pay3 v0
  let v6 := k0_pay4 v5
  let v9 := k0_pay5 v0 v7
  let v749 := k0_pay79 v748
  let v772 := k0_pay81 v748
  let v818 := k0_pay86 v2 v6 v9 v749 v772
  let v799 := k0_pay85 v749 v772
  let v823 := k0_pay87 v749
  let v843 := k0_pay89 v2 v6 v9 v799 v823
  let v868 := k0_pay91 v2 v6 v9 v749 v799 v823
  let v849 := k0_pay90 v749 v799 v823
  let v873 := k0_pay92 v749
  let v893 := k0_pay94 v2 v6 v9 v849 v873
  let v918 := k0_pay96 v2 v6 v9 v749 v849 v873
  let v899 := k0_pay95 v749 v849 v873
  let v923 := k0_pay97 v749
  let v943 := k0_pay99 v2 v6 v9 v899 v923
  let v949 := k0_pay100 v749 v899 v923
  let v968 := k0_pay101 v2 v6 v9 v749 v899 v923
  let v973 := k0_pay102 v749
  k0_pay103 v2 v6 v9 v818 v843 v868 v893 v918 v943 v949 v968 v973

set_option maxRecDepth 100000 in
set_option maxHeartbeats 4000000 in
theorem stored4_eq (v0 : Vec F S281x9 .f32) (v5 : Vec F S1x9 .f32) (v7 : Vec F S10x25 .f32) (v748 : Vec F S1x512x256 .f32) :
    stored4 v0 v5 v7 v748 = eight (block (k0_pay3 v0) (k0_pay4 v5) (k0_pay5 v0 v7) (k0_pay6 v748) 2)
      (block (k0_pay3 v0) (k0_pay4 v5) (k0_pay5 v0 v7) (k0_pay6 v748) 3)
      (block (k0_pay3 v0) (k0_pay4 v5) (k0_pay5 v0 v7) (k0_pay6 v748) 4)
      (block (k0_pay3 v0) (k0_pay4 v5) (k0_pay5 v0 v7) (k0_pay6 v748) 5)
      (block (k0_pay3 v0) (k0_pay4 v5) (k0_pay5 v0 v7) (k0_pay6 v748) 6)
      (block (k0_pay3 v0) (k0_pay4 v5) (k0_pay5 v0 v7) (k0_pay6 v748) 7)
      (block (k0_pay3 v0) (k0_pay4 v5) (k0_pay5 v0 v7) (k0_pay6 v748) 8)
      (block (k0_pay3 v0) (k0_pay4 v5) (k0_pay5 v0 v7) (k0_pay6 v748) 9) := rfl

end Cert.Proof.Run
end
-- ==== Proof.TableRun.lean ====
module

public import proofs.«01_k».proof.Proof.Table
public import proofs.«01_k».proof.Proof.Gen.KernelIdeal.Skeleton
public import Idealize.ShloMosaic.Lib.Tactic

/-! The body of the table call, run on nine staging buffers. -/

@[expose] public section
noncomputable section

namespace Cert.Proof.Run

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MM F

/-- What a buffer of the core holds. -/
abbrev Held (c : Dev nD) {sp : Space} {s : Shape} {e : EltTy} (m : Memref sig .tc sp s e) : Type :=
  Buf (Elt F) (m.view.loc (c : Thread nD τ))
/-- The buffer, whole, at `f`. -/
abbrev holds (c : Dev nD) {sp : Space} {s : Shape} {e : EltTy} (m : Memref sig .tc sp s e) (f : Held (F := F) c m) : sProp 𝕄 :=
  m.view.loc (c : Thread nD τ) ↦{fullShare} f

/-- From the nine staging buffers the body returns, its inputs kept. -/
def tableRun (c : Dev nD) (M0 : Memref sig .tc .vmem S4x512x256 .f32) (h0 : M0.IsWhole) (M1 : Memref sig .tc .vmem S10x25 .f32) (h1 : M1.IsWhole) (M2 : Memref sig .tc .vmem S281x9 .f32) (h2 : M2.IsWhole) (M3 : Memref sig .tc .vmem S1x9 .f32) (h3 : M3.IsWhole) (M4 : Memref sig .tc .vmem S4x5075 .i32) (h4 : M4.IsWhole) (M5 : Memref sig .tc .vmem S4x5075 .i32) (h5 : M5.IsWhole) (M6 : Memref sig .tc .vmem S4x5075 .i32) (h6 : M6.IsWhole) (M7 : Memref sig .tc .vmem S2561x128 .f32) (h7 : M7.IsWhole) (M8 : Memref sig .tc .vmem S4x5120 .i32) (h8 : M8.IsWhole) (f0 : Held (F := F) c M0) (f1 : Held (F := F) c M1) (f2 : Held (F := F) c M2) (f3 : Held (F := F) c M3) (f4 : Held (F := F) c M4) (f5 : Held (F := F) c M5) (f6 : Held (F := F) c M6) (f7 : Held (F := F) c M7) (f8 : Held (F := F) c M8) :
    { W : Held (F := F) c M7 × Held (F := F) c M8 // ∀ (E : Set ℕ) (Q : PUnit → sProp 𝕄),
      iprop(holds c M0 f0 ∗ holds c M1 f1 ∗ holds c M2 f2 ∗ holds c M3 f3 ∗ holds c M4 f4 ∗ holds c M5 f5 ∗ holds c M6 f6 ∗ holds c M7 f7 ∗ holds c M8 f8 ∗ (iprop(holds c M0 f0 ∗ holds c M1 f1 ∗ holds c M2 f2 ∗ holds c M3 f3 ∗ holds c M4 f4 ∗ holds c M5 f5 ∗ holds c M6 f6 ∗ holds c M7 W.1 ∗ holds c M8 W.2) -∗ Q ⟨⟩))
        ⊢ wp frame (wpE (defs₀ (F := F)) Variants.none (c : Thread nD τ) none) E (cc0__table_body M0 h0 M1 h1 M2 h2 M3 h3 M4 h4 M5 h5 M6 h6 M7 h7 M8 h8) Q } := by
  refine ⟨⟨?_, ?_⟩, fun E Q => ?run⟩
  case run =>
    rw [cc0__table_body_eq_skeleton]
    unfold cc0__table_body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
    simp only [bind_assoc, pure_bind]
    iintro ⟨H0, H1, H2, H3, H4, H5, H6, H7, H8, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.Proof.Run
end
-- ==== Proof.TableVal.lean ====
module

public import proofs.«01_k».proof.Proof.TableRun
public import Idealize.ShloMosaic.Lib.VecWindow
public import Idealize.ShloMosaic.Lib.ValueIdx

/-! What the table call's body leaves: the table and the list of rows, as functions
of the arrays it reads. -/

@[expose] public section
noncomputable section

namespace Cert.Proof.Run

open Cert.KernelIdeal Cert.KernelIdeal.Gen
open Idealize.ShloMosaic
open Idealize.ShloMosaic.ValueIdx (ix1 ix2 ix3 eq_ix1 eq_ix2)

variable {F : FTy → Type} [FloatOps F]

/-- One sequence of the batch, as the body loads it. -/
def slab (enc : Vec F S4x512x256 .f32) (i : Fin 4) : Vec F S1x512x256 .f32 :=
  fun x => enc (ix3 i (x 1) (x 2))

/-- The block of sequence `n / 10` at length `n % 10`. -/
def blockN (enc : Vec F S4x512x256 .f32) (lenb : Vec F S10x25 .f32) (w : Vec F S281x9 .f32) (b : Vec F S1x9 .f32) (n : ℕ) :
    FVec F S512x16 .f32 :=
  block (k0_pay3 w) (k0_pay4 b) (k0_pay5 w lenb) (k0_pay6 (slab enc ⟨n / 10 % 4, Nat.mod_lt _ (by decide)⟩)) (n % 10)

/-- Eight blocks in a row. -/
def groupN (enc : Vec F S4x512x256 .f32) (lenb : Vec F S10x25 .f32) (w : Vec F S281x9 .f32) (b : Vec F S1x9 .f32) (g : ℕ) :
    FVec F S512x128 .f32 :=
  eight (blockN enc lenb w b (8 * g)) (blockN enc lenb w b (8 * g + 1)) (blockN enc lenb w b (8 * g + 2))
    (blockN enc lenb w b (8 * g + 3)) (blockN enc lenb w b (8 * g + 4)) (blockN enc lenb w b (8 * g + 5))
    (blockN enc lenb w b (8 * g + 6)) (blockN enc lenb w b (8 * g + 7))

/-- The table: five groups of 512 rows, and the row of an absent span. -/
def tableVal (enc : Vec F S4x512x256 .f32) (lenb : Vec F S10x25 .f32) (w : Vec F S281x9 .f32) (b : Vec F S1x9 .f32) :
    Vec F S2561x128 .f32 :=
  fun y => if (y 0).val < 2560 then groupN enc lenb w b ((y 0).val / 512) (ix2 ⟨(y 0).val % 512, Nat.mod_lt _ (by decide)⟩ (y 1))
    else eight1 (padRow1 (k0_pay4 b)) (ix2 0 (y 1))

/-- The rows the spans read, the padding at the absent one. -/
def idxVal (s e v : IVec S4x5075 32) : IVec S4x5120 32 :=
  fun y => if h : (y 1).val < 5075 then
      k0_pay1 (k0_pay105 (F := F) v) (k0_pay106 (F := F) s e) (k0_pay107 (F := F) s e) k0_pay108 (ix2 (y 0) ⟨(y 1).val, h⟩)
    else 20480#32

set_option maxRecDepth 100000 in
theorem stored_pieces (c : Dev nD) (M0 : Memref sig .tc .vmem S4x512x256 .f32) (M1 : Memref sig .tc .vmem S10x25 .f32) (M2 : Memref sig .tc .vmem S281x9 .f32) (M3 : Memref sig .tc .vmem S1x9 .f32) (f0 : Held (F := F) c M0) (f1 : Held (F := F) c M1) (f2 : Held (F := F) c M2) (f3 : Held (F := F) c M3) :
    tableRun.sl.H7_6 c M0 M1 M2 M3 f0 f1 f2 f3 =
      [⟨Rect.unit (s := S2561x128) ![2560, 0] ![1, 128] inb_S2561x128_S1x128_2560_0, k0_pay104 (k0_pay4 (View.readAt (Elt F) M3.view (Rect.unit (s := S1x9) ![0, 0] S1x9.size inb_S1x9_S1x9_0_0).toLoadRect f3))⟩,
       ⟨Rect.unit (s := S2561x128) ![2048, 0] ![512, 128] inb_S2561x128_S512x128_2048_0, stored4 (View.readAt (Elt F) M2.view (Rect.unit (s := S281x9) ![0, 0] S281x9.size inb_S281x9_S281x9_0_0).toLoadRect f2) (View.readAt (Elt F) M3.view (Rect.unit (s := S1x9) ![0, 0] S1x9.size inb_S1x9_S1x9_0_0).toLoadRect f3) (View.readAt (Elt F) M1.view (Rect.unit (s := S10x25) ![0, 0] S10x25.size inb_S10x25_S10x25_0_0).toLoadRect f1) (View.readAt (Elt F) M0.view (Rect.unit (s := S4x512x256) ![3, 0, 0] S1x512x256.size inb_S4x512x256_S1x512x256_3_0_0).toLoadRect f0)⟩,
       ⟨Rect.unit (s := S2561x128) ![1536, 0] ![512, 128] inb_S2561x128_S512x128_1536_0, stored3 (View.readAt (Elt F) M2.view (Rect.unit (s := S281x9) ![0, 0] S281x9.size inb_S281x9_S281x9_0_0).toLoadRect f2) (View.readAt (Elt F) M3.view (Rect.unit (s := S1x9) ![0, 0] S1x9.size inb_S1x9_S1x9_0_0).toLoadRect f3) (View.readAt (Elt F) M1.view (Rect.unit (s := S10x25) ![0, 0] S10x25.size inb_S10x25_S10x25_0_0).toLoadRect f1) (View.readAt (Elt F) M0.view (Rect.unit (s := S4x512x256) ![2, 0, 0] S1x512x256.size inb_S4x512x256_S1x512x256_2_0_0).toLoadRect f0) (View.readAt (Elt F) M0.view (Rect.unit (s := S4x512x256) ![3, 0, 0] S1x512x256.size inb_S4x512x256_S1x512x256_3_0_0).toLoadRect f0)⟩,
       ⟨Rect.unit (s := S2561x128) ![1024, 0] ![512, 128] inb_S2561x128_S512x128_1024_0, stored2 (View.readAt (Elt F) M2.view (Rect.unit (s := S281x9) ![0, 0] S281x9.size inb_S281x9_S281x9_0_0).toLoadRect f2) (View.readAt (Elt F) M3.view (Rect.unit (s := S1x9) ![0, 0] S1x9.size inb_S1x9_S1x9_0_0).toLoadRect f3) (View.readAt (Elt F) M1.view (Rect.unit (s := S10x25) ![0, 0] S10x25.size inb_S10x25_S10x25_0_0).toLoadRect f1) (View.readAt (Elt F) M0.view (Rect.unit (s := S4x512x256) ![1, 0, 0] S1x512x256.size inb_S4x512x256_S1x512x256_1_0_0).toLoadRect f0) (View.readAt (Elt F) M0.view (Rect.unit (s := S4x512x256) ![2, 0, 0] S1x512x256.size inb_S4x512x256_S1x512x256_2_0_0).toLoadRect f0)⟩,
       ⟨Rect.unit (s := S2561x128) ![512, 0] ![512, 128] inb_S2561x128_S512x128_512_0, stored1 (View.readAt (Elt F) M2.view (Rect.unit (s := S281x9) ![0, 0] S281x9.size inb_S281x9_S281x9_0_0).toLoadRect f2) (View.readAt (Elt F) M3.view (Rect.unit (s := S1x9) ![0, 0] S1x9.size inb_S1x9_S1x9_0_0).toLoadRect f3) (View.readAt (Elt F) M1.view (Rect.unit (s := S10x25) ![0, 0] S10x25.size inb_S10x25_S10x25_0_0).toLoadRect f1) (View.readAt (Elt F) M0.view (Rect.unit (s := S4x512x256) ![0, 0, 0] S1x512x256.size inb_S4x512x256_S1x512x256_0_0_0).toLoadRect f0) (View.readAt (Elt F) M0.view (Rect.unit (s := S4x512x256) ![1, 0, 0] S1x512x256.size inb_S4x512x256_S1x512x256_1_0_0).toLoadRect f0)⟩,
       ⟨Rect.unit (s := S2561x128) ![0, 0] ![512, 128] inb_S2561x128_S512x128_0_0, stored0 (View.readAt (Elt F) M2.view (Rect.unit (s := S281x9) ![0, 0] S281x9.size inb_S281x9_S281x9_0_0).toLoadRect f2) (View.readAt (Elt F) M3.view (Rect.unit (s := S1x9) ![0, 0] S1x9.size inb_S1x9_S1x9_0_0).toLoadRect f3) (View.readAt (Elt F) M1.view (Rect.unit (s := S10x25) ![0, 0] S10x25.size inb_S10x25_S10x25_0_0).toLoadRect f1) (View.readAt (Elt F) M0.view (Rect.unit (s := S4x512x256) ![0, 0, 0] S1x512x256.size inb_S4x512x256_S1x512x256_0_0_0).toLoadRect f0)⟩] := rfl

theorem slab_0 (c : Dev nD) (M0 : Memref sig .tc .vmem S4x512x256 .f32) (f0 : Held (F := F) c M0) :
    (View.readAt (Elt F) M0.view (Rect.unit (s := S4x512x256) ![0, 0, 0] S1x512x256.size inb_S4x512x256_S1x512x256_0_0_0).toLoadRect f0) = slab (M0.view.read (Elt F) f0) 0 := by
  funext x
  rw [View.readAt_apply]
  refine congrArg _ (funext fun a => Fin.ext ?_)
  have h0 : (x 0).val = 0 := Nat.lt_one_iff.mp (x 0).isLt
  match a with
  | 0 => show 0 + 1 * (x 0).val = 0; omega
  | 1 => show 0 + 1 * (x 1).val = (x 1).val; omega
  | 2 => show 0 + 1 * (x 2).val = (x 2).val; omega

theorem slab_1 (c : Dev nD) (M0 : Memref sig .tc .vmem S4x512x256 .f32) (f0 : Held (F := F) c M0) :
    (View.readAt (Elt F) M0.view (Rect.unit (s := S4x512x256) ![1, 0, 0] S1x512x256.size inb_S4x512x256_S1x512x256_1_0_0).toLoadRect f0) = slab (M0.view.read (Elt F) f0) 1 := by
  funext x
  rw [View.readAt_apply]
  refine congrArg _ (funext fun a => Fin.ext ?_)
  have h0 : (x 0).val = 0 := Nat.lt_one_iff.mp (x 0).isLt
  match a with
  | 0 => show 1 + 1 * (x 0).val = 1; omega
  | 1 => show 0 + 1 * (x 1).val = (x 1).val; omega
  | 2 => show 0 + 1 * (x 2).val = (x 2).val; omega

theorem slab_2 (c : Dev nD) (M0 : Memref sig .tc .vmem S4x512x256 .f32) (f0 : Held (F := F) c M0) :
    (View.readAt (Elt F) M0.view (Rect.unit (s := S4x512x256) ![2, 0, 0] S1x512x256.size inb_S4x512x256_S1x512x256_2_0_0).toLoadRect f0) = slab (M0.view.read (Elt F) f0) 2 := by
  funext x
  rw [View.readAt_apply]
  refine congrArg _ (funext fun a => Fin.ext ?_)
  have h0 : (x 0).val = 0 := Nat.lt_one_iff.mp (x 0).isLt
  match a with
  | 0 => show 2 + 1 * (x 0).val = 2; omega
  | 1 => show 0 + 1 * (x 1).val = (x 1).val; omega
  | 2 => show 0 + 1 * (x 2).val = (x 2).val; omega

theorem slab_3 (c : Dev nD) (M0 : Memref sig .tc .vmem S4x512x256 .f32) (f0 : Held (F := F) c M0) :
    (View.readAt (Elt F) M0.view (Rect.unit (s := S4x512x256) ![3, 0, 0] S1x512x256.size inb_S4x512x256_S1x512x256_3_0_0).toLoadRect f0) = slab (M0.view.read (Elt F) f0) 3 := by
  funext x
  rw [View.readAt_apply]
  refine congrArg _ (funext fun a => Fin.ext ?_)
  have h0 : (x 0).val = 0 := Nat.lt_one_iff.mp (x 0).isLt
  match a with
  | 0 => show 3 + 1 * (x 0).val = 3; omega
  | 1 => show 0 + 1 * (x 1).val = (x 1).val; omega
  | 2 => show 0 + 1 * (x 2).val = (x 2).val; omega

set_option maxRecDepth 100000 in
theorem stored0_group (enc : Vec F S4x512x256 .f32) (lenb : Vec F S10x25 .f32) (w : Vec F S281x9 .f32) (b : Vec F S1x9 .f32) :
    stored0 w b lenb (slab enc 0) = groupN enc lenb w b 0 := by
  rw [stored0_eq]; rfl

set_option maxRecDepth 100000 in
theorem stored1_group (enc : Vec F S4x512x256 .f32) (lenb : Vec F S10x25 .f32) (w : Vec F S281x9 .f32) (b : Vec F S1x9 .f32) :
    stored1 w b lenb (slab enc 0) (slab enc 1) = groupN enc lenb w b 1 := by
  rw [stored1_eq]; rfl

set_option maxRecDepth 100000 in
theorem stored2_group (enc : Vec F S4x512x256 .f32) (lenb : Vec F S10x25 .f32) (w : Vec F S281x9 .f32) (b : Vec F S1x9 .f32) :
    stored2 w b lenb (slab enc 1) (slab enc 2) = groupN enc lenb w b 2 := by
  rw [stored2_eq]; rfl

set_option maxRecDepth 100000 in
theorem stored3_group (enc : Vec F S4x512x256 .f32) (lenb : Vec F S10x25 .f32) (w : Vec F S281x9 .f32) (b : Vec F S1x9 .f32) :
    stored3 w b lenb (slab enc 2) (slab enc 3) = groupN enc lenb w b 3 := by
  rw [stored3_eq]; rfl

set_option maxRecDepth 100000 in
theorem stored4_group (enc : Vec F S4x512x256 .f32) (lenb : Vec F S10x25 .f32) (w : Vec F S281x9 .f32) (b : Vec F S1x9 .f32) :
    stored4 w b lenb (slab enc 3) = groupN enc lenb w b 4 := by
  rw [stored4_eq]; rfl

theorem group_row (enc : Vec F S4x512x256 .f32) (lenb : Vec F S10x25 .f32) (w : Vec F S281x9 .f32) (b : Vec F S1x9 .f32)
    (g : ℕ) (x : S512x128.Idx) (y : S2561x128.Idx) (hg : g < 5) (h0 : (y 0).val = 512 * g + (x 0).val) (h1 : (y 1).val = (x 1).val) :
    groupN enc lenb w b g x = tableVal enc lenb w b y := by
  have hx : (x 0).val < 512 := (x 0).isLt
  unfold tableVal
  rw [if_pos (by omega), show (y 0).val / 512 = g by omega]
  refine congrArg _ (funext fun a => Fin.ext ?_)
  match a with
  | 0 => show (x 0).val = (y 0).val % 512; omega
  | 1 => exact h1.symm

/-- The table the body leaves. -/
theorem table_read (c : Dev nD) (M0 : Memref sig .tc .vmem S4x512x256 .f32) (M1 : Memref sig .tc .vmem S10x25 .f32) (M2 : Memref sig .tc .vmem S281x9 .f32) (M3 : Memref sig .tc .vmem S1x9 .f32) (f0 : Held (F := F) c M0) (f1 : Held (F := F) c M1) (f2 : Held (F := F) c M2) (f3 : Held (F := F) c M3) {sp : Space} (v : View sig .tc sp S2561x128 .f32) (f : v.ty.Contents (Elt F)) :
    v.read (Elt F) (v.writes (Elt F) f (tableRun.sl.H7_6 c M0 M1 M2 M3 f0 f1 f2 f3)) =
      tableVal (M0.view.read (Elt F) f0) (M1.view.read (Elt F) f1) (M2.view.read (Elt F) f2) (M3.view.read (Elt F) f3) := by
  rw [stored_pieces, slab_0, slab_1, slab_2, slab_3]
  have hw : (View.readAt (Elt F) M2.view (Rect.unit (s := S281x9) ![0, 0] S281x9.size inb_S281x9_S281x9_0_0).toLoadRect f2) = (M2.view.read (Elt F) f2) := View.readAt_full M2.view f2 (off := ![0, 0]) inb_S281x9_S281x9_0_0
  have hb : (View.readAt (Elt F) M3.view (Rect.unit (s := S1x9) ![0, 0] S1x9.size inb_S1x9_S1x9_0_0).toLoadRect f3) = (M3.view.read (Elt F) f3) := View.readAt_full M3.view f3 (off := ![0, 0]) inb_S1x9_S1x9_0_0
  have hl : (View.readAt (Elt F) M1.view (Rect.unit (s := S10x25) ![0, 0] S10x25.size inb_S10x25_S10x25_0_0).toLoadRect f1) = (M1.view.read (Elt F) f1) := View.readAt_full M1.view f1 (off := ![0, 0]) inb_S10x25_S10x25_0_0
  rw [hw, hb, hl]
  rw [stored0_group, stored1_group, stored2_group, stored3_group, stored4_group, absent_eq]
  funext y
  refine View.read_writes_apply_of_pieces v f (tableVal (M0.view.read (Elt F) f0) (M1.view.read (Elt F) f1) (M2.view.read (Elt F) f2) (M3.view.read (Elt F) f3)) _ ?_ y ?_
  · intro p hp
    simp only [List.mem_cons, List.not_mem_nil, or_false] at hp
    rcases hp with rfl | rfl | rfl | rfl | rfl | rfl
    · intro x
      have hx : (x 0).val = 0 := Nat.lt_one_iff.mp (x 0).isLt
      unfold tableVal
      rw [if_neg (by show ¬ 2560 + 1 * (x 0).val < 2560; omega)]
      refine congrArg _ (funext fun a => Fin.ext ?_)
      match a with
      | 0 => exact hx
      | 1 => show (x 1).val = 0 + 1 * (x 1).val; omega
    · intro x
      exact group_row _ _ _ _ 4 x _ (by decide) (by show 2048 + 1 * (x 0).val = 512 * 4 + (x 0).val; omega) (by show 0 + 1 * (x 1).val = (x 1).val; omega)
    · intro x
      exact group_row _ _ _ _ 3 x _ (by decide) (by show 1536 + 1 * (x 0).val = 512 * 3 + (x 0).val; omega) (by show 0 + 1 * (x 1).val = (x 1).val; omega)
    · intro x
      exact group_row _ _ _ _ 2 x _ (by decide) (by show 1024 + 1 * (x 0).val = 512 * 2 + (x 0).val; omega) (by show 0 + 1 * (x 1).val = (x 1).val; omega)
    · intro x
      exact group_row _ _ _ _ 1 x _ (by decide) (by show 512 + 1 * (x 0).val = 512 * 1 + (x 0).val; omega) (by show 0 + 1 * (x 1).val = (x 1).val; omega)
    · intro x
      exact group_row _ _ _ _ 0 x _ (by decide) (by show 0 + 1 * (x 0).val = 512 * 0 + (x 0).val; omega) (by show 0 + 1 * (x 1).val = (x 1).val; omega)
  · have h0 : (y 0).val < 2561 := (y 0).isLt
    have h1 : (y 1).val < 128 := (y 1).isLt
    simp only [List.mem_cons, List.not_mem_nil, or_false, exists_eq_or_imp, exists_eq_left]
    simp only [Rect.mem_set_unit, Fin.forall_fin_two]
    show ((2560 ≤ (y 0).val ∧ (y 0).val < 2560 + 1) ∧ (0 ≤ (y 1).val ∧ (y 1).val < 0 + 128)) ∨ ((2048 ≤ (y 0).val ∧ (y 0).val < 2048 + 512) ∧ (0 ≤ (y 1).val ∧ (y 1).val < 0 + 128)) ∨ ((1536 ≤ (y 0).val ∧ (y 0).val < 1536 + 512) ∧ (0 ≤ (y 1).val ∧ (y 1).val < 0 + 128)) ∨ ((1024 ≤ (y 0).val ∧ (y 0).val < 1024 + 512) ∧ (0 ≤ (y 1).val ∧ (y 1).val < 0 + 128)) ∨ ((512 ≤ (y 0).val ∧ (y 0).val < 512 + 512) ∧ (0 ≤ (y 1).val ∧ (y 1).val < 0 + 128)) ∨ ((0 ≤ (y 0).val ∧ (y 0).val < 0 + 512) ∧ (0 ≤ (y 1).val ∧ (y 1).val < 0 + 128))
    omega

set_option maxRecDepth 100000 in
/-- The list of rows the body leaves. -/
theorem idx_read (c : Dev nD) (M4 : Memref sig .tc .vmem S4x5075 .i32) (M5 : Memref sig .tc .vmem S4x5075 .i32) (M6 : Memref sig .tc .vmem S4x5075 .i32) (f4 : Held (F := F) c M4) (f5 : Held (F := F) c M5) (f6 : Held (F := F) c M6) {sp : Space} (v : View sig .tc sp S4x5120 .i32) (f : v.ty.Contents (Elt F)) :
    v.read (Elt F) (v.writes (Elt F) f (tableRun.sl.H8_2 c M4 M5 M6 f4 f5 f6)) =
      idxVal (F := F) (M4.view.read (Elt F) f4) (M5.view.read (Elt F) f5) (M6.view.read (Elt F) f6) := by
  unfold tableRun.sl.H8_2
  have h4 : View.readAt (Elt F) M4.view (Rect.unit (s := S4x5075) ![0, 0] S4x5075.size inb_S4x5075_S4x5075_0_0).toLoadRect f4 = (M4.view.read (Elt F) f4) := View.readAt_full M4.view f4 (off := ![0, 0]) inb_S4x5075_S4x5075_0_0
  have h5 : View.readAt (Elt F) M5.view (Rect.unit (s := S4x5075) ![0, 0] S4x5075.size inb_S4x5075_S4x5075_0_0).toLoadRect f5 = (M5.view.read (Elt F) f5) := View.readAt_full M5.view f5 (off := ![0, 0]) inb_S4x5075_S4x5075_0_0
  have h6 : View.readAt (Elt F) M6.view (Rect.unit (s := S4x5075) ![0, 0] S4x5075.size inb_S4x5075_S4x5075_0_0).toLoadRect f6 = (M6.view.read (Elt F) f6) := View.readAt_full M6.view f6 (off := ![0, 0]) inb_S4x5075_S4x5075_0_0
  rw [h4, h5, h6]
  have h2 : ∀ x, k0_pay2 x = 20480#32 := fun _ => rfl
  unfold idxVal
  generalize k0_pay1 _ _ _ _ = w
  revert h2
  generalize k0_pay2 = w'
  intro h2
  funext y
  have h0 : (y 0).val < 4 := (y 0).isLt
  have h1 : (y 1).val < 5120 := (y 1).isLt
  split
  case isTrue h =>
    exact View.read_writes_cons_hit_of_coords v f (Rect.unit (s := S4x5120) ![0, 0] S4x5075.size inb_S4x5120_S4x5075_0_0) w _ (ix2 (y 0) ⟨(y 1).val, h⟩) y fun a => by
      match a with
      | 0 => show (y 0).val = 0 + 1 * (y 0).val; omega
      | 1 => show (y 1).val = 0 + 1 * (y 1).val; omega
  case isFalse h =>
    rw [View.read_writes_cons_miss_of_axis v f _ _ y 1 0 5075 rfl rfl rfl (Or.inr (by omega))]
    refine (View.read_writes_cons_hit_of_coords v f (Rect.unit (s := S4x5120) ![0, 0] S4x5120.size inb_S4x5120_S4x5120_0_0) w' _ y y fun a => ?_).trans (h2 y)
    match a with
    | 0 => show (y 0).val = 0 + 1 * (y 0).val; omega
    | 1 => show (y 1).val = 0 + 1 * (y 1).val; omega

end Cert.Proof.Run
end
-- ==== Proof.Words.lean ====
module

public import proofs.«01_k».proof.Proof.TableVal

/-! The words of the list of rows, as natural numbers. -/

@[expose] public section
noncomputable section

namespace Cert.Proof.Run

open Cert.KernelIdeal Cert.KernelIdeal.Gen
open Idealize.ShloMosaic
open Idealize.ShloMosaic.ValueIdx (ix1 ix2 ix3 eq_ix1 eq_ix2)

variable {F : FTy → Type} [FloatOps F]

/-- The table's length index of a span. -/
def lenIx (s e : BitVec 32) : ℕ := (max (min (e - s).toInt 10) 1 - 1).toNat
/-- The table's start index of a span. -/
def startIx (s : BitVec 32) : ℕ := (max (min s.toInt 511) 0).toNat

theorem lenIx_lt (s e : BitVec 32) : lenIx s e < 10 := by unfold lenIx; omega
theorem startIx_lt (s : BitVec 32) : startIx s < 512 := by unfold startIx; omega

theorem toInt_minsi (x y : BitVec 32) : (IntOp.minsi x y).toInt = min x.toInt y.toInt := by
  unfold IntOp.minsi
  simp only [BitVec.slt, decide_eq_true_eq]
  split <;> omega

theorem toInt_maxsi (x y : BitVec 32) : (IntOp.maxsi x y).toInt = max x.toInt y.toInt := by
  unfold IntOp.maxsi
  simp only [BitVec.slt, decide_eq_true_eq]
  split <;> omega

theorem ofNat_of_toInt (x : BitVec 32) (n : ℕ) (hn : n < 2 ^ 31) (h : x.toInt = n) : x = BitVec.ofNat 32 n := by
  apply BitVec.eq_of_toNat_eq
  rw [BitVec.toNat_ofNat]
  have := x.isLt
  rw [BitVec.toInt_eq_toNat_cond] at h
  split at h <;> omega

theorem len_word (s e : BitVec 32) :
    IntOp.subi (IntOp.maxsi (IntOp.minsi (IntOp.subi e s) 10#32) 1#32) 1#32 = BitVec.ofNat 32 (lenIx s e) := by
  have h := toInt_maxsi (IntOp.minsi (IntOp.subi e s) 10#32) 1#32
  rw [toInt_minsi] at h
  have h10 : (10#32 : BitVec 32).toInt = 10 := by decide
  have h1 : (1#32 : BitVec 32).toInt = 1 := by decide
  rw [h10, h1] at h
  have hl := lenIx_lt s e
  have e' := ofNat_of_toInt _ (lenIx s e + 1) (by omega) (h.trans (by unfold lenIx IntOp.subi; omega))
  rw [e']
  unfold IntOp.subi
  apply BitVec.eq_of_toNat_eq
  simp only [BitVec.toNat_sub, BitVec.toNat_ofNat]
  omega

theorem start_word (s : BitVec 32) : IntOp.maxsi (IntOp.minsi s 511#32) 0#32 = BitVec.ofNat 32 (startIx s) := by
  have h := toInt_maxsi (IntOp.minsi s 511#32) 0#32
  rw [toInt_minsi] at h
  have h10 : (511#32 : BitVec 32).toInt = 511 := by decide
  have h1 : (0#32 : BitVec 32).toInt = 0 := by decide
  rw [h10, h1] at h
  have hl := startIx_lt s
  exact ofNat_of_toInt _ _ (by omega) (h.trans (by unfold startIx; omega))

/-- The quotient by eight, rounded down, as the body computes it. -/
def quot8 (x : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- The remainder by eight, not negative, as the body computes it. -/
def rem8 (x : BitVec 32) : BitVec 32 :=
  Scalar.select (IntOp.andi (IntOp.xori (IntOp.cmpi .slt (IntOp.remsi .vector x (Scalar.select (Scalar.cmpi .eq 8#32 0#32) 1#32 8#32)) 0#32)
      (Scalar.cmpi .slt (Scalar.select (Scalar.cmpi .eq 8#32 0#32) 1#32 8#32) 0#32))
      (IntOp.cmpi .ne (IntOp.remsi .vector x (Scalar.select (Scalar.cmpi .eq 8#32 0#32) 1#32 8#32)) 0#32))
    (IntOp.addi (IntOp.remsi .vector x (Scalar.select (Scalar.cmpi .eq 8#32 0#32) 1#32 8#32)) (Scalar.select (Scalar.cmpi .eq 8#32 0#32) 1#32 8#32))
    (IntOp.remsi .vector x (Scalar.select (Scalar.cmpi .eq 8#32 0#32) 1#32 8#32))

theorem quot8_eq : ∀ n : Fin 40, quot8 (BitVec.ofNat 32 n.val) = BitVec.ofNat 32 (n.val / 8) := by decide +kernel
theorem rem8_eq : ∀ n : Fin 40, rem8 (BitVec.ofNat 32 n.val) = BitVec.ofNat 32 (n.val % 8) := by decide +kernel

/-- The table's row for length block `n` and start `st`. -/
def rowNat (n st : ℕ) : ℕ := (n / 8 * 512 + st) * 8 + n % 8

theorem pay106_at (s e : IVec S4x5075 32) (b : Fin 4) (j : Fin 5075) :
    k0_pay106 (F := F) s e (ix2 b j) = BitVec.ofNat 32 (b.val * 10 + lenIx (s (ix2 b j)) (e (ix2 b j))) := by
  show IntOp.addi (IntOp.muli (BitVec.ofNat 32 (0 * 4 + b.val)) 10#32)
    (IntOp.subi (IntOp.maxsi (IntOp.minsi (IntOp.subi (e (ix2 b j)) (s (ix2 b j))) 10#32) 1#32) 1#32) = _
  rw [len_word]
  have := lenIx_lt (s (ix2 b j)) (e (ix2 b j))
  unfold IntOp.addi IntOp.muli
  apply BitVec.eq_of_toNat_eq
  simp only [BitVec.toNat_add, BitVec.toNat_mul, BitVec.toNat_ofNat]
  omega

theorem list_word (v s e : IVec S4x5075 32) (b : Fin 4) (j : Fin 5075) :
    k0_pay1 (k0_pay105 (F := F) v) (k0_pay106 (F := F) s e) (k0_pay107 (F := F) s e) k0_pay108 (ix2 b j) =
      if v (ix2 b j) = 0#32 then 20480#32
      else BitVec.ofNat 32 (rowNat (b.val * 10 + lenIx (s (ix2 b j)) (e (ix2 b j))) (startIx (s (ix2 b j)))) := by
  show Scalar.select (IntOp.cmpi .ne (v (ix2 b j)) 0#32)
    (IntOp.addi (IntOp.muli (IntOp.addi (IntOp.muli (quot8 (k0_pay106 (F := F) s e (ix2 b j))) 512#32)
        (IntOp.maxsi (IntOp.minsi (s (ix2 b j)) 511#32) 0#32)) 8#32) (rem8 (k0_pay106 (F := F) s e (ix2 b j)))) 20480#32 = _
  have hl := lenIx_lt (s (ix2 b j)) (e (ix2 b j))
  have hs := startIx_lt (s (ix2 b j))
  have hb := b.isLt
  have h40 : b.val * 10 + lenIx (s (ix2 b j)) (e (ix2 b j)) < 40 := by omega
  rw [pay106_at, start_word, quot8_eq ⟨_, h40⟩, rem8_eq ⟨_, h40⟩]
  by_cases hv : v (ix2 b j) = 0#32
  · rw [if_pos hv, hv]; rfl
  · rw [if_neg hv]
    have hc : IntOp.cmpi .ne (v (ix2 b j)) 0#32 = 1#1 := by
      show BitVec.ofBool (v (ix2 b j) != 0#32) = 1#1
      rw [bne_iff_ne.mpr hv]; rfl
    rw [hc]
    show IntOp.addi _ _ = _
    generalize b.val * 10 + lenIx (s (ix2 b j)) (e (ix2 b j)) = n at *
    generalize startIx (s (ix2 b j)) = t at *
    unfold IntOp.addi IntOp.muli rowNat
    apply BitVec.eq_of_toNat_eq
    simp only [BitVec.toNat_add, BitVec.toNat_mul, BitVec.toNat_ofNat]
    omega

theorem rowNat_lt (n st : ℕ) (hn : n < 40) (hs : st < 512) : rowNat n st < 20480 := by unfold rowNat; omega

/-- The list of rows, entry by entry. -/
theorem idxVal_at (s e v : IVec S4x5075 32) (b : Fin 4) (j : Fin 5120) :
    idxVal (F := F) s e v (ix2 b j) = if h : j.val < 5075 then
        if v (ix2 b ⟨j.val, h⟩) = 0#32 then 20480#32
        else BitVec.ofNat 32 (rowNat (b.val * 10 + lenIx (s (ix2 b ⟨j.val, h⟩)) (e (ix2 b ⟨j.val, h⟩))) (startIx (s (ix2 b ⟨j.val, h⟩))))
      else 20480#32 := by
  by_cases h : j.val < 5075
  · rw [dif_pos h, ← list_word (F := F)]
    exact dif_pos h
  · rw [dif_neg h]
    exact dif_neg h

/-- Every word of the list is a row of the table. -/
theorem idxVal_lt (s e v : IVec S4x5075 32) (y : S4x5120.Idx) : (idxVal (F := F) s e v y).toNat < 20488 := by
  obtain ⟨b, j, rfl⟩ : ∃ (b : Fin 4) (j : Fin 5120), ix2 b j = y := ⟨y 0, y 1, (eq_ix2 y).symm⟩
  rw [idxVal_at]
  split
  case isTrue h =>
    split
    · decide
    · rw [BitVec.toNat_ofNat]
      have := b.isLt
      have := rowNat_lt (b.val * 10 + lenIx (s (ix2 b ⟨j.val, h⟩)) (e (ix2 b ⟨j.val, h⟩))) (startIx (s (ix2 b ⟨j.val, h⟩)))
        (by have := lenIx_lt (s (ix2 b ⟨j.val, h⟩)) (e (ix2 b ⟨j.val, h⟩)); omega) (startIx_lt _)
      omega
  case isFalse => decide

end Cert.Proof.Run
end
-- ==== Proof.Region.lean ====
module

public import proofs.«01_k».proof.Proof.Words
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.Value

/-! The table call as one step of @main: entered with every array held, left with
the table and the list of rows written. -/

@[expose] public section
noncomputable section

namespace Cert.Proof.Run

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds
open Idealize.ShloMosaic.Pipeline (Dat BodyObligation)

variable {F : FTy → Type} [FloatOps F]

local notation "𝕄" => MM F

/-- The arrays of a core. -/
abbrev Arrays (F : FTy → Type) : Type := (c : Dev nD) → (b : Ref sig .tc) → Buf (Elt F) ((c : Thread nD τ).loc b)

variable (V : Arrays F)

/-- The table from the arrays `V`. -/
def tabOf (c : Dev nD) : Vec F S2561x128 .f32 := tableVal (V c main_arg0) (V c main_arg5) (V c main_arg6) (V c main_v0)
/-- The list of rows from the arrays `V`. -/
def idxOf (c : Dev nD) : IVec S4x5120 32 := idxVal (F := F) (V c main_arg2) (V c main_arg3) (V c main_v1)

/-- What the call's own waits may have recorded. -/
def lowWaits (c : Dev nD) : Set (SemLoc sig × HIx 1) := {p | (K (F := F)).lev ((c : Thread nD τ), p.1) p.2 ≤ 0}

/-- The proof data of the table call, entered with the arrays at `V`. -/
def dat (c : Dev nD) : Dat τ (Elt F) (HIx 1) ℕ UU ℕ cfg0 c where
  A w := V c (Pipeline.arrRef spec0 w)
  after w _ := match w with
    | ⟨0, _⟩ => V c main_arg0
    | ⟨1, _⟩ => V c main_arg5
    | ⟨2, _⟩ => V c main_arg6
    | ⟨3, _⟩ => V c main_v0
    | ⟨4, _⟩ => V c main_arg2
    | ⟨5, _⟩ => V c main_arg3
    | ⟨6, _⟩ => V c main_v1
    | ⟨7, _⟩ => tabOf V c
    | ⟨8, _⟩ => idxOf V c
  Φ _ := Pipeline.scopedRest (Ix := HIx 1) (Name := ℕ) (U := UU) (Lvl := ℕ) (Val := Elt F) spec0 c
  q _ := fullShare
  owed _ := (K (F := F)).Otc c 0
  recorded _ := lowWaits (F := F) c

variable (adm : (p : Fin 1) → (pcfgs (F := F) p).Adm)

/-- The same for the one pipeline of the program. -/
def pdats : (p : Fin 1) → (c : Dev nD) → Dat τ (Elt F) (HIx 1) ℕ UU ℕ (Pipeline.pin (pcfgs (F := F)) adm p) c
  | ⟨0, _⟩ => fun c => dat V c

theorem blk_0 (f : (Memref.whole main_arg0).view.ty.Contents (Elt F)) : ((cfg0.win 0).blk t0_0).view.read (Elt F) f = f := by
  funext y
  exact congrArg f (funext fun a => Fin.ext (by show 0 * _ + 1 * (y a).val = (y a).val; omega))
theorem blk_1 (f : (Memref.whole main_arg5).view.ty.Contents (Elt F)) : ((cfg0.win 1).blk t0_0).view.read (Elt F) f = f := by
  funext y
  exact congrArg f (funext fun a => Fin.ext (by show 0 * _ + 1 * (y a).val = (y a).val; omega))
theorem blk_2 (f : (Memref.whole main_arg6).view.ty.Contents (Elt F)) : ((cfg0.win 2).blk t0_0).view.read (Elt F) f = f := by
  funext y
  exact congrArg f (funext fun a => Fin.ext (by show 0 * _ + 1 * (y a).val = (y a).val; omega))
theorem blk_3 (f : (Memref.whole main_v0).view.ty.Contents (Elt F)) : ((cfg0.win 3).blk t0_0).view.read (Elt F) f = f := by
  funext y
  exact congrArg f (funext fun a => Fin.ext (by show 0 * _ + 1 * (y a).val = (y a).val; omega))
theorem blk_4 (f : (Memref.whole main_arg2).view.ty.Contents (Elt F)) : ((cfg0.win 4).blk t0_0).view.read (Elt F) f = f := by
  funext y
  exact congrArg f (funext fun a => Fin.ext (by show 0 * _ + 1 * (y a).val = (y a).val; omega))
theorem blk_5 (f : (Memref.whole main_arg3).view.ty.Contents (Elt F)) : ((cfg0.win 5).blk t0_0).view.read (Elt F) f = f := by
  funext y
  exact congrArg f (funext fun a => Fin.ext (by show 0 * _ + 1 * (y a).val = (y a).val; omega))
theorem blk_6 (f : (Memref.whole main_v1).view.ty.Contents (Elt F)) : ((cfg0.win 6).blk t0_0).view.read (Elt F) f = f := by
  funext y
  exact congrArg f (funext fun a => Fin.ext (by show 0 * _ + 1 * (y a).val = (y a).val; omega))
theorem blk_7 (f : (Memref.whole main_v2_0).view.ty.Contents (Elt F)) : ((cfg0.win 7).blk t0_0).view.read (Elt F) f = f := by
  funext y
  exact congrArg f (funext fun a => Fin.ext (by show 0 * _ + 1 * (y a).val = (y a).val; omega))
theorem blk_8 (f : (Memref.whole main_v2_1).view.ty.Contents (Elt F)) : ((cfg0.win 8).blk t0_0).view.read (Elt F) f = f := by
  funext y
  exact congrArg f (funext fun a => Fin.ext (by show 0 * _ + 1 * (y a).val = (y a).val; omega))
theorem before_0 (c : Dev nD) (d : (cfg0.win 0).block.Idx → Elt F (cfg0.win 0).elt) : (dat V c).before 0 t0_0 d = V c main_arg0 := by
  unfold Dat.before; rw [if_pos (by decide)]; exact blk_0 (F := F) _
theorem before_1 (c : Dev nD) (d : (cfg0.win 1).block.Idx → Elt F (cfg0.win 1).elt) : (dat V c).before 1 t0_0 d = V c main_arg5 := by
  unfold Dat.before; rw [if_pos (by decide)]; exact blk_1 (F := F) _
theorem before_2 (c : Dev nD) (d : (cfg0.win 2).block.Idx → Elt F (cfg0.win 2).elt) : (dat V c).before 2 t0_0 d = V c main_arg6 := by
  unfold Dat.before; rw [if_pos (by decide)]; exact blk_2 (F := F) _
theorem before_3 (c : Dev nD) (d : (cfg0.win 3).block.Idx → Elt F (cfg0.win 3).elt) : (dat V c).before 3 t0_0 d = V c main_v0 := by
  unfold Dat.before; rw [if_pos (by decide)]; exact blk_3 (F := F) _
theorem before_4 (c : Dev nD) (d : (cfg0.win 4).block.Idx → Elt F (cfg0.win 4).elt) : (dat V c).before 4 t0_0 d = V c main_arg2 := by
  unfold Dat.before; rw [if_pos (by decide)]; exact blk_4 (F := F) _
theorem before_5 (c : Dev nD) (d : (cfg0.win 5).block.Idx → Elt F (cfg0.win 5).elt) : (dat V c).before 5 t0_0 d = V c main_arg3 := by
  unfold Dat.before; rw [if_pos (by decide)]; exact blk_5 (F := F) _
theorem before_6 (c : Dev nD) (d : (cfg0.win 6).block.Idx → Elt F (cfg0.win 6).elt) : (dat V c).before 6 t0_0 d = V c main_v1 := by
  unfold Dat.before; rw [if_pos (by decide)]; exact blk_6 (F := F) _

theorem tableRun_fst (c : Dev nD) (M0 : Memref sig .tc .vmem S4x512x256 .f32) (h0 : M0.IsWhole) (M1 : Memref sig .tc .vmem S10x25 .f32) (h1 : M1.IsWhole) (M2 : Memref sig .tc .vmem S281x9 .f32) (h2 : M2.IsWhole) (M3 : Memref sig .tc .vmem S1x9 .f32) (h3 : M3.IsWhole) (M4 : Memref sig .tc .vmem S4x5075 .i32) (h4 : M4.IsWhole) (M5 : Memref sig .tc .vmem S4x5075 .i32) (h5 : M5.IsWhole) (M6 : Memref sig .tc .vmem S4x5075 .i32) (h6 : M6.IsWhole) (M7 : Memref sig .tc .vmem S2561x128 .f32) (h7 : M7.IsWhole) (M8 : Memref sig .tc .vmem S4x5120 .i32) (h8 : M8.IsWhole) (f0 : Held (F := F) c M0) (f1 : Held (F := F) c M1) (f2 : Held (F := F) c M2) (f3 : Held (F := F) c M3) (f4 : Held (F := F) c M4) (f5 : Held (F := F) c M5) (f6 : Held (F := F) c M6) (f7 : Held (F := F) c M7) (f8 : Held (F := F) c M8) :
    (tableRun c M0 h0 M1 h1 M2 h2 M3 h3 M4 h4 M5 h5 M6 h6 M7 h7 M8 h8 f0 f1 f2 f3 f4 f5 f6 f7 f8).1.1 = M7.view.writes (Elt F) M7.view.junk (tableRun.sl.H7_6 c M0 M1 M2 M3 f0 f1 f2 f3) := by dsimp only [tableRun]
set_option maxRecDepth 100000 in
theorem tableRun_snd (c : Dev nD) (M0 : Memref sig .tc .vmem S4x512x256 .f32) (h0 : M0.IsWhole) (M1 : Memref sig .tc .vmem S10x25 .f32) (h1 : M1.IsWhole) (M2 : Memref sig .tc .vmem S281x9 .f32) (h2 : M2.IsWhole) (M3 : Memref sig .tc .vmem S1x9 .f32) (h3 : M3.IsWhole) (M4 : Memref sig .tc .vmem S4x5075 .i32) (h4 : M4.IsWhole) (M5 : Memref sig .tc .vmem S4x5075 .i32) (h5 : M5.IsWhole) (M6 : Memref sig .tc .vmem S4x5075 .i32) (h6 : M6.IsWhole) (M7 : Memref sig .tc .vmem S2561x128 .f32) (h7 : M7.IsWhole) (M8 : Memref sig .tc .vmem S4x5120 .i32) (h8 : M8.IsWhole) (f0 : Held (F := F) c M0) (f1 : Held (F := F) c M1) (f2 : Held (F := F) c M2) (f3 : Held (F := F) c M3) (f4 : Held (F := F) c M4) (f5 : Held (F := F) c M5) (f6 : Held (F := F) c M6) (f7 : Held (F := F) c M7) (f8 : Held (F := F) c M8) :
    (tableRun c M0 h0 M1 h1 M2 h2 M3 h3 M4 h4 M5 h5 M6 h6 M7 h7 M8 h8 f0 f1 f2 f3 f4 f5 f6 f7 f8).1.2 = M8.view.writes (Elt F) M8.view.junk (tableRun.sl.H8_2 c M4 M5 M6 f4 f5 f6) := by dsimp only [tableRun]

theorem run_tab (c : Dev nD) (f7 : Held (F := F) c (stage0_7 0)) (f8 : Held (F := F) c (stage0_8 0)) :
    (tableRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
      (V c main_arg0) (V c main_arg5) (V c main_arg6) (V c main_v0) (V c main_arg2) (V c main_arg3) (V c main_v1) f7 f8).1.1 = tabOf V c := by
  have h := table_read c (stage0_0 0) (stage0_1 0) (stage0_2 0) (stage0_3 0) (V c main_arg0) (V c main_arg5) (V c main_arg6) (V c main_v0)
    (stage0_7 0).view (stage0_7 0).view.junk
  have e : ∀ X : (stage0_7 0).view.ty.Contents (Elt F), (stage0_7 0).view.read (Elt F) X = X := fun _ => rfl
  exact (tableRun_fst c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
      (V c main_arg0) (V c main_arg5) (V c main_arg6) (V c main_v0) (V c main_arg2) (V c main_arg3) (V c main_v1) f7 f8).trans ((e _).symm.trans h)

set_option maxRecDepth 100000 in
theorem run_idx (c : Dev nD) (f7 : Held (F := F) c (stage0_7 0)) (f8 : Held (F := F) c (stage0_8 0)) :
    (tableRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
      (V c main_arg0) (V c main_arg5) (V c main_arg6) (V c main_v0) (V c main_arg2) (V c main_arg3) (V c main_v1) f7 f8).1.2 = idxOf V c := by
  have h := idx_read (F := F) c (stage0_4 0) (stage0_5 0) (stage0_6 0) (V c main_arg2) (V c main_arg3) (V c main_v1) (stage0_8 0).view
    (stage0_8 0).view.junk
  have e : ∀ X : (stage0_8 0).view.ty.Contents (Elt F), (stage0_8 0).view.read (Elt F) X = X := fun _ => rfl
  exact (tableRun_snd c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
      (V c main_arg0) (V c main_arg5) (V c main_arg6) (V c main_v0) (V c main_arg2) (V c main_arg3) (V c main_v1) f7 f8).trans ((e _).symm.trans h)

/-- The body meets what the pipeline asks of it. -/
theorem body_obligation (c : Dev nD) : BodyObligation (dat V c) (defs₀ (F := F)) 𝒱₀ (default : HIx 1) Set.univ := fun t => by
  obtain rfl := fin_N0 t
  rw [bigSep_W0, bigSep_W0]
  simp only [owns_whole_eq]
  rw [show (dat V c).Φ t0_0.castSucc = (dat V c).Φ t0_0.succ from rfl,
    show (dat V c).owesAt default t0_0.succ = (dat V c).owesAt default t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩⟩
  rw [before_0] at hf0
  subst hf0
  rw [before_1] at hf1
  subst hf1
  rw [before_2] at hf2
  subst hf2
  rw [before_3] at hf3
  subst hf3
  rw [before_4] at hf4
  subst hf4
  rw [before_5] at hf5
  subst hf5
  rw [before_6] at hf6
  subst hf6
  iapply ((tableRun (F := F) c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (stage0_7 0) (hstage0_7 0) (stage0_8 0) (hstage0_8 0)
      (V c main_arg0) (V c main_arg5) (V c main_arg6) (V c main_v0) (V c main_arg2) (V c main_arg3) (V c main_v1) f7 f8).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; exact run_tab V c f7 f8
  iexists _; isplitr; swap; (· iexact H8); ipureintro; exact run_idx V c f7 f8

set_option maxRecDepth 100000 in
theorem arr_tab (c : Dev nD) : (dat V c).arrAt 7 cfg0.N = tabOf V c :=
  (dat V c).arrAt_eq_of_cover 7 (tabOf V c) (fun t _ => by obtain rfl := fin_N0 t; exact (blk_7 (F := F) (tabOf V c)).symm)
    (fun i => ⟨t0_0, flush0_7 t0_0, by
      have e : ((cfg0.win 7).blk t0_0).view.emb i = i := funext fun a => Fin.ext (by show 0 * _ + 1 * (i a).val = (i a).val; omega)
      exact e ▸ ((cfg0.win 7).blk t0_0).view.emb_mem_set i⟩)

set_option maxRecDepth 100000 in
theorem arr_idx (c : Dev nD) : (dat V c).arrAt 8 cfg0.N = idxOf V c :=
  (dat V c).arrAt_eq_of_cover 8 (idxOf V c) (fun t _ => by obtain rfl := fin_N0 t; exact (blk_8 (F := F) (idxOf V c)).symm)
    (fun i => ⟨t0_0, flush0_8 t0_0, by
      have e : ((cfg0.win 8).blk t0_0).view.emb i = i := funext fun a => Fin.ext (by show 0 * _ + 1 * (i a).val = (i a).val; omega)
      exact e ▸ ((cfg0.win 8).blk t0_0).view.emb_mem_set i⟩)

theorem Otc_low (c : Dev nD) (g : GSem nD τ sig) : (K (F := F)).Otc c 0 g (none : HIx 1) = 0 := by
  by_contra h
  have h' := SparseCore.Cfg.lev_of_Otc_pos (Nat.pos_of_ne_zero h)
  rw [SparseCore.Cfg.lev_none] at h'
  omega

variable (Vp : Arrays F)

set_option backward.isDefEq.respectTransparency.types false in
/-- The call, from every array at `V` to every array at `Vp`. -/
def reg (hV7 : ∀ c, Vp c main_v2_0 = tabOf V c) (hV8 : ∀ c, Vp c main_v2_1 = idxOf V c)
    (hVp : ∀ c (b : Ref sig .tc), b ≠ main_v2_0 → b ≠ main_v2_1 → Vp c b = V c b) :
    Pipeline.RegionSeg (pcfgs (F := F)) adm (pdats V adm) (default : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ fun g => Otc_low c g
  pre c := iprop(unscopedBufs c (V c) ∗ ∃ W, ⌜(K (F := F)).WBelow (c : Thread nD τ) W 0⌝ ∗ owes (c : Thread nD τ) ((K (F := F)).Otc c 0) W)
  post c := iprop(unscopedBufs c (Vp c) ∗ ∃ W, ⌜(K (F := F)).WBelow (c : Thread nD τ) W 0⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVp c main_arg0 (by decide) (by decide)).symm
        · exact ((pdats V adm 0 c).arrAt_in 1 rfl _).trans (hVp c main_arg5 (by decide) (by decide)).symm
        · exact ((pdats V adm 0 c).arrAt_in 2 rfl _).trans (hVp c main_arg6 (by decide) (by decide)).symm
        · exact ((pdats V adm 0 c).arrAt_in 3 rfl _).trans (hVp c main_v0 (by decide) (by decide)).symm
        · exact ((pdats V adm 0 c).arrAt_in 4 rfl _).trans (hVp c main_arg2 (by decide) (by decide)).symm
        · exact ((pdats V adm 0 c).arrAt_in 5 rfl _).trans (hVp c main_arg3 (by decide) (by decide)).symm
        · exact ((pdats V adm 0 c).arrAt_in 6 rfl _).trans (hVp c main_v1 (by decide) (by decide)).symm
        · exact (arr_tab V c).trans (hV7 c).symm
        · exact (arr_idx V c).trans (hV8 c).symm)
      (fun b hb => hVp c b (fun h => hb (h ▸ Finset.mem_image.mpr ⟨7, Finset.mem_univ _, rfl⟩))
        (fun h => hb (h ▸ Finset.mem_image.mpr ⟨8, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact Nat.le_refl 0
    iexact HO

end Cert.Proof.Run
end
-- ==== Proof.Trip.lean ====
/-
  One trip of a tile's loop: sixteen gathered rows, their class numbers stored side by side, their nine scores scattered
  nine apart. Over the whole loop: every row's.
-/
module

public import proofs.«01_k».proof.Proof.Common

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type}

/-! ## A scatter towards a target -/

/-- A fold whose every step keeps a property, and some step of which makes it, ends with it. -/
theorem foldl_reaches {α β : Type} (P : β → Prop) (st : β → α → β) (mk : α → Prop) (keep : ∀ b a, P b → P (st b a))
    (make : ∀ b a, mk a → P (st b a)) : ∀ (l : List α) (b : β), (P b ∨ ∃ a ∈ l, mk a) → P (l.foldl st b)
  | [], b, h => h.elim id fun ⟨_, ha, _⟩ => absurd ha List.not_mem_nil
  | a :: l, b, h => foldl_reaches P st mk keep make l (st b a) <| by
    rcases h with h | ⟨a', ha', hm⟩
    · exact .inl (keep b a h)
    · rcases List.mem_cons.mp ha' with rfl | ha'
      · exact .inl (make b _ hm)
      · exact .inr ⟨a', ha', hm⟩

/-- An unmasked scatter whose every lane stores the target's element leaves the target's element wherever it was there
    before and wherever a lane goes. -/
theorem storeIdx_target {s : Shape} {e : EltTy} {d : Fin 1 → Nat} [FloatOps F] (f g : Vec F s e)
    (idxs : Fin s.rank → IVec ⟨1, d⟩ 32) (v : Vec F ⟨1, d⟩ e) (h : ∀ a x, (idxs a x).toNat < s.size a)
    (hv : ∀ x, v x = g (idxAt idxs h x)) (i : s.Idx) (hi : f i = g i ∨ ∃ k, idxAt idxs h (Shape.ofLane k) = i) :
    storeIdx f idxs v (fun _ => 1#1) false h i = g i := by
  unfold storeIdx
  refine foldl_reaches (fun b : Vec F s e => b i = g i) _ (fun k => idxAt idxs h (Shape.ofLane k) = i) ?_ ?_ _ f
    (hi.imp_right fun ⟨k, hk⟩ => ⟨k, List.mem_finRange k, hk⟩)
  · intro b k hb
    by_cases hki : ∀ a, (i a).val = (idxAt idxs h (Shape.ofLane k) a).val
    · have hie : idxAt idxs h (Shape.ofLane k) = i := funext fun a => Fin.ext (hki a).symm
      simp only [BitVec.ofNat_eq_ofNat, ↓reduceIte, hki, implies_true, Bool.false_eq_true]
      rw [hv, hie]
    · simpa [hki] using hb
  · intro b k hk
    have hki : ∀ a, (i a).val = (idxAt idxs h (Shape.ofLane k) a).val := fun a => by rw [hk]
    simp only [BitVec.ofNat_eq_ofNat, ↓reduceIte, hki, implies_true, Bool.false_eq_true]
    rw [hv, hk]

/-! ## The words a trip computes -/

abbrev lanes : IVec S16 32 := iota .scVector S16 32 [0] iota_S16_d0_w32_scVector

theorem trips_eq : k1_t1_loop.trips = 40 := by decide

/-- Lane `x` of trip `t` is row `16 t + x`. -/
theorem row_word : ∀ (t : Fin k1_t1_loop.trips) (x : Fin 16), (k1_pay1 lanes 0#32 1#32 t (ix1 x)).toNat = 16 * t.val + x.val := by
  decide +kernel
theorem pay4_word : ∀ (t : Fin k1_t1_loop.trips) (x : Fin 16), (k1_pay4 (k1_pay1 lanes 0#32 1#32 t) (ix1 x)).toNat = 9 * (16 * t.val + x.val) + 0 := by
  decide +kernel
theorem pay5_word : ∀ (t : Fin k1_t1_loop.trips) (x : Fin 16), (k1_pay5 (k1_pay1 lanes 0#32 1#32 t) (ix1 x)).toNat = 9 * (16 * t.val + x.val) + 1 := by
  decide +kernel
theorem pay6_word : ∀ (t : Fin k1_t1_loop.trips) (x : Fin 16), (k1_pay6 (k1_pay1 lanes 0#32 1#32 t) (ix1 x)).toNat = 9 * (16 * t.val + x.val) + 2 := by
  decide +kernel
theorem pay7_word : ∀ (t : Fin k1_t1_loop.trips) (x : Fin 16), (k1_pay7 (k1_pay1 lanes 0#32 1#32 t) (ix1 x)).toNat = 9 * (16 * t.val + x.val) + 3 := by
  decide +kernel
theorem pay8_word : ∀ (t : Fin k1_t1_loop.trips) (x : Fin 16), (k1_pay8 (k1_pay1 lanes 0#32 1#32 t) (ix1 x)).toNat = 9 * (16 * t.val + x.val) + 4 := by
  decide +kernel
theorem pay10_word : ∀ (t : Fin k1_t1_loop.trips) (x : Fin 16),
    (k1_pay10 (k1_pay3 (k1_pay1 lanes 0#32 1#32 t)) (ix1 x)).toNat = 9 * (16 * t.val + x.val) + 5 := by decide +kernel
theorem pay11_word : ∀ (t : Fin k1_t1_loop.trips) (x : Fin 16),
    (k1_pay11 (k1_pay3 (k1_pay1 lanes 0#32 1#32 t)) (ix1 x)).toNat = 9 * (16 * t.val + x.val) + 6 := by decide +kernel
theorem pay12_word : ∀ (t : Fin k1_t1_loop.trips) (x : Fin 16),
    (k1_pay12 (k1_pay3 (k1_pay1 lanes 0#32 1#32 t)) (ix1 x)).toNat = 9 * (16 * t.val + x.val) + 7 := by decide +kernel
theorem pay13_word : ∀ (t : Fin k1_t1_loop.trips) (x : Fin 16),
    (k1_pay13 (k1_pay3 (k1_pay1 lanes 0#32 1#32 t)) (ix1 x)).toNat = 9 * (16 * t.val + x.val) + 8 := by decide +kernel

theorem t_lt (t : Fin k1_t1_loop.trips) : t.val < 40 := lt_of_lt_of_eq t.isLt trips_eq

theorem row_word' (t : Fin k1_t1_loop.trips) (x : S16.Idx) : (k1_pay1 lanes 0#32 1#32 t x).toNat = 16 * t.val + (x 0).val :=
  (congrArg (fun z : S16.Idx => (k1_pay1 lanes 0#32 1#32 t z).toNat) (eq_ix1 (n := 16) x)).trans (row_word t (x 0))

theorem word_at (w : IVec S16 32) (n : Fin 16 → ℕ) (hw : ∀ x : Fin 16, (w (ix1 x)).toNat = n x) (x : S16.Idx) : (w x).toNat = n (x 0) :=
  (congrArg (fun z : S16.Idx => (w z).toNat) (eq_ix1 (n := 16) x)).trans (hw (x 0))

/-- A column load's indices are in range. -/
theorem load_inb (t : Fin k1_t1_loop.trips) (w : BitVec 32) (hw : w.toNat < 16) :
    ∀ a x, ((![k1_pay1 lanes 0#32 1#32 t, broadcast S16 w] : Fin 2 → IVec S16 32) a x).toNat < S640x16.size a := by
  intro a x
  have hx : (x 0).val < 16 := (x 0).isLt
  have := t_lt t
  match a with
  | 0 =>
    show (k1_pay1 lanes 0#32 1#32 t x).toNat < 640
    rw [row_word']; omega
  | 1 => exact hw

/-- A scatter's indices are in range. -/
theorem store_inb (t : Fin k1_t1_loop.trips) (l : ℕ) (hl : l < 9) (w : IVec S16 32)
    (hw : ∀ x : Fin 16, (w (ix1 x)).toNat = 9 * (16 * t.val + x.val) + l) :
    ∀ a x, ((![w] : Fin 1 → IVec S16 32) a x).toNat < S5760.size a := by
  intro a x
  have hx : (x 0).val < 16 := (x 0).isLt
  have := t_lt t
  match a with
  | 0 =>
    show (w x).toNat < 5760
    rw [word_at w _ hw]; omega

/-! ## What the loop has reached -/

section Reached

variable [FloatOps F]

/-- The scores of the rows before trip `t`, and of trip `t`'s rows the first `l`. -/
def ScoresTo (r : Vec F S640x16 .f32) (t l : ℕ) (f : Vec F S5760 .f32) : Prop :=
  ∀ y : S5760.Idx, ((y 0).val < 144 * t ∨ ((y 0).val / 144 = t ∧ (y 0).val % 9 < l)) → f y = scoresOf r y

/-- The class numbers of the rows before row `n`. -/
def PredsTo (r : Vec F S640x16 .f32) (n : ℕ) (f : IVec S640 32) : Prop := ∀ y : S640.Idx, (y 0).val < n → f y = predsOf r y

/-- Column `l` of trip `t`'s sixteen rows. -/
def column (r : Vec F S640x16 .f32) (t : Fin k1_t1_loop.trips) (l : Fin 16) : Vec F S16 .f32 :=
  fun x => r (ix2 ⟨16 * t.val + (x 0).val, by have := t_lt t; have : (x 0).val < 16 := (x 0).isLt; omega⟩ l)

theorem loadIdx_column (r : Vec F S640x16 .f32) (t : Fin k1_t1_loop.trips) (w : BitVec 32) (l : Fin 16) (hl : w.toNat = l.val)
    (h : ∀ a x, ((![k1_pay1 lanes 0#32 1#32 t, broadcast S16 w] : Fin 2 → IVec S16 32) a x).toNat < S640x16.size a) :
    (loadIdx r ![k1_pay1 lanes 0#32 1#32 t, broadcast S16 w] h : Vec F S16 .f32) = column r t l := by
  funext x
  unfold loadIdx column
  refine congrArg r (funext fun a => Fin.ext ?_)
  match a with
  | 0 =>
    show (k1_pay1 lanes 0#32 1#32 t x).toNat = 16 * t.val + (x 0).val
    rw [row_word']
  | 1 => exact hl

theorem scoresTo_step (r : Vec F S640x16 .f32) (t : Fin k1_t1_loop.trips) (l : ℕ) (hl : l < 9) (w : IVec S16 32)
    (hw : ∀ x : Fin 16, (w (ix1 x)).toNat = 9 * (16 * t.val + x.val) + l)
    (h : ∀ a x, ((![w] : Fin 1 → IVec S16 32) a x).toNat < S5760.size a)
    (f : Vec F S5760 .f32) (hf : ScoresTo r t l f) :
    ScoresTo r t (l + 1) (storeIdx f ![w] (column r t ⟨l, by omega⟩) (fun _ => 1#1) false h) := by
  have hwx : ∀ x : S16.Idx, (w x).toNat = 9 * (16 * t.val + (x 0).val) + l := word_at w _ hw
  intro y hy
  refine storeIdx_target (F := F) f (scoresOf r) ![w] _ h (fun x => ?_) y ?_
  · have hx : (x 0).val < 16 := (x 0).isLt
    unfold column scoresOf
    refine congrArg r (funext fun a => Fin.ext ?_)
    match a with
    | 0 => show 16 * t.val + (x 0).val = (w x).toNat / 9; rw [hwx]; omega
    | 1 => show l = (w x).toNat % 9; rw [hwx]; omega
  · by_cases hold : (y 0).val < 144 * t.val ∨ ((y 0).val / 144 = t.val ∧ (y 0).val % 9 < l)
    · exact .inl (hf y hold)
    · right
      have hy' : (y 0).val / 144 = t.val ∧ (y 0).val % 9 = l := by omega
      have hlane : (y 0).val / 9 - 16 * t.val < 16 := by omega
      refine ⟨⟨(y 0).val / 9 - 16 * t.val, hlane⟩, ?_⟩
      funext a
      refine Fin.ext ?_
      match a with
      | 0 =>
        show (w _).toNat = (y 0).val
        rw [hwx]
        show 9 * (16 * t.val + ((y 0).val / 9 - 16 * t.val)) + l = (y 0).val
        omega

theorem scoresTo_next (r : Vec F S640x16 .f32) (t : ℕ) (f : Vec F S5760 .f32) (hf : ScoresTo r t 9 f) : ScoresTo r (t + 1) 0 f := by
  intro y hy
  exact hf y (by omega)

end Reached

end Cert.Proof.Run

end
-- ==== Proof.Loop.lean ====
/-
  A tile's loop over its gathered rows, run: forty trips, after which every row's class number and nine scores are stored.
-/
module

public import proofs.«01_k».proof.Proof.Trip

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MM F

/-! ## A tile's scratch memory -/

abbrev tV : Memref sig .scVector .hbm S20488x16 .f32 := Memref.whole main_v3_scv
abbrev iV : Memref sig .scVector .hbm S4x5120 .i32 := Memref.whole main_v2_1_scv
abbrev oV : Memref sig .scVector .hbm S4x46080 .f32 := Memref.whole main_v4_0_scv
abbrev pV : Memref sig .scVector .hbm S4x5120 .i32 := Memref.whole main_v4_1_scv
abbrev lV : Memref sig .scVector .vmem S640 .i32 := Memref.whole cc1_scratch0
abbrev rV : Memref sig .scVector .vmem S640x16 .f32 := Memref.whole cc1_scratch1
abbrev cV' : Memref sig .scVector .vmem S5760 .f32 := Memref.whole cc1_scratch2
abbrev nV : Memref sig .scVector .vmem S640 .i32 := Memref.whole cc1_scratch3

abbrev cI (L : grid1.Coords) : Fin τ.nSC := (L 0).castLE hcore1
abbrev jI (L : grid1.Coords) : Fin τ.nSub := (L 1).castLE hsub1
/-- The tile at the grid's coordinates `L`. -/
abbrev tile (d : Dev nD) (L : grid1.Coords) : Thread nD τ := V d (cI L) (jI L)

variable (d : Dev nD) (L : grid1.Coords)

/-- The gathered rows, held at `r`. -/
def rowsAt (r : Vec F S640x16 .f32) : sProp 𝕄 := (tile d L).loc cc1_scratch1 ↦{fullShare} r
/-- The scores, held at `f`. -/
def scoresAt (f : Vec F S5760 .f32) : sProp 𝕄 := (tile d L).loc cc1_scratch2 ↦{fullShare} f
/-- The class numbers, held at `f`. -/
def predsAt (f : IVec S640 32) : sProp 𝕄 := (tile d L).loc cc1_scratch3 ↦{fullShare} (f : Vec F S640 .i32)

/-- The sixteen class numbers trip `t` stores. -/
abbrev predRect (t : Fin k1_t1_loop.trips) : Rect S640 := Rect.unit (s := S640) (k1_off2 t) S16.size (k1_off2_inb t)

section Steps

variable {α : Type} (Q : α → sProp (MM F))

/-- A load of one column of sixteen rows. -/
theorem wp_load_column (r : Vec F S640x16 .f32) (t : Fin k1_t1_loop.trips) (w : BitVec 32) (l : Fin 16) (hl : w.toNat = l.val)
    (h : ∀ a x, ((![k1_pay1 lanes 0#32 1#32 t, broadcast S16 w] : Fin 2 → IVec S16 32) a x).toNat < S640x16.size a) (hld : rV.view.Loads)
    (k : Vec F S16 .f32 → Prog (TpuEff nD τ sig (Elt F) Λ₀ (tile d L).2) α) :
    rowsAt d L r ⊢ iprop((rowsAt d L r -∗ wp frame (wpE (defs₀ (F := F)) 𝒱₀ (tile d L) none) Set.univ (k (column r t l)) Q)
      -∗ wp frame (wpE (defs₀ (F := F)) 𝒱₀ (tile d L) none) Set.univ
          (SparseCore.vectorLoadIdx rV ![k1_pay1 lanes 0#32 1#32 t, broadcast S16 w] h hld >>= k) Q) := by
  have hb := SparseCore.wp_vectorLoadIdx (defs := defs₀ (F := F)) (Q := Q) 𝒱₀ (tile d L) none Set.univ (base := rV)
    (idxs := ![k1_pay1 lanes 0#32 1#32 t, broadcast S16 w]) (h := h) (hl := hld) (k := k) (S := Finset.univ) (q := fullShare)
    (f := r) (Finset.subset_univ _)
  have hrd : (rV.access (.whole S640x16)).read (Elt F) r = r := Memref.read_access_whole (Elt F) cc1_scratch1 r
  rw [hrd, loadIdx_column r t w l hl h] at hb
  exact hb

/-- A scatter of one column's scores of sixteen rows. -/
theorem wp_scatter_column (r : Vec F S640x16 .f32) (t : Fin k1_t1_loop.trips) (l : ℕ) (hl : l < 9) (w : IVec S16 32)
    (hw : ∀ x : Fin 16, (w (ix1 x)).toNat = 9 * (16 * t.val + x.val) + l)
    (h : ∀ a x, ((![w] : Fin 1 → IVec S16 32) a x).toNat < S5760.size a) (hst : (cV'.access (.whole S5760)).Stores Finset.univ)
    (k : PUnit → Prog (TpuEff nD τ sig (Elt F) Λ₀ (tile d L).2) α) :
    iprop(∃ f, ⌜ScoresTo r t l f⌝ ∗ scoresAt d L f)
      ⊢ iprop((iprop(∃ f, ⌜ScoresTo r t (l + 1) f⌝ ∗ scoresAt d L f)
            -∗ wp frame (wpE (defs₀ (F := F)) 𝒱₀ (tile d L) none) Set.univ (k ⟨⟩) Q)
        -∗ wp frame (wpE (defs₀ (F := F)) 𝒱₀ (tile d L) none) Set.univ
            (SparseCore.vectorStoreIdx cV' ![w] (column r t ⟨l, by omega⟩) (fun _ => 1#1) false h hst >>= k) Q) := by
  iintro ⟨%f, %hf, H⟩ Hk
  have hset : (cV'.access (.whole S5760)).set = Finset.univ := Memref.set_access_whole cc1_scratch2
  have hb := SparseCore.wp_vectorStoreIdx (defs := defs₀ (F := F)) (Q := Q) 𝒱₀ (tile d L) none Set.univ (base := cV')
    (idxs := ![w]) (v := column r t ⟨l, by omega⟩) (mask := fun _ => 1#1) (add := false) (h := h) (hs := hst) (k := k) (f := f)
  have hrd : (cV'.access (.whole S5760)).read (Elt F) f = f := Memref.read_access_whole (Elt F) cc1_scratch2 f
  have hwr : ∀ g : Vec F S5760 .f32, (cV'.access (.whole S5760)).write (Elt F) f g Finset.univ = g :=
    fun g => Memref.write_access_whole_univ (Elt F) cc1_scratch2 f g
  rw [hset, hrd, hwr] at hb
  have hb' : scoresAt d L f ⊢ iprop((scoresAt d L (storeIdx f ![w] (column r t ⟨l, by omega⟩) (fun _ => 1#1) false h)
      -∗ wp frame (wpE (defs₀ (F := F)) 𝒱₀ (tile d L) none) Set.univ (k ⟨⟩) Q)
    -∗ wp frame (wpE (defs₀ (F := F)) 𝒱₀ (tile d L) none) Set.univ
        (SparseCore.vectorStoreIdx cV' ![w] (column r t ⟨l, by omega⟩) (fun _ => 1#1) false h hst >>= k) Q) := hb
  iapply hb' $$ H
  iintro H
  iapply Hk
  iexists _
  isplitr
  swap
  · iexact H
  ipureintro
  exact scoresTo_step r t l hl w hw h f hf

/-- The store of sixteen rows' class numbers. -/
theorem wp_store_preds (r : Vec F S640x16 .f32) (t : Fin k1_t1_loop.trips)
    (hld : nV.view.LoadsAt (predRect t).toLoadRect)
    (hst : (nV.access (predRect t)).Stores Finset.univ)
    (hm : (Finset.univ : Finset (predRect t).shape.Idx) = Finset.univ ∨
      ∀ a, (predRect t).stride a = 1)
    (k : PUnit → Prog (TpuEff nD τ sig (Elt F) Λ₀ (tile d L).2) α) :
    iprop(∃ f, ⌜PredsTo r (16 * t.val) f⌝ ∗ predsAt d L f)
      ⊢ iprop((iprop(∃ f, ⌜PredsTo r (16 * (t.val + 1)) f⌝ ∗ predsAt d L f)
            -∗ wp frame (wpE (defs₀ (F := F)) 𝒱₀ (tile d L) none) Set.univ (k ⟨⟩) Q)
        -∗ wp frame (wpE (defs₀ (F := F)) 𝒱₀ (tile d L) none) Set.univ
            (.op (.load nV (predRect t).toLoadRect hld) fun _ =>
              .op (.store nV (predRect t)
                (k1_pay2 (column r t ⟨9, by omega⟩)) Finset.univ hst hm) k) Q) := by
  iintro ⟨%f, %hf, H⟩ Hk
  have h1' : predsAt d L f ⊢ iprop((predsAt d L f
        -∗ wp frame (wpE (defs₀ (F := F)) 𝒱₀ (tile d L) none) Set.univ
            (.op (.store nV (predRect t) (k1_pay2 (column r t ⟨9, by omega⟩)) Finset.univ hst hm) k) Q)
      -∗ wp frame (wpE (defs₀ (F := F)) 𝒱₀ (tile d L) none) Set.univ
            (.op (.load nV (predRect t).toLoadRect hld) fun _ =>
              .op (.store nV (predRect t) (k1_pay2 (column r t ⟨9, by omega⟩)) Finset.univ hst hm) k) Q) :=
    wp_load (defs := defs₀ (F := F)) (Q := Q) 𝒱₀ (tile d L) none Set.univ (m := nV) (r := (predRect t).toLoadRect) (hl := hld)
      (k := fun _ => .op (.store nV (predRect t) (k1_pay2 (column r t ⟨9, by omega⟩)) Finset.univ hst hm) k)
      (S := Finset.univ) (q := fullShare) (f := (f : Vec F S640 .i32)) (Finset.subset_univ _)
  have h2' : predsAt d L f ⊢ iprop((predsAt d L ((nV.access (predRect t)).write (Elt F) f (k1_pay2 (column r t ⟨9, by omega⟩)) Finset.univ)
        -∗ wp frame (wpE (defs₀ (F := F)) 𝒱₀ (tile d L) none) Set.univ (k ⟨⟩) Q)
      -∗ wp frame (wpE (defs₀ (F := F)) 𝒱₀ (tile d L) none) Set.univ
            (.op (.store nV (predRect t) (k1_pay2 (column r t ⟨9, by omega⟩)) Finset.univ hst hm) k) Q) :=
    wp_store 𝒱₀ (tile d L) none Set.univ (m := nV) (r := predRect t) (Mk := Finset.univ) (S := Finset.univ) (Finset.subset_univ _)
  iapply h1' $$ H
  iintro H
  iapply h2' $$ H
  iintro H
  iapply Hk
  iexists _
  isplitr
  swap
  · iexact H
  ipureintro
  intro y hy
  have ht := t_lt t
  have hoff : k1_off2 t 0 = 16 * t.val := by rw [k1_off2_eq]; rfl
  by_cases hin : 16 * t.val ≤ (y 0).val
  · have hx : (y 0).val - 16 * t.val < 16 := by omega
    have he : (nV.access (predRect t)).emb (ix1 ⟨(y 0).val - 16 * t.val, hx⟩) = y := by
      funext a
      refine Fin.ext ?_
      match a with
      | 0 =>
        show k1_off2 t 0 + 1 * ((y 0).val - 16 * t.val) = (y 0).val
        rw [hoff]; omega
    have hw := View.write_emb_of_mem (v := nV.access (predRect t)) (Val := Elt F) f
      (k1_pay2 (column r t ⟨9, by omega⟩)) (M := Finset.univ) (x := ix1 ⟨(y 0).val - 16 * t.val, hx⟩) (Finset.mem_univ _)
    rw [he] at hw
    refine hw.trans ?_
    show FloatOps.fptosi 32 (column r t ⟨9, _⟩ (ix1 ⟨(y 0).val - 16 * t.val, hx⟩)) = FloatOps.fptosi 32 (r (ix2 (y 0) ⟨9, _⟩))
    refine congrArg (FloatOps.fptosi 32) (congrArg r (funext fun a => Fin.ext ?_))
    match a with
    | 0 => show 16 * t.val + ((y 0).val - 16 * t.val) = (y 0).val; omega
    | 1 => rfl
  · rw [View.write_of_not_mem]
    · exact hf y (by omega)
    · intro hmem
      obtain ⟨x, -, hx⟩ := Finset.mem_map.mp hmem
      have := congrArg (fun z : S640.Idx => (z 0).val) hx
      have h0 : k1_off2 t 0 + 1 * (x 0).val = (y 0).val := this
      have : (x 0).val < 16 := (x 0).isLt
      omega

/-- A check whose condition holds. -/
theorem wp_check {P : Prop} {dP : Decidable P} (h : P) (k : PLift P → Prog (TpuEff nD τ sig (Elt F) Λ₀ (tile d L).2) α) :
    wp frame (wpE (defs₀ (F := F)) 𝒱₀ (tile d L) none) Set.univ (k ⟨h⟩) Q
      ⊢ wp frame (wpE (defs₀ (F := F)) 𝒱₀ (tile d L) none) Set.univ (Prog.lift (.assume P dP) >>= k) Q :=
  Entails.of_eq (wp_assume_of 𝒱₀ (tile d L) none Set.univ h).symm

/-- One column of sixteen rows, loaded and stored among the scores, each access behind its check. -/
theorem wp_move_column (r : Vec F S640x16 .f32) (t : Fin k1_t1_loop.trips) (l : ℕ) (hl : l < 9) (w : BitVec 32) (hwl : w.toNat = l)
    (pw : IVec S16 32) (hw : ∀ x : Fin 16, (pw (ix1 x)).toNat = 9 * (16 * t.val + x.val) + l)
    {P₁ P₂ : Prop} {d₁ : Decidable P₁} {d₂ : Decidable P₂} (h₁ : P₁) (h₂ : P₂)
    (g₁ : PLift P₁ → ∀ a x, ((![k1_pay1 lanes 0#32 1#32 t, broadcast S16 w] : Fin 2 → IVec S16 32) a x).toNat < S640x16.size a)
    (hld : rV.view.Loads)
    (g₂ : PLift P₂ → ∀ a x, ((![pw] : Fin 1 → IVec S16 32) a x).toNat < S5760.size a)
    (hst : (cV'.access (.whole S5760)).Stores Finset.univ)
    (k : PUnit → Prog (TpuEff nD τ sig (Elt F) Λ₀ (tile d L).2) α) :
    iprop(rowsAt d L r ∗ ∃ f, ⌜ScoresTo r t l f⌝ ∗ scoresAt d L f)
      ⊢ iprop((iprop(rowsAt d L r ∗ ∃ f, ⌜ScoresTo r t (l + 1) f⌝ ∗ scoresAt d L f)
            -∗ wp frame (wpE (defs₀ (F := F)) 𝒱₀ (tile d L) none) Set.univ (k ⟨⟩) Q)
        -∗ wp frame (wpE (defs₀ (F := F)) 𝒱₀ (tile d L) none) Set.univ
            (Prog.lift (.assume P₁ d₁) >>= fun p => SparseCore.vectorLoadIdx rV ![k1_pay1 lanes 0#32 1#32 t, broadcast S16 w] (g₁ p) hld
              >>= fun v => Prog.lift (.assume P₂ d₂) >>= fun p' =>
                SparseCore.vectorStoreIdx cV' ![pw] v (fun _ => 1#1) false (g₂ p') hst >>= k) Q) := by
  iintro ⟨Hr, Hs⟩ Hk
  iapply wp_check d L Q h₁
  iapply wp_load_column d L Q r t w ⟨l, by omega⟩ hwl (g₁ ⟨h₁⟩) hld $$ Hr
  iintro Hr
  iapply wp_check d L Q h₂
  iapply wp_scatter_column d L Q r t l hl pw hw (g₂ ⟨h₂⟩) hst k $$ Hs
  iintro Hs
  iapply Hk
  isplitl [Hr] <;> iassumption

end Steps

/-! ## A trip -/

/-- What the loop holds before trip `k`: the gathered rows, the scores and the class numbers of the rows before it. -/
def loopInv (r : Vec F S640x16 .f32) (k : ℕ) : Unit → sProp 𝕄 := fun _ =>
  iprop(rowsAt d L r ∗ (∃ f, ⌜ScoresTo r k 0 f⌝ ∗ scoresAt d L f) ∗ ∃ f, ⌜PredsTo r (16 * k) f⌝ ∗ predsAt d L f)

set_option maxHeartbeats 4000000 in
theorem trip (r : Vec F S640x16 .f32) (t : Fin k1_t1_loop.trips) (u : Unit) :
    loopInv d L r t.val u ⊢ wp frame (wpE (defs₀ (F := F)) 𝒱₀ (tile d L) none) Set.univ
      (k1_t1_body L tV (Memref.isWhole_whole _) iV (Memref.isWhole_whole _) oV (Memref.isWhole_whole _) pV (Memref.isWhole_whole _)
        lV (Memref.isWhole_whole _) rV (Memref.isWhole_whole _) cV' (Memref.isWhole_whole _) nV (Memref.isWhole_whole _)
        cc1_scratch4 cc1_scoped0 cc1_scoped1 cc1_scoped2 lanes t u)
      (loopInv d L r (t.val + 1)) := by
  have hc (w : BitVec 32) (hw : w.toNat < 16) := load_inb t w hw
  have hs (l : ℕ) (hl : l < 9) (w : IVec S16 32)
    (hw : ∀ x : Fin 16, (w (ix1 x)).toNat = 9 * (16 * t.val + x.val) + l) := store_inb t l hl w hw
  unfold k1_t1_body loopInv
  rw [k1_part1_eq_skeleton]
  unfold k1_part1_skel
  iintro ⟨Hr, Hs, Hp⟩
  iapply (Entails.of_eq (wp_bind (M := 𝕄) frame (wpE (defs₀ (F := F)) 𝒱₀ (tile d L) none) Set.univ _ _ _).symm)
  iapply wp_check d L _ (P := k1_chk1 k1_pay9 (k1_pay1 lanes 0#32 1#32 t)) (hc 9#32 (by decide))
  iapply wp_load_column d L _ r t 9#32 9 rfl _ _ $$ Hr
  iintro Hr
  iapply wp_store_preds d L _ r t _ _ _ _ $$ Hp
  iintro Hp
  ihave H := (show iprop(rowsAt d L r ∗ (∃ f, ⌜ScoresTo r t 0 f⌝ ∗ scoresAt d L f)) ⊢ _ from .rfl) $$ [Hr Hs]
  · isplitl [Hr] <;> iassumption
  iapply wp_move_column d L _ r t 0 (by decide) 0#32 rfl (k1_pay4 (k1_pay1 lanes 0#32 1#32 t)) (pay4_word t)
    (P₁ := k1_chk2 (k1_pay1 lanes 0#32 1#32 t) (broadcast S16 0#32)) (P₂ := k1_chk3 (k1_pay4 (k1_pay1 lanes 0#32 1#32 t)))
    (hc 0#32 (by decide)) (hs 0 (by decide) _ (pay4_word t)) _ _ _ _ _ $$ H
  iintro H
  iapply wp_move_column d L _ r t 1 (by decide) 1#32 rfl (k1_pay5 (k1_pay1 lanes 0#32 1#32 t)) (pay5_word t)
    (P₁ := k1_chk4 (k1_pay1 lanes 0#32 1#32 t) (broadcast S16 1#32)) (P₂ := k1_chk5 (k1_pay5 (k1_pay1 lanes 0#32 1#32 t)))
    (hc 1#32 (by decide)) (hs 1 (by decide) _ (pay5_word t)) _ _ _ _ _ $$ H
  iintro H
  iapply wp_move_column d L _ r t 2 (by decide) 2#32 rfl (k1_pay6 (k1_pay1 lanes 0#32 1#32 t)) (pay6_word t)
    (P₁ := k1_chk6 (k1_pay1 lanes 0#32 1#32 t) (broadcast S16 2#32)) (P₂ := k1_chk7 (k1_pay6 (k1_pay1 lanes 0#32 1#32 t)))
    (hc 2#32 (by decide)) (hs 2 (by decide) _ (pay6_word t)) _ _ _ _ _ $$ H
  iintro H
  iapply wp_move_column d L _ r t 3 (by decide) 3#32 rfl (k1_pay7 (k1_pay1 lanes 0#32 1#32 t)) (pay7_word t)
    (P₁ := k1_chk8 (k1_pay1 lanes 0#32 1#32 t) (broadcast S16 3#32)) (P₂ := k1_chk9 (k1_pay7 (k1_pay1 lanes 0#32 1#32 t)))
    (hc 3#32 (by decide)) (hs 3 (by decide) _ (pay7_word t)) _ _ _ _ _ $$ H
  iintro H
  iapply wp_check d L _ (P := k1_chk10 (k1_pay1 lanes 0#32 1#32 t) (broadcast S16 4#32)) (hc 4#32 (by decide))
  icases H with ⟨Hr, Hs⟩
  iapply wp_load_column d L _ r t 4#32 4 rfl _ _ $$ Hr
  iintro Hr
  iapply wp_check d L _ (P := k1_chk11 (k1_pay8 (k1_pay1 lanes 0#32 1#32 t))) (hs 4 (by decide) _ (pay8_word t))
  iapply (Entails.of_eq (wp_pure (M := 𝕄) frame (wpE (defs₀ (F := F)) 𝒱₀ (tile d L) none) Set.univ _ _).symm)
  imodintro
  iapply wp_scatter_column d L _ r t 4 (by decide) (k1_pay8 (k1_pay1 lanes 0#32 1#32 t)) (pay8_word t) _ _ _ $$ Hs
  iintro Hs
  ihave H := (show iprop(rowsAt d L r ∗ (∃ f, ⌜ScoresTo r t (4 + 1) f⌝ ∗ scoresAt d L f)) ⊢ _ from .rfl) $$ [Hr Hs]
  · isplitl [Hr] <;> iassumption
  iapply wp_move_column d L _ r t 5 (by decide) 5#32 rfl (k1_pay10 (k1_pay3 (k1_pay1 lanes 0#32 1#32 t))) (pay10_word t)
    (P₁ := k1_chk12 (k1_pay1 lanes 0#32 1#32 t) (broadcast S16 5#32)) (P₂ := k1_chk13 (k1_pay10 (k1_pay3 (k1_pay1 lanes 0#32 1#32 t))))
    (hc 5#32 (by decide)) (hs 5 (by decide) _ (pay10_word t)) _ _ _ _ _ $$ H
  iintro H
  iapply wp_move_column d L _ r t 6 (by decide) 6#32 rfl (k1_pay11 (k1_pay3 (k1_pay1 lanes 0#32 1#32 t))) (pay11_word t)
    (P₁ := k1_chk14 (k1_pay1 lanes 0#32 1#32 t) (broadcast S16 6#32)) (P₂ := k1_chk15 (k1_pay11 (k1_pay3 (k1_pay1 lanes 0#32 1#32 t))))
    (hc 6#32 (by decide)) (hs 6 (by decide) _ (pay11_word t)) _ _ _ _ _ $$ H
  iintro H
  iapply wp_move_column d L _ r t 7 (by decide) 7#32 rfl (k1_pay12 (k1_pay3 (k1_pay1 lanes 0#32 1#32 t))) (pay12_word t)
    (P₁ := k1_chk16 (k1_pay1 lanes 0#32 1#32 t) (broadcast S16 7#32)) (P₂ := k1_chk17 (k1_pay12 (k1_pay3 (k1_pay1 lanes 0#32 1#32 t))))
    (hc 7#32 (by decide)) (hs 7 (by decide) _ (pay12_word t)) _ _ _ _ _ $$ H
  iintro H
  iapply wp_move_column d L _ r t 8 (by decide) 8#32 rfl (k1_pay13 (k1_pay3 (k1_pay1 lanes 0#32 1#32 t))) (pay13_word t)
    (P₁ := k1_chk18 (k1_pay1 lanes 0#32 1#32 t) (broadcast S16 8#32)) (P₂ := k1_chk19 (k1_pay13 (k1_pay3 (k1_pay1 lanes 0#32 1#32 t))))
    (hc 8#32 (by decide)) (hs 8 (by decide) _ (pay13_word t)) _ _ _ _ _ $$ H
  iintro H
  iapply (Entails.of_eq (wp_pure (M := 𝕄) frame (wpE (defs₀ (F := F)) 𝒱₀ (tile d L) none) Set.univ _ _).symm)
  imodintro
  icases H with ⟨Hr, %f, %hf, Hs⟩
  isplitl [Hr]
  · iassumption
  isplitl [Hs]
  · iexists f
    isplitr
    · ipureintro
      exact scoresTo_next r t f hf
    · iassumption
  · iassumption

/-! ## The loop -/

theorem loop {α : Type} (Q : α → sProp (MM F)) (r : Vec F S640x16 .f32) (f : Vec F S5760 .f32) (g : IVec S640 32)
    (k : PUnit → Prog (TpuEff nD τ sig (Elt F) Λ₀ (tile d L).2) α) :
    iprop(rowsAt d L r ∗ scoresAt d L f ∗ predsAt d L g)
      ⊢ iprop((iprop(rowsAt d L r ∗ scoresAt d L (scoresOf r) ∗ predsAt d L (predsOf r))
            -∗ wp frame (wpE (defs₀ (F := F)) 𝒱₀ (tile d L) none) Set.univ (k ⟨⟩) Q)
        -∗ wp frame (wpE (defs₀ (F := F)) 𝒱₀ (tile d L) none) Set.univ
          (Scf.Loop.for k1_t1_loop k1_t1_ok ⟨⟩
            (k1_t1_body L tV (Memref.isWhole_whole _) iV (Memref.isWhole_whole _) oV (Memref.isWhole_whole _) pV (Memref.isWhole_whole _)
              lV (Memref.isWhole_whole _) rV (Memref.isWhole_whole _) cV' (Memref.isWhole_whole _) nV (Memref.isWhole_whole _)
              cc1_scratch4 cc1_scoped0 cc1_scoped1 cc1_scoped2 lanes) >>= k) Q) := by
  iintro ⟨Hr, Hs, Hp⟩ Hk
  iapply Scf.wp_for_bind (Fr := frame) (wpE := wpE (defs₀ (F := F)) 𝒱₀ (tile d L) none) (Es := Set.univ) _ _ _ k1_t1_ok ⟨⟩ _
    (fun k u => loopInv d L r k u) (fun t u => trip d L r t u) $$ [Hr Hs Hp]
  · unfold loopInv
    isplitl [Hr]
    · iassumption
    isplitl [Hs]
    · iexists f
      isplitr
      · ipureintro
        intro y hy
        omega
      · iassumption
    · iexists g
      isplitr
      · ipureintro
        intro y hy
        omega
      · iassumption
  iintro %acc H
  unfold loopInv
  icases H with ⟨Hr, ⟨%f', %hf, Hs⟩, %g', %hg, Hp⟩
  have hf' : f' = scoresOf r := funext fun y => hf y (.inl (by
    have : (y 0).val < 5760 := (y 0).isLt
    show (y 0).val < 144 * k1_t1_loop.trips
    rw [trips_eq]; omega))
  have hg' : g' = predsOf r := funext fun y => hg y (by
    have : (y 0).val < 640 := (y 0).isLt
    show (y 0).val < 16 * k1_t1_loop.trips
    rw [trips_eq]; omega)
  subst hf' hg'
  iapply Hk
  isplitl [Hr]
  · iassumption
  isplitl [Hs] <;> iassumption

end Cert.Proof.Run

end
-- ==== Proof.Chunks.lean ====
/-
  The five gathers of a tile: each fetches 128 rows of the table, all five on one semaphore, the five waits after the last.
-/
module

public import proofs.«01_k».proof.Proof.Loop

@[expose] public section

noncomputable section

namespace Cert.Proof.Run

open Cert.KernelIdeal Cert.KernelIdeal.Gen

open Idealize.ShloMosaic
open Idealize.ShloMosaic.SparseCore (S V T gatherPayload)
open Idealize.ShloMosaic.SparseCore.Cfg (HIx Pay)
open Idealize.ShloMosaic.Transfers (Batch pending pending_zero)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)
open Cert.Proof.Gather

variable {F : FTy → Type} [FloatOps F]

local notation "𝕄" => MM F

variable (d : Dev nD) (L : grid1.Coords)

/-! ## The chunks as the tile addresses them -/

abbrev GX := gathers_S20488x16_S128x16

theorem inbR (p : Fin 5) : ∀ a, (![128 * p.val, 0] : Fin 2 → Nat) a + S128x16.size a ≤ S640x16.size a := by
  have := p.isLt
  intro a
  match a with
  | 0 => show 128 * p.val + 128 ≤ 640; omega
  | 1 => show 0 + 16 ≤ 16; omega
theorem inbL (p : Fin 5) : ∀ a, (![128 * p.val] : Fin 1 → Nat) a + S128.size a ≤ S640.size a := by
  have := p.isLt
  intro a
  match a with
  | 0 => show 128 * p.val + 128 ≤ 640; omega

/-- The table, as the gathers name it. -/
abbrev tS : Memref sig .scVector .hbm S20488x16 .f32 :=
  tV.slice (Rect.unit (s := S20488x16) ![0, 0] S20488x16.size inb_S20488x16_S20488x16_0_0) (fun _ => rfl)
/-- Chunk `p`'s rows and its list entries. -/
abbrev rS (p : Fin 5) : Memref sig .scVector .vmem S128x16 .f32 :=
  rV.slice (Rect.unit (s := S640x16) ![128 * p.val, 0] S128x16.size (inbR p)) (fun _ => rfl)
abbrev lS (p : Fin 5) : Memref sig .scVector .vmem S128 .i32 :=
  lV.slice (Rect.unit (s := S640) ![128 * p.val] S128.size (inbL p)) (fun _ => rfl)

theorem mem_rS (p : Fin 5) (y : S640x16.Idx) : y ∈ (rS p).view.set ↔ (y 0).val / 128 = p.val := by
  constructor
  · intro h
    obtain ⟨x, -, hx⟩ := Finset.mem_map.mp h
    have h0 : 128 * p.val + 1 * (x 0).val = (y 0).val := congrArg (fun z : S640x16.Idx => (z 0).val) hx
    have : (x 0).val < 128 := (x 0).isLt
    omega
  · intro h
    have hx : (y 0).val - 128 * p.val < 128 := by omega
    refine Finset.mem_map.mpr ⟨ix2 ⟨(y 0).val - 128 * p.val, hx⟩ (y 1), Finset.mem_univ _, funext fun a => Fin.ext ?_⟩
    match a with
    | 0 => show 128 * p.val + 1 * ((y 0).val - 128 * p.val) = (y 0).val; omega
    | 1 => show 0 + 1 * (y 1).val = (y 1).val; omega

theorem mem_lS (p : Fin 5) (y : S640.Idx) : y ∈ (lS p).view.set ↔ (y 0).val / 128 = p.val := by
  constructor
  · intro h
    obtain ⟨x, -, hx⟩ := Finset.mem_map.mp h
    have h0 : 128 * p.val + 1 * (x 0).val = (y 0).val := congrArg (fun z : S640.Idx => (z 0).val) hx
    have : (x 0).val < 128 := (x 0).isLt
    omega
  · intro h
    have hx : (y 0).val - 128 * p.val < 128 := by omega
    refine Finset.mem_map.mpr ⟨ix1 ⟨(y 0).val - 128 * p.val, hx⟩, Finset.mem_univ _, funext fun a => Fin.ext ?_⟩
    match a with
    | 0 => show 128 * p.val + 1 * ((y 0).val - 128 * p.val) = (y 0).val; omega

theorem set_tS : tS.view.set = Finset.univ := by
  refine Finset.eq_univ_of_forall fun y => Finset.mem_map.mpr ⟨y, Finset.mem_univ _, funext fun a => Fin.ext ?_⟩
  match a with
  | 0 => show 0 + 1 * (y 0).val = (y 0).val; omega
  | 1 => show 0 + 1 * (y 1).val = (y 1).val; omega

/-! ## What a chunk's gather leaves -/

theorem rowMajor_S128 (k : Fin S128.numel) : (S128.rowMajor.symm k 0).val = k.val := by
  have := Shape.rowMajor_val_one (S128.rowMajor.symm k)
  rw [← this]
  exact congrArg Fin.val (S128.rowMajor.apply_symm_apply k)

theorem list_in_range (w : IVec S640 32) (hw : ∀ y, (w y).toNat < 20488) (p : Fin 5) :
    ∀ x, ((lS p).view.read (Elt F) (w : Vec F S640 .i32) x).toNat < S20488x16.size GX.axis := fun x => hw _

theorem chunk_value (tab : Vec F S20488x16 .f32) (w : IVec S640 32) (hw : ∀ y, (w y).toNat < 20488) (p : Fin 5)
    (fd : Vec F S640x16 .f32) :
    ∀ y ∈ (rS p).view.set, (rS p).view.write (Elt F) fd
      (gatherPayload GX (tS.view.read (Elt F) tab)
        (SparseCore.rows (o := S128x16.size GX.axis') ((lS p).view.read (Elt F) (w : Vec F S640 .i32)) rfl (list_in_range (F := F) w hw p))) Finset.univ y
      = rowsOf tab w y := by
  intro y hy
  obtain ⟨x, -, rfl⟩ := Finset.mem_map.mp hy
  rw [View.write_emb_of_mem (Val := Elt F) (v := (rS p).view) _ _ (M := Finset.univ) (Finset.mem_univ x)]
  have hx : (x 0).val < 128 := (x 0).isLt
  have hp := p.isLt
  have hk : (S128.rowMajor.symm (Fin.cast (rfl : S128x16.size GX.axis' = S128.numel) (x GX.axis')) 0).val = (x 0).val :=
    rowMajor_S128 _
  have hlist : (lS p).view.emb (S128.rowMajor.symm (Fin.cast (rfl : S128x16.size GX.axis' = S128.numel) (x GX.axis')))
      = ix1 (n := 640) ((rS p).view.emb x 0) := by
    funext a
    refine Fin.ext ?_
    match a with
    | 0 =>
      show 128 * p.val + 1 * (S128.rowMajor.symm (Fin.cast (rfl : S128x16.size GX.axis' = S128.numel) (x GX.axis')) 0).val
        = 128 * p.val + 1 * (x 0).val
      rw [hk]
  show tab (tS.view.emb (GX.idx _ x)) = tab (ix2 ⟨(w (ix1 ((rS p).view.emb x 0))).toNat % 20488, _⟩ ((rS p).view.emb x 1))
  refine congrArg tab (funext fun a => Fin.ext ?_)
  match a with
  | 0 =>
    show 0 + 1 * (GX.idx _ x GX.axis).val = (w (ix1 ((rS p).view.emb x 0))).toNat % 20488
    rw [Shape.Gathers.idx_axis, Nat.mod_eq_of_lt (hw _), Nat.zero_add, Nat.one_mul]
    show (w ((lS p).view.emb (S128.rowMajor.symm (Fin.cast (rfl : S128x16.size GX.axis' = S128.numel) (x GX.axis'))))).toNat = _
    rw [hlist]
  | 1 =>
    show 0 + 1 * (GX.idx _ x 1).val = 0 + 1 * (x 1).val
    rw [Shape.Gathers.idx_of_ne GX _ x 1 (by decide)]
    rfl

/-! ## The deliveries -/

theorem five_pos : 0 < 5 := by decide
theorem rows_pos : 0 < S128x16.size GX.axis' := by decide

/-- What row `j` of chunk `p` hands back: its row, holding its part of the gathered rows; its list entry; its piece of the table's share. -/
def chunkRow (q : PosShare TreeShare) (tab : Vec F S20488x16 .f32) (w : IVec S640 32) (p : Fin 5) (j : Fin 128) : sProp 𝕄 :=
  landedRow (tile d L) tS (rS p) GX (lS p) rfl rows_pos (pieceOf q 5 five_pos p) fullShare tab (w : Vec F S640 .i32) (rowsOf tab w) j

/-- Delivery `t` of the 640. -/
def deliv (q : PosShare TreeShare) (tab : Vec F S20488x16 .f32) (w : IVec S640 32) (t : Fin 640) : sProp 𝕄 :=
  chunkRow d L q tab w ⟨t.val / 128, by have := t.isLt; omega⟩ ⟨t.val % 128, Nat.mod_lt _ (by decide)⟩

instance deliv_storable (q : PosShare TreeShare) (tab : Vec F S20488x16 .f32) (w : IVec S640 32) (t : Fin 640) :
    BI.Storable (upEmb : UEmb _ 𝕄) (deliv d L q tab w t) := by
  unfold deliv chunkRow; exact landedRow_storable _ _ _ _ _ _ _ _ _ _ _ _ _

theorem deliv_chunk (q : PosShare TreeShare) (tab : Vec F S20488x16 .f32) (w : IVec S640 32) (p : Fin 5) (j : Fin 128)
    (h : 128 * p.val + j.val < 640) : deliv d L q tab w ⟨128 * p.val + j.val, h⟩ = chunkRow d L q tab w p j := by
  have h1 : (128 * p.val + j.val) / 128 = p.val := by have := j.isLt; omega
  have h2 : (128 * p.val + j.val) % 128 = j.val := by have := j.isLt; omega
  exact congrArg₂ (chunkRow d L q tab w) (Fin.ext h1) (Fin.ext h2)

/-- The batch of the five gathers, `k` rows issued and `u` units consumed. -/
def gathering (q : PosShare TreeShare) (tab : Vec F S20488x16 .f32) (w : IVec S640 32) (k u : ℕ) : sProp 𝕄 :=
  Batch countersEmb (tile d L) (.dma cc1_scratch4.sem) (default : HIx 1) 512 (deliv d L q tab w) k u

theorem chunk_credit : cc1_scratch1.dmaCredit S128x16 .f32 = 128 * 512 := by decide +kernel

section Steps

variable {α : Type} (Q : α → sProp (MM F))

/-- What chunk `p`'s issue takes. -/
def chunkIn (q : PosShare TreeShare) (tab : Vec F S20488x16 .f32) (w : IVec S640 32) (fd : Vec F S640x16 .f32) (p : Fin 5) : sProp 𝕄 :=
  iprop((tS.view.loc (tile d L) ↦[tS.view.set]{pieceOf q 5 five_pos p} tab)
    ∗ ((rS p).view.loc (tile d L) ↦[(rS p).view.set]{fullShare} fd)
    ∗ ((lS p).view.loc (tile d L) ↦[(lS p).view.set]{fullShare} (w : Vec F S640 .i32)))

theorem wp_issue (q : PosShare TreeShare) (tab : Vec F S20488x16 .f32) (w : IVec S640 32) (hw : ∀ y, (w y).toNat < 20488)
    (fd : Vec F S640x16 .f32) (p : Fin 5) (o : ℕ) (ho : o = 128 * p.val)
    (h₁ : ∀ a, (![o, 0] : Fin 2 → Nat) a + S128x16.size a ≤ S640x16.size a)
    (h₂ : ∀ a, (![o] : Fin 1 → Nat) a + S128.size a ≤ S640.size a)
    (hp : (tile d L).2.kind = .scVector) (hsrc : tS.view.WordExact) (he : EltTy.f32.bits = 32) (hsp : Space.hbm = .hbm ∨ Space.hbm = .shared)
    (hr : S20488x16.StreamRows 0)
    (k : PUnit → Prog (TpuEff nD τ sig (Elt F) Λ₀ (tile d L).2) α) :
    iprop(chunkIn d L q tab w fd p ∗ gathering d L q tab w o 0)
      ⊢ iprop((gathering d L q tab w (o + 128) 0 -∗ wp frame (wpE (defs₀ (F := F)) 𝒱₀ (tile d L) none) Set.univ (k ⟨⟩) Q)
        -∗ wp frame (wpE (defs₀ (F := F)) 𝒱₀ (tile d L) none) Set.univ
            (SparseCore.enqueueIndirectGather hp tS
              (rV.slice (Rect.unit (s := S640x16) ![o, 0] S128x16.size h₁) (fun _ => rfl)) GX
              (lV.slice (Rect.unit (s := S640) ![o] S128.size h₂) (fun _ => rfl)) rfl cc1_scratch4.sem hsrc he hsp hr >>= k) Q) := by
  subst ho
  have hlt := p.isLt
  have hb := wp_gatherIntoBatch (defs := defs₀ (F := F)) (Q := Q) countersEmb 𝒱₀ (tile d L) none (src := tS) (dst := rS p) (hg := GX)
    (offs := lS p) (hn := rfl) (sem := cc1_scratch4.sem) (hp := hp) (hsrc := hsrc) (he := he) (hsp := hsp) (hr := hr) (kk := k)
    (q := pieceOf q 5 five_pos p) (qo := fullShare) (fs := tab) (fd := fd) (fo := (w : Vec F S640 .i32))
    (D := deliv d L q tab w) (default : HIx 1) 512 (128 * p.val) (by intro j; rfl) rows_pos
    (by show 128 * p.val + 128 ≤ 640; omega) (list_in_range w hw p)
    (fun j => by
      refine BI.Entails.trans ?_ (Entails.of_eq (deliv_chunk d L q tab w p j (by have : j.val < 128 := j.isLt; omega)).symm)
      unfold chunkRow landedRow
      rw [pointsTo_congr (fun i hi => chunk_value tab w hw p fd i (by
        obtain ⟨x, -, rfl⟩ := Finset.mem_map.mp hi
        exact Finset.mem_map.mpr ⟨_, Finset.mem_univ _, rfl⟩))]
      exact BI.Entails.refl _)
  unfold chunkIn gathering
  iintro ⟨⟨H₁, H₂, H₃⟩, H₄⟩
  iapply hb
  isplitl [H₁]
  · iassumption
  isplitl [H₂]
  · iassumption
  isplitl [H₃] <;> iassumption

/-- A wait that is not the last. -/
theorem wp_wait_chunk (q : PosShare TreeShare) (tab : Vec F S20488x16 .f32) (w : IVec S640 32) (u : ℕ) (hu : u + 128 * 512 ≤ 512 * 640)
    (O : CellTallies nD τ sig (HIx 1)) (W : Waits sig (HIx 1)) (o : ℕ)
    (h₁ : ∀ a, (![o, 0] : Fin 2 → Nat) a + S128x16.size a ≤ S640x16.size a)
    (hsrc : tS.view.WordExact) (hdst : (rV.slice (Rect.unit (s := S640x16) ![o, 0] S128x16.size h₁) (fun _ => rfl)).view.WordExact)
    (k : PUnit → Prog (TpuEff nD τ sig (Elt F) Λ₀ (tile d L).2) α) :
    iprop(gathering d L q tab w 640 u ∗ owes (tile d L) O W ∗ MayWait (tile d L) (.dma cc1_scratch4.sem) (default : HIx 1) O)
      ⊢ iprop((iprop(gathering d L q tab w 640 (u + 128 * 512)
            ∗ owes (tile d L) O (insert (.dma cc1_scratch4.sem, (default : HIx 1)) W))
          -∗ wp frame (wpE (defs₀ (F := F)) 𝒱₀ (tile d L) none) Set.univ (k ⟨⟩) Q)
        -∗ wp frame (wpE (defs₀ (F := F)) 𝒱₀ (tile d L) none) Set.univ
            (SparseCore.waitIndirectGather cc1_scratch4.sem tS
              (rV.slice (Rect.unit (s := S640x16) ![o, 0] S128x16.size h₁) (fun _ => rfl)) hsrc hdst >>= k) Q) :=
  Transfers.wp_waitBatchMulO (defs := defs₀ (F := F)) (Q := Q) countersEmb 𝒱₀ (tile d L) none (default : HIx 1) 128 chunk_credit hu

/-- The last wait: every row has landed. -/
theorem wp_wait_last (q : PosShare TreeShare) (tab : Vec F S20488x16 .f32) (w : IVec S640 32) (u : ℕ) (hu : u + 128 * 512 = 512 * 640)
    (O : CellTallies nD τ sig (HIx 1)) (W : Waits sig (HIx 1)) (o : ℕ)
    (h₁ : ∀ a, (![o, 0] : Fin 2 → Nat) a + S128x16.size a ≤ S640x16.size a)
    (hsrc : tS.view.WordExact) (hdst : (rV.slice (Rect.unit (s := S640x16) ![o, 0] S128x16.size h₁) (fun _ => rfl)).view.WordExact)
    (k : PUnit → Prog (TpuEff nD τ sig (Elt F) Λ₀ (tile d L).2) α) :
    iprop(gathering d L q tab w 640 u ∗ owes (tile d L) O W ∗ MayWait (tile d L) (.dma cc1_scratch4.sem) (default : HIx 1) O)
      ⊢ iprop((iprop((bigSep Finset.univ (deliv d L q tab w)) ∗ semVal (tile d L, .dma cc1_scratch4.sem) 0
            ∗ owes (tile d L) O (insert (.dma cc1_scratch4.sem, (default : HIx 1)) W))
          -∗ wp frame (wpE (defs₀ (F := F)) 𝒱₀ (tile d L) none) Set.univ (k ⟨⟩) Q)
        -∗ wp frame (wpE (defs₀ (F := F)) 𝒱₀ (tile d L) none) Set.univ
            (SparseCore.waitIndirectGather cc1_scratch4.sem tS
              (rV.slice (Rect.unit (s := S640x16) ![o, 0] S128x16.size h₁) (fun _ => rfl)) hsrc hdst >>= k) Q) :=
  Transfers.wp_waitBatchAllO (defs := defs₀ (F := F)) (Q := Q) countersEmb 𝒱₀ (tile d L) none (default : HIx 1) (J := 128 * 512) chunk_credit (by decide) hu

end Steps

/-! ## All chunks together -/

theorem bigSep_five (Φ : Fin 5 → sProp 𝕄) : bigSep Finset.univ Φ = iprop(Φ 0 ∗ Φ 1 ∗ Φ 2 ∗ Φ 3 ∗ Φ 4) := by
  rw [bigSep_univ_succ, bigSep_univ_succ, bigSep_univ_succ, bigSep_univ_succ,
    BI.bigSep_univ_of_subsingleton (0 : Fin 1)]
  rfl

theorem rS_disjoint : ∀ t ∈ (Finset.univ : Finset (Fin 5)), ∀ t' ∈ (Finset.univ : Finset (Fin 5)), t ≠ t' →
    Disjoint ((rS t).view.set : Finset S640x16.Idx) (rS t').view.set := by
  intro t _ t' _ hne
  rw [Finset.disjoint_left]
  intro y h h'
  exact hne (Fin.ext (((mem_rS t y).mp h).symm.trans ((mem_rS t' y).mp h')))

theorem rS_cover : (Finset.univ : Finset (Fin 5)).biUnion (fun p => (show Finset S640x16.Idx from (rS p).view.set)) = Finset.univ := by
  refine Finset.eq_univ_of_forall fun y => ?_
  have : (y 0).val < 640 := (y 0).isLt
  exact Finset.mem_biUnion.mpr ⟨⟨(y 0).val / 128, by omega⟩, Finset.mem_univ _, (mem_rS _ y).mpr rfl⟩

theorem lS_disjoint : ∀ t ∈ (Finset.univ : Finset (Fin 5)), ∀ t' ∈ (Finset.univ : Finset (Fin 5)), t ≠ t' →
    Disjoint ((lS t).view.set : Finset S640.Idx) (lS t').view.set := by
  intro t _ t' _ hne
  rw [Finset.disjoint_left]
  intro y h h'
  exact hne (Fin.ext (((mem_lS t y).mp h).symm.trans ((mem_lS t' y).mp h')))

theorem lS_cover : (Finset.univ : Finset (Fin 5)).biUnion (fun p => (show Finset S640.Idx from (lS p).view.set)) = Finset.univ := by
  refine Finset.eq_univ_of_forall fun y => ?_
  have : (y 0).val < 640 := (y 0).isLt
  exact Finset.mem_biUnion.mpr ⟨⟨(y 0).val / 128, by omega⟩, Finset.mem_univ _, (mem_lS _ y).mpr rfl⟩

theorem rows_pieces (f : Vec F S640x16 .f32) :
    rowsAt d L f = bigSep Finset.univ fun p : Fin 5 => ((tile d L).loc cc1_scratch1 ↦[(rS p).view.set]{fullShare} f : sProp 𝕄) :=
  (congrArg (fun I : Finset S640x16.Idx => ((tile d L).loc cc1_scratch1 ↦[I]{fullShare} f : sProp 𝕄)) rS_cover.symm).trans
    (pointsTo_biUnion (ℓ := (tile d L).loc cc1_scratch1) (q := fullShare) (f := f) Finset.univ _ rS_disjoint)

/-- The list, held at `w`. -/
def listAt (w : IVec S640 32) : sProp 𝕄 := (tile d L).loc cc1_scratch0 ↦{fullShare} (w : Vec F S640 .i32)

theorem list_pieces' (w : Vec F S640 .i32) :
    ((tile d L).loc cc1_scratch0 ↦{fullShare} w : sProp 𝕄)
      = bigSep Finset.univ fun p : Fin 5 => ((tile d L).loc cc1_scratch0 ↦[(lS p).view.set]{fullShare} w : sProp 𝕄) :=
  (congrArg (fun I : Finset S640.Idx => ((tile d L).loc cc1_scratch0 ↦[I]{fullShare} w : sProp 𝕄)) lS_cover.symm).trans
    (pointsTo_biUnion (ℓ := (tile d L).loc cc1_scratch0) (q := fullShare) (f := w) Finset.univ _ lS_disjoint)

theorem list_pieces (w : IVec S640 32) :
    listAt (F := F) d L w
      = bigSep Finset.univ fun p : Fin 5 => ((tile d L).loc cc1_scratch0 ↦[(lS p).view.set]{fullShare} (w : Vec F S640 .i32) : sProp 𝕄) :=
  list_pieces' d L w

theorem table_pieces (q : PosShare TreeShare) (tab : Vec F S20488x16 .f32) :
    (tLoc d ↦{q} tab : sProp 𝕄)
      = bigSep Finset.univ fun p : Fin 5 => (tS.view.loc (tile d L) ↦[tS.view.set]{pieceOf q 5 five_pos p} tab : sProp 𝕄) := by
  rw [set_tS]
  exact pointsTo_piecesOf (ℓ := tLoc d) Finset.univ tab five_pos q

/-- Before the gathers: every chunk's part. -/
theorem chunks_open (q : PosShare TreeShare) (tab : Vec F S20488x16 .f32) (w : IVec S640 32) (fd : Vec F S640x16 .f32) :
    iprop((tLoc d ↦{q} tab) ∗ rowsAt d L fd ∗ listAt (F := F) d L w) ⊢ bigSep Finset.univ (chunkIn d L q tab w fd) := by
  rw [table_pieces d L, rows_pieces, list_pieces]
  unfold chunkIn
  rw [bigSep_sep', bigSep_sep']

/-- After them: the gathered rows, the list and the table's share. -/
theorem chunks_close (q : PosShare TreeShare) (tab : Vec F S20488x16 .f32) (w : IVec S640 32) :
    (bigSep Finset.univ (deliv d L q tab w)) ⊢ iprop((tLoc d ↦{q} tab) ∗ rowsAt d L (rowsOf tab w) ∗ listAt (F := F) d L w) := by
  have hall : (bigSep Finset.univ (deliv d L q tab w))
      = bigSep Finset.univ fun p : Fin 5 => bigSep Finset.univ fun j : Fin 128 => chunkRow d L q tab w p j := by
    rw [← BI.bigSep_univ_prod (fun x : Fin 5 × Fin 128 => chunkRow d L q tab w x.1 x.2),
      BI.bigSep_univ_equiv (finProdFinEquiv (m := 5) (n := 128)) (deliv d L q tab w)]
    refine BI.bigSep_congr fun x _ => ?_
    have h := deliv_chunk d L q tab w x.1 x.2 (by have := x.1.isLt; have := x.2.isLt; omega)
    refine Eq.trans (congrArg (deliv d L q tab w) (Fin.ext ?_)) h
    show x.2.val + 128 * x.1.val = 128 * x.1.val + x.2.val
    omega
  rw [hall, table_pieces d L, rows_pieces, list_pieces, ← bigSep_sep', ← bigSep_sep']
  refine BI.bigSep_mono fun p _ => ?_
  refine (landedRows_join (tile d L) tS (rS p) GX (lS p) rfl rows_pos (pieceOf q 5 five_pos p) fullShare tab (w : Vec F S640 .i32) (rowsOf tab w)).trans ?_
  iintro ⟨H₁, H₂, H₃⟩
  isplitl [H₂]
  · iassumption
  isplitl [H₁] <;> iassumption

end Cert.Proof.Run

end
-- ==== Proof.Tile.lean ====
/-
  A tile's task, run: the list's part is fetched, its rows are gathered from the table, the loop moves the scores and the class
  numbers out of them, and both are written to the tile's parts of the outputs.
-/
module

public import proofs.«01_k».proof.Proof.Chunks

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownSems0 ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MM F

variable (d : Dev nD) (L : grid1.Coords)

/-! ## The tile's parts of the arrays -/

/-- The tile's number: its list entries are those of batch `wid / 8`, the `wid % 8`-th 640 of them. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

theorem off1_eq : ∀ i : grid1.Coords, k1_off1 i = ![wid i / 8, wid i % 8 * 640] := by decide +kernel
theorem off3_eq : ∀ i : grid1.Coords, k1_off3 i = ![wid i / 8, wid i % 8 * 5760] := by decide +kernel
theorem off4_eq : ∀ i : grid1.Coords, k1_off4 i = ![wid i / 8, wid i % 8 * 640] := by decide +kernel

abbrev iK : Memref sig .scVector .hbm S640 .i32 :=
  (iV.slice (Rect.unit (s := S4x5120) (k1_off1 L) S1x640.size (k1_off1_inb L)) (fun _ => rfl)).squeeze S640 squeezes_S1x640_S640
abbrev sK : Memref sig .scVector .hbm S5760 .f32 :=
  (oV.slice (Rect.unit (s := S4x46080) (k1_off3 L) S1x5760.size (k1_off3_inb L)) (fun _ => rfl)).squeeze S5760 squeezes_S1x5760_S5760
abbrev pK : Memref sig .scVector .hbm S640 .i32 :=
  (pV.slice (Rect.unit (s := S4x5120) (k1_off4 L) S1x640.size (k1_off4_inb L)) (fun _ => rfl)).squeeze S640 squeezes_S1x640_S640

theorem flat_640 (x : S640.Idx) : Shape.reshapeEquiv squeezes_S1x640_S640.numel_eq x = (ix2 (0 : Fin 1) (x 0) : S1x640.Idx) := by
  apply Shape.reshapeEquiv_eq_of_rowMajor
  rw [show ((S640.rowMajor x : Fin _) : ℕ) = (x 0).val from Shape.rowMajor_val_one x,
    show ((S1x640.rowMajor (ix2 (0 : Fin 1) (x 0)) : Fin _) : ℕ) = _ from Shape.rowMajor_val_two _]
  show 0 * 640 + (x 0).val = (x 0).val
  omega

theorem flat_5760 (x : S5760.Idx) : Shape.reshapeEquiv squeezes_S1x5760_S5760.numel_eq x = (ix2 (0 : Fin 1) (x 0) : S1x5760.Idx) := by
  apply Shape.reshapeEquiv_eq_of_rowMajor
  rw [show ((S5760.rowMajor x : Fin _) : ℕ) = (x 0).val from Shape.rowMajor_val_one x,
    show ((S1x5760.rowMajor (ix2 (0 : Fin 1) (x 0)) : Fin _) : ℕ) = _ from Shape.rowMajor_val_two _]
  show 0 * 5760 + (x 0).val = (x 0).val
  omega

/-- List entry `x` of the tile among a batch's 5120. -/
def at640 (x : Fin 640) : Fin 5120 := ⟨wid L % 8 * 640 + x.val, by have := x.isLt; omega⟩
/-- Score `x` of the tile among a batch's 46080. -/
def at5760 (x : Fin 5760) : Fin 46080 := ⟨wid L % 8 * 5760 + x.val, by have := x.isLt; omega⟩
/-- The tile's batch. -/
def batch : Fin 4 := ⟨wid L / 8, by have := wid_lt L; omega⟩

theorem emb_iK (x : S640.Idx) : (iK L).view.emb x = (ix2 (batch L) (at640 L (x 0)) : S4x5120.Idx) := by
  show iV.view.emb ((Rect.unit (s := S4x5120) (k1_off1 L) S1x640.size (k1_off1_inb L)).emb (Shape.reshapeEquiv squeezes_S1x640_S640.numel_eq x)) = _
  rw [flat_640]
  funext a
  refine Fin.ext ?_
  match a with
  | 0 =>
    show k1_off1 L 0 + 1 * 0 = wid L / 8
    rw [off1_eq]; rfl
  | 1 =>
    show k1_off1 L 1 + 1 * (x 0).val = wid L % 8 * 640 + (x 0).val
    rw [off1_eq, Nat.one_mul]; rfl

theorem emb_pK (x : S640.Idx) : (pK L).view.emb x = (ix2 (batch L) (at640 L (x 0)) : S4x5120.Idx) := by
  show pV.view.emb ((Rect.unit (s := S4x5120) (k1_off4 L) S1x640.size (k1_off4_inb L)).emb (Shape.reshapeEquiv squeezes_S1x640_S640.numel_eq x)) = _
  rw [flat_640]
  funext a
  refine Fin.ext ?_
  match a with
  | 0 =>
    show k1_off4 L 0 + 1 * 0 = wid L / 8
    rw [off4_eq]; rfl
  | 1 =>
    show k1_off4 L 1 + 1 * (x 0).val = wid L % 8 * 640 + (x 0).val
    rw [off4_eq, Nat.one_mul]; rfl

theorem emb_sK (x : S5760.Idx) : (sK L).view.emb x = (ix2 (batch L) (at5760 L (x 0)) : S4x46080.Idx) := by
  show oV.view.emb ((Rect.unit (s := S4x46080) (k1_off3 L) S1x5760.size (k1_off3_inb L)).emb (Shape.reshapeEquiv squeezes_S1x5760_S5760.numel_eq x)) = _
  rw [flat_5760]
  funext a
  refine Fin.ext ?_
  match a with
  | 0 =>
    show k1_off3 L 0 + 1 * 0 = wid L / 8
    rw [off3_eq]; rfl
  | 1 =>
    show k1_off3 L 1 + 1 * (x 0).val = wid L % 8 * 5760 + (x 0).val
    rw [off3_eq, Nat.one_mul]; rfl

theorem mem_of_emb640 {y : S4x5120.Idx} (h0 : (y 0).val = wid L / 8) (h1 : (y 1).val / 640 = wid L % 8) :
    ∃ x : S640.Idx, (ix2 (batch L) (at640 L (x 0)) : S4x5120.Idx) = y := by
  refine ⟨ix1 ⟨(y 1).val % 640, Nat.mod_lt _ (by decide)⟩, funext fun a => Fin.ext ?_⟩
  match a with
  | 0 => exact h0.symm
  | 1 => show wid L % 8 * 640 + (y 1).val % 640 = (y 1).val; omega

theorem mem_iK (y : S4x5120.Idx) : y ∈ (iK L).view.set ↔ (y 0).val = wid L / 8 ∧ (y 1).val / 640 = wid L % 8 := by
  constructor
  · intro h
    obtain ⟨x, -, rfl⟩ := Finset.mem_map.mp h
    rw [emb_iK]
    have hx : (x 0).val < 640 := (x 0).isLt
    refine ⟨rfl, ?_⟩
    show (wid L % 8 * 640 + (x 0).val) / 640 = wid L % 8
    omega
  · rintro ⟨h0, h1⟩
    obtain ⟨x, hx⟩ := mem_of_emb640 L h0 h1
    exact Finset.mem_map.mpr ⟨x, Finset.mem_univ _, (emb_iK L x).trans hx⟩

theorem mem_pK (y : S4x5120.Idx) : y ∈ (pK L).view.set ↔ (y 0).val = wid L / 8 ∧ (y 1).val / 640 = wid L % 8 := by
  constructor
  · intro h
    obtain ⟨x, -, rfl⟩ := Finset.mem_map.mp h
    rw [emb_pK]
    have hx : (x 0).val < 640 := (x 0).isLt
    refine ⟨rfl, ?_⟩
    show (wid L % 8 * 640 + (x 0).val) / 640 = wid L % 8
    omega
  · rintro ⟨h0, h1⟩
    obtain ⟨x, hx⟩ := mem_of_emb640 L h0 h1
    exact Finset.mem_map.mpr ⟨x, Finset.mem_univ _, (emb_pK L x).trans hx⟩

theorem mem_sK (y : S4x46080.Idx) : y ∈ (sK L).view.set ↔ (y 0).val = wid L / 8 ∧ (y 1).val / 5760 = wid L % 8 := by
  constructor
  · intro h
    obtain ⟨x, -, rfl⟩ := Finset.mem_map.mp h
    rw [emb_sK]
    have hx : (x 0).val < 5760 := (x 0).isLt
    refine ⟨rfl, ?_⟩
    show (wid L % 8 * 5760 + (x 0).val) / 5760 = wid L % 8
    omega
  · rintro ⟨h0, h1⟩
    refine Finset.mem_map.mpr ⟨ix1 ⟨(y 1).val % 5760, Nat.mod_lt _ (by decide)⟩, Finset.mem_univ _, (emb_sK L _).trans (funext fun a => Fin.ext ?_)⟩
    match a with
    | 0 => exact h0.symm
    | 1 => show wid L % 8 * 5760 + (y 1).val % 5760 = (y 1).val; omega

/-! ## What the copies carry -/

/-- The tile's part of the list. -/
def listOf (idx : IVec S4x5120 32) : IVec S640 32 := fun x => idx (ix2 (batch L) (at640 L (x 0)))

theorem read_list (idx : IVec S4x5120 32) : (iK L).view.read (Elt F) (idx : Vec F S4x5120 .i32) = (listOf L idx : Vec F S640 .i32) :=
  funext fun x => congrArg idx (emb_iK L x)

theorem emb_whole {s : Shape} (x : s.Idx) : (Rect.whole s).emb x = x :=
  funext fun a => Fin.ext (by show 0 + 1 * (x a).val = (x a).val; omega)

theorem write_preds (tab : Vec F S20488x16 .f32) (idx : IVec S4x5120 32) (g : IVec S4x5120 32) :
    ∀ y ∈ (pK L).view.set, (pK L).view.writes (Elt F) (g : Vec F S4x5120 .i32)
      [⟨Rect.whole S640, (predsOf (rowsOf tab (listOf L idx)) : Vec F S640 .i32)⟩] y = predsOut tab idx y := by
  intro y hy
  obtain ⟨x, -, rfl⟩ := Finset.mem_map.mp hy
  have e : ((pK L).view.slice (Rect.whole S640)).emb x = (pK L).view.emb x := congrArg (pK L).view.emb (emb_whole x)
  rw [View.writes_cons, ← e, View.write_emb_of_mem (Val := Elt F) (v := (pK L).view.slice (Rect.whole S640)) _ _ (M := Finset.univ) (Finset.mem_univ x), e, emb_pK]
  rfl

theorem write_scores (tab : Vec F S20488x16 .f32) (idx : IVec S4x5120 32) (g : Vec F S4x46080 .f32) :
    ∀ y ∈ (sK L).view.set, (sK L).view.writes (Elt F) g
      [⟨Rect.whole S5760, scoresOf (rowsOf tab (listOf L idx))⟩] y = scoresOut tab idx y := by
  intro y hy
  obtain ⟨x, -, rfl⟩ := Finset.mem_map.mp hy
  have e : ((sK L).view.slice (Rect.whole S5760)).emb x = (sK L).view.emb x := congrArg (sK L).view.emb (emb_whole x)
  rw [View.writes_cons, ← e, View.write_emb_of_mem (Val := Elt F) (v := (sK L).view.slice (Rect.whole S5760)) _ _ (M := Finset.univ) (Finset.mem_univ x), e, emb_sK]
  have hx : (x 0).val < 5760 := (x 0).isLt
  show entry tab (idx (ix2 (batch L) (at640 L ⟨(x 0).val / 9, _⟩))) ⟨(x 0).val % 9, _⟩
    = entry tab (idx (ix2 (batch L) ⟨(wid L % 8 * 5760 + (x 0).val) / 9, _⟩)) ⟨(wid L % 8 * 5760 + (x 0).val) % 9, _⟩
  have h1 : at640 L ⟨(x 0).val / 9, by omega⟩ = ⟨(wid L % 8 * 5760 + (x 0).val) / 9, by omega⟩ := Fin.ext (by
    show wid L % 8 * 640 + (x 0).val / 9 = (wid L % 8 * 5760 + (x 0).val) / 9; omega)
  have h2 : (⟨(x 0).val % 9, by omega⟩ : Fin 16) = ⟨(wid L % 8 * 5760 + (x 0).val) % 9, by omega⟩ := Fin.ext (by
    show (x 0).val % 9 = (wid L % 8 * 5760 + (x 0).val) % 9; omega)
  rw [h1, h2]

/-! ## The tile's own memory and semaphores -/

abbrev cell (s : SemLoc sig) : GSem nD τ sig := (tile d L, s)

theorem ownSems0_tile :
    (ownSems0 (tile d L) : sProp 𝕄)
      = iprop(semVal (cell d L (.dma cc1_scratch4.sem)) 0 ∗ semVal (cell d L (.dma cc1_scoped0.sem)) 0
          ∗ semVal (cell d L (.dma cc1_scoped1.sem)) 0 ∗ semVal (cell d L (.dma cc1_scoped2.sem)) 0
          ∗ bigSep (((((SparseCore.Cfg.ownCells (tile d L)).erase (cell d L (.dma cc1_scratch4.sem))).erase (cell d L (.dma cc1_scoped0.sem))).erase
              (cell d L (.dma cc1_scoped1.sem))).erase (cell d L (.dma cc1_scoped2.sem))) fun g => semVal g 0) := by
  unfold SparseCore.Cfg.ownSems0
  have hs (s : SemLoc sig) (h : s.isScoped .scVector = true) : cell d L s ∈ SparseCore.Cfg.ownCells (tile d L) :=
    SparseCore.Cfg.mem_ownCells.mpr ⟨rfl, h⟩
  have hne {s s' : SemLoc sig} (h : s ≠ s') : cell d L s ≠ cell d L s' := fun e => h (congrArg Prod.snd e)
  rw [SparseCore.bigSep_erase' (hs (.dma cc1_scratch4.sem) (by decide)),
    SparseCore.bigSep_erase' (Finset.mem_erase.mpr ⟨hne (by decide), hs (.dma cc1_scoped0.sem) (by decide)⟩),
    SparseCore.bigSep_erase' (Finset.mem_erase.mpr ⟨hne (by decide), Finset.mem_erase.mpr ⟨hne (by decide), hs (.dma cc1_scoped1.sem) (by decide)⟩⟩),
    SparseCore.bigSep_erase' (Finset.mem_erase.mpr ⟨hne (by decide), Finset.mem_erase.mpr ⟨hne (by decide),
      Finset.mem_erase.mpr ⟨hne (by decide), hs (.dma cc1_scoped2.sem) (by decide)⟩⟩⟩)]

abbrev own (r : Ref sig .scVector) : DevRef τ sig := (Proc.scVector (cI L) (jI L)).devRef r

theorem ownBufs_tile :
    (ownBufs (tile d L) : sProp 𝕄)
      = iprop((∃ f, (tile d L).loc cc1_scratch0 ↦{fullShare} f) ∗ (∃ f, (tile d L).loc cc1_scratch1 ↦{fullShare} f)
          ∗ (∃ f, (tile d L).loc cc1_scratch2 ↦{fullShare} f) ∗ (∃ f, (tile d L).loc cc1_scratch3 ↦{fullShare} f)
          ∗ bigSep (((((ownRefs (τ := τ) (.scVector (cI L) (jI L))).erase (own L cc1_scratch0)).erase (own L cc1_scratch1)).erase
              (own L cc1_scratch2)).erase (own L cc1_scratch3))
              fun b => iprop(∃ f, ((d, b) : Loc nD τ sig) ↦{fullShare} f)) := by
  unfold SparseCore.Cfg.ownBufs
  have hne {r r' : Ref sig .scVector} (h : r ≠ r') : own L r ≠ own L r' := fun e => h (Proc.devRef_injective _ e)
  have m0 : own L cc1_scratch0 ∈ ownRefs (τ := τ) (.scVector (cI L) (jI L)) := SparseCore.Cfg.mem_ownRefs_of_owner rfl
  have m1 : own L cc1_scratch1 ∈ ownRefs (τ := τ) (.scVector (cI L) (jI L)) := SparseCore.Cfg.mem_ownRefs_of_owner rfl
  have m2 : own L cc1_scratch2 ∈ ownRefs (τ := τ) (.scVector (cI L) (jI L)) := SparseCore.Cfg.mem_ownRefs_of_owner rfl
  have m3 : own L cc1_scratch3 ∈ ownRefs (τ := τ) (.scVector (cI L) (jI L)) := SparseCore.Cfg.mem_ownRefs_of_owner rfl
  refine (SparseCore.bigSep_erase' m0).trans ?_
  rw [SparseCore.bigSep_erase' (Finset.mem_erase.mpr ⟨hne (by decide), m1⟩),
    SparseCore.bigSep_erase' (Finset.mem_erase.mpr ⟨hne (by decide), Finset.mem_erase.mpr ⟨hne (by decide), m2⟩⟩),
    SparseCore.bigSep_erase' (Finset.mem_erase.mpr ⟨hne (by decide), Finset.mem_erase.mpr ⟨hne (by decide),
      Finset.mem_erase.mpr ⟨hne (by decide), m3⟩⟩⟩)]

end Cert.Proof.Run

end
-- ==== Proof.Body.lean ====
/-
  One tile's task from start to end, over its parts of the arrays.
-/
module

public import proofs.«01_k».proof.Proof.Tile

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay ownSems0 ownBufs ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MM F

variable (d : Dev nD) (L : grid1.Coords) (q : PosShare TreeShare) (tab : Vec F S20488x16 .f32) (idx : IVec S4x5120 32)

/-- The tile's part of the list of row numbers. -/
def listPart : sProp 𝕄 := iLoc d ↦[(iK L).view.set]{fullShare} (idx : Vec F S4x5120 .i32)
/-- The tile's part of the scores. -/
def scoresPart (fs : Vec F S4x46080 .f32) : sProp 𝕄 := sLoc d ↦[(sK L).view.set]{fullShare} fs
/-- The tile's part of the class numbers. -/
def predsPart (fp : IVec S4x5120 32) : sProp 𝕄 := pLoc d ↦[(pK L).view.set]{fullShare} (fp : Vec F S4x5120 .i32)

/-- What a tile is handed: its part of the list, a share of the table, and its parts of the two results. -/
def tileIn (fs : Vec F S4x46080 .f32) (fp : IVec S4x5120 32) : sProp 𝕄 :=
  iprop(listPart (F := F) d L idx ∗ (tLoc d ↦{q} tab) ∗ scoresPart d L fs ∗ predsPart (F := F) d L fp)

/-- What it hands back: the results' parts hold what the list's rows of the table say. -/
abbrev tileOut : sProp 𝕄 := tileIn d L q tab idx (scoresOut tab idx) (predsOut tab idx)

set_option maxHeartbeats 4000000 in
theorem tile_body (hI : ∀ y, (idx y).toNat < 20488) (fs : Vec F S4x46080 .f32) (fp : IVec S4x5120 32)
    (O : CellTallies nD τ sig (HIx 1)) (W : Waits sig (HIx 1)) (hO : ∀ g, O g none = 0) :
    iprop(levAts (K (F := F)).L (K (F := F)).lev ∗ emp ∗ tileIn d L q tab idx fs fp
        ∗ scopedBufs (tile d L) ∗ scopedSems0 (tile d L) ∗ owes (tile d L) O W)
      ⊢ wp frame (wpE (defs₀ (F := F)) 𝒱₀ (tile d L) none) Set.univ
          (cc1_gather_kernel L tV (Memref.isWhole_whole _) iV (Memref.isWhole_whole _) oV (Memref.isWhole_whole _)
            pV (Memref.isWhole_whole _) lV (Memref.isWhole_whole _) rV (Memref.isWhole_whole _) cV' (Memref.isWhole_whole _)
            nV (Memref.isWhole_whole _) cc1_scratch4 cc1_scoped0 cc1_scoped1 cc1_scoped2)
          fun _ => iprop(tileOut d L q tab idx
            ∗ scopedBufs (tile d L) ∗ scopedSems0 (tile d L)
            ∗ ∃ W', ⌜∀ p ∈ W', p ∈ W ∨ p.2 = none⌝ ∗ owes (tile d L) O W') := by
  simp only [cc1_gather_kernel_eq_skeleton]; unfold cc1_gather_kernel_skel
  rw [k1_part4_eq_skeleton]; unfold k1_part4_skel
  rw [k1_part2_eq_skeleton, k1_part3_eq_skeleton]; unfold k1_part2_skel k1_part3_skel
  simp only [bind_assoc, pure_bind]
  unfold tileIn
  rw [(K (F := F)).scopedBufs_V facts d (cI L) (jI L), SparseCore.Cfg.scopedSems0_V (Val := Elt F) d (cI L) (jI L),
    ownSems0_tile, ownBufs_tile]
  iintro ⟨#Hlv, -, ⟨Hi, Ht, Hs, Hp⟩, ⟨⟨%fl, Hl⟩, ⟨%fr, Hr⟩, ⟨%fc, Hc⟩, ⟨%fn, Hn⟩, Hbufs⟩, ⟨HsemG, HsemA, HsemB, HsemC, Hsems⟩, HO⟩
  ihave Hmw := (show levAts (K (F := F)).L (K (F := F)).lev ⊢ Transfers.MayWaits (tile d L) (default : HIx 1) O from
    (K (F := F)).mayWaits_none (thr := tile d L) hO) $$ Hlv
  ihave Hi' := (show listPart (F := F) d L idx ⊢ (iK L).view.loc (tile d L) ↦[(iK L).view.set]{fullShare} (idx : Vec F S4x5120 .i32) from BI.Entails.refl _) $$ Hi
  ihave Hs' := (show scoresPart d L fs ⊢ (sK L).view.loc (tile d L) ↦[(sK L).view.set]{fullShare} fs from BI.Entails.refl _) $$ Hs
  ihave Hp' := (show predsPart (F := F) d L fp ⊢ (pK L).view.loc (tile d L) ↦[(pK L).view.set]{fullShare} (fp : Vec F S4x5120 .i32) from BI.Entails.refl _) $$ Hp
  ihave Hl' := (show ((tile d L).loc cc1_scratch0 ↦{fullShare} fl : sProp 𝕄) ⊢ lV.view.loc (tile d L) ↦{fullShare} fl from BI.Entails.refl _) $$ Hl
  sl_exec
  have hread : tile_body.sl.dma0 (F := F) L idx = (listOf L idx : Vec F S640 .i32) := read_list (F := F) L idx
  have hlist : View.write (Elt F) lV.view fl (tile_body.sl.dma0 (F := F) L idx) Finset.univ = (listOf L idx : Vec F S640 .i32) := by
    rw [hread]; exact View.write_whole_univ (Val := Elt F) cc1_scratch0 _ _
  ihave Hl2 := (show (lV.view.loc (tile d L) ↦{fullShare} View.write (Elt F) lV.view fl (tile_body.sl.dma0 (F := F) L idx) Finset.univ : sProp 𝕄)
      ⊢ listAt (F := F) d L (listOf L idx) from by rw [hlist]; exact BI.Entails.refl _) $$ Hl'
  have hw : ∀ y, (listOf L idx y).toNat < 20488 := fun y => hI _
  imod (Transfers.batch_alloc' countersEmb (tile d L) (sm := .dma cc1_scratch4.sem) (default : HIx 1) 512 (deliv d L q tab (listOf L idx)) (E := Set.univ)) $$ HsemG with HG
  ihave HG := (show (Transfers.Batch countersEmb (tile d L) (.dma cc1_scratch4.sem) (default : HIx 1) 512 (deliv d L q tab (listOf L idx)) 0 0 : sProp 𝕄)
      ⊢ gathering d L q tab (listOf L idx) 0 0 from BI.Entails.refl _) $$ HG
  ihave Hch := (chunks_open d L q tab (listOf L idx) fr) $$ [Ht Hr Hl2]
  · isplitl [Ht]; · iexact Ht
    isplitl [Hr]
    · have h : ((tile d L).loc cc1_scratch1 ↦{fullShare} fr : sProp 𝕄) ⊢ rowsAt d L fr := BI.Entails.refl _
      iapply h $$ Hr
    iexact Hl2
  ihave Hch' := (Entails.of_eq (bigSep_five _)) $$ Hch
  icases Hch' with ⟨H0, H1, H2, H3, H4⟩
  iapply (wp_issue d L _ q tab (listOf L idx) hw fr 0 0 rfl) $$ [H0 HG]
  · isplitl [H0]; · iexact H0
    iexact HG
  iintro HG
  iapply (wp_issue d L _ q tab (listOf L idx) hw fr 1 128 rfl) $$ [H1 HG]
  · isplitl [H1]; · iexact H1
    iexact HG
  iintro HG
  iapply (wp_issue d L _ q tab (listOf L idx) hw fr 2 256 rfl) $$ [H2 HG]
  · isplitl [H2]; · iexact H2
    iexact HG
  iintro HG
  iapply (wp_issue d L _ q tab (listOf L idx) hw fr 3 384 rfl) $$ [H3 HG]
  · isplitl [H3]; · iexact H3
    iexact HG
  iintro HG
  iapply (wp_issue d L _ q tab (listOf L idx) hw fr 4 512 rfl) $$ [H4 HG]
  · isplitl [H4]; · iexact H4
    iexact HG
  iintro HG
  iapply (wp_wait_chunk d L _ q tab (listOf L idx) 0 (by decide)) $$ [HG HO]
  · isplitl [HG]; · iexact HG
    isplitl [HO]; · iexact HO
    iapply (Transfers.MayWaits.elim (SemLoc.dma cc1_scratch4.sem)) $$ Hmw
  iintro ⟨HG, HO⟩
  iapply (wp_wait_chunk d L _ q tab (listOf L idx) (128 * 512) (by decide)) $$ [HG HO]
  · isplitl [HG]; · iexact HG
    isplitl [HO]; · iexact HO
    iapply (Transfers.MayWaits.elim (SemLoc.dma cc1_scratch4.sem)) $$ Hmw
  iintro ⟨HG, HO⟩
  iapply (wp_wait_chunk d L _ q tab (listOf L idx) (128 * 512 + 128 * 512) (by decide)) $$ [HG HO]
  · isplitl [HG]; · iexact HG
    isplitl [HO]; · iexact HO
    iapply (Transfers.MayWaits.elim (SemLoc.dma cc1_scratch4.sem)) $$ Hmw
  iintro ⟨HG, HO⟩
  iapply (wp_wait_chunk d L _ q tab (listOf L idx) (128 * 512 + 128 * 512 + 128 * 512) (by decide)) $$ [HG HO]
  · isplitl [HG]; · iexact HG
    isplitl [HO]; · iexact HO
    iapply (Transfers.MayWaits.elim (SemLoc.dma cc1_scratch4.sem)) $$ Hmw
  iintro ⟨HG, HO⟩
  iapply (wp_wait_last d L _ q tab (listOf L idx) (128 * 512 + 128 * 512 + 128 * 512 + 128 * 512) (by decide)) $$ [HG HO]
  · isplitl [HG]; · iexact HG
    isplitl [HO]; · iexact HO
    iapply (Transfers.MayWaits.elim (SemLoc.dma cc1_scratch4.sem)) $$ Hmw
  iintro ⟨Hd, HsemG, HO⟩
  ihave Hd' := (chunks_close d L q tab (listOf L idx)) $$ Hd
  icases Hd' with ⟨Ht, Hr, Hl⟩
  iapply (loop d L _ (rowsOf tab (listOf L idx)) fc fn) $$ [Hr Hc Hn]
  · isplitl [Hr]; · iexact Hr
    isplitl [Hc]
    · have h : ((tile d L).loc cc1_scratch2 ↦{fullShare} fc : sProp 𝕄) ⊢ scoresAt d L fc := BI.Entails.refl _
      iapply h $$ Hc
    have h : ((tile d L).loc cc1_scratch3 ↦{fullShare} fn : sProp 𝕄) ⊢ predsAt (F := F) d L fn := BI.Entails.refl _
    iapply h $$ Hn
  iintro ⟨Hr, Hc, Hn⟩
  ihave Hc' := (show scoresAt d L (scoresOf (rowsOf tab (listOf L idx))) ⊢ cV'.view.loc (tile d L) ↦{fullShare} scoresOf (rowsOf tab (listOf L idx)) from BI.Entails.refl _) $$ Hc
  ihave Hn' := (show predsAt (F := F) d L (predsOf (rowsOf tab (listOf L idx))) ⊢ nV.view.loc (tile d L) ↦{fullShare} (predsOf (rowsOf tab (listOf L idx)) : Vec F S640 .i32) from BI.Entails.refl _) $$ Hn
  sl_exec
  have hs1 : tile_body.sl.dma0_1 (F := F) L tab idx = scoresOf (rowsOf tab (listOf L idx)) := rfl
  have hs2 : tile_body.sl.dma0_2 (F := F) L tab idx = (predsOf (rowsOf tab (listOf L idx)) : Vec F S640 .i32) := rfl
  ihave Hs := (show ((sK L).view.loc (tile d L) ↦[(sK L).view.set]{fullShare} (sK L).view.writes (Elt F) fs [⟨Rect.whole S5760, tile_body.sl.dma0_1 (F := F) L tab idx⟩] : sProp 𝕄)
      ⊢ scoresPart d L (scoresOut tab idx) from Entails.of_eq (pointsTo_congr fun y hy => by
        rw [hs1]; exact write_scores L tab idx fs y hy)) $$ Hs'
  ihave Hp := (show ((pK L).view.loc (tile d L) ↦[(pK L).view.set]{fullShare} (pK L).view.writes (Elt F) fp [⟨Rect.whole S640, tile_body.sl.dma0_2 (F := F) L tab idx⟩] : sProp 𝕄)
      ⊢ predsPart (F := F) d L (predsOut tab idx) from Entails.of_eq (pointsTo_congr fun y hy => by
        rw [hs2]; exact write_preds L tab idx fp y hy)) $$ Hp'
  sl_step
  isplitl [Hi' Ht Hs Hp]
  · unfold tileOut tileIn
    isplitl [Hi']
    · have h : ((iK L).view.loc (tile d L) ↦[(iK L).view.set]{fullShare} (idx : Vec F S4x5120 .i32) : sProp 𝕄) ⊢ listPart (F := F) d L idx :=
        BI.Entails.refl _
      iapply h $$ Hi'
    isplitl [Ht]; · iexact Ht
    isplitl [Hs]; · iexact Hs
    iexact Hp
  isplitl [Hl Hr Hc' Hn' Hbufs]
  · isplitl [Hl]
    · have h : listAt (F := F) d L (listOf L idx) ⊢ ∃ f, (tile d L).loc cc1_scratch0 ↦{fullShare} f := by
        unfold listAt; iintro H; iexists _; iexact H
      iapply h $$ Hl
    isplitl [Hr]
    · have h : rowsAt d L (rowsOf tab (listOf L idx)) ⊢ ∃ f, (tile d L).loc cc1_scratch1 ↦{fullShare} f := by
        unfold rowsAt; iintro H; iexists _; iexact H
      iapply h $$ Hr
    isplitl [Hc']; · iexists _; iexact Hc'
    isplitl [Hn']; · iexists _; iexact Hn'
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  iterate 8
    rcases Finset.mem_insert.mp hp with hp | hp
    · exact .inr (hp ▸ rfl)
  exact .inl hp

end Cert.Proof.Run

end
-- ==== Proof.Parts.lean ====
/-
  The arrays of the SparseCore call divided among the thirty-two tiles.
-/
module

public import proofs.«01_k».proof.Proof.Body
public import Idealize.ShloMosaic.Lib.SparseCore.Stream

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} [FloatOps F]

local notation "𝕄" => MM F

/-- The grid's coordinates of a SparseCore and a subcore. -/
def coordsV (c : Fin (grid1.bound 0)) (s : Fin (grid1.bound 1)) : grid1.Coords :=
  fun | 0 => c | 1 => s | ⟨_ + 2, h⟩ => absurd h (Nat.not_lt.2 (Nat.le_add_left _ _))

/-- The tile a pair names. -/
abbrev at2 (p : Fin 2 × Fin 16) : grid1.Coords := coordsV p.1 p.2

/-- The tile's share of the table. -/
def tq (p : Fin 2 × Fin 16) : PosShare TreeShare := Idealize.ShloMosaic.pieceOf fullShare (2 * 16) (by decide) (finProdFinEquiv p)

theorem wid_at2 (p : Fin 2 × Fin 16) : wid (at2 p) = 2 * p.2.val + p.1.val := rfl

theorem wid_inj {p p' : Fin 2 × Fin 16} (h : p ≠ p') : wid (at2 p) ≠ wid (at2 p') := fun e => h (by
  rw [wid_at2, wid_at2] at e
  have := p.1.isLt; have := p'.1.isLt
  exact Prod.ext (Fin.ext (by omega)) (Fin.ext (by omega)))

theorem wid_onto {n : ℕ} (h : n < 32) : ∃ p : Fin 2 × Fin 16, wid (at2 p) = n :=
  ⟨(⟨n % 2, by omega⟩, ⟨n / 2, by omega⟩), by rw [wid_at2]; show 2 * (n / 2) + n % 2 = n; omega⟩

/-- A tile's elements. -/
abbrev iSet (p : Fin 2 × Fin 16) : Finset S4x5120.Idx := (iK (at2 p)).view.set

/-- A tile's elements. -/
abbrev pSet (p : Fin 2 × Fin 16) : Finset S4x5120.Idx := (pK (at2 p)).view.set

/-- A tile's elements. -/
abbrev sSet (p : Fin 2 × Fin 16) : Finset S4x46080.Idx := (sK (at2 p)).view.set

theorem list_disjoint : ∀ p ∈ (Finset.univ : Finset (Fin 2 × Fin 16)), ∀ p' ∈ (Finset.univ : Finset (Fin 2 × Fin 16)), p ≠ p' →
    Disjoint (iK (at2 p)).view.set (iK (at2 p')).view.set := fun p _ p' _ h =>
  Finset.disjoint_left.mpr fun y hy hy' => wid_inj h (by have a := (mem_iK _ y).mp hy; have b := (mem_iK _ y).mp hy'; omega)
theorem preds_disjoint : ∀ p ∈ (Finset.univ : Finset (Fin 2 × Fin 16)), ∀ p' ∈ (Finset.univ : Finset (Fin 2 × Fin 16)), p ≠ p' →
    Disjoint (pK (at2 p)).view.set (pK (at2 p')).view.set := fun p _ p' _ h =>
  Finset.disjoint_left.mpr fun y hy hy' => wid_inj h (by have a := (mem_pK _ y).mp hy; have b := (mem_pK _ y).mp hy'; omega)
theorem scores_disjoint : ∀ p ∈ (Finset.univ : Finset (Fin 2 × Fin 16)), ∀ p' ∈ (Finset.univ : Finset (Fin 2 × Fin 16)), p ≠ p' →
    Disjoint (sK (at2 p)).view.set (sK (at2 p')).view.set := fun p _ p' _ h =>
  Finset.disjoint_left.mpr fun y hy hy' => wid_inj h (by have a := (mem_sK _ y).mp hy; have b := (mem_sK _ y).mp hy'; omega)

theorem list_cover : (Finset.univ : Finset (Fin 2 × Fin 16)).biUnion iSet = Finset.univ := by
  refine Finset.eq_univ_of_forall fun y => ?_
  have h0 : (y 0).val < 4 := (y 0).isLt
  have h1 : (y 1).val < 5120 := (y 1).isLt
  obtain ⟨p, hp⟩ := wid_onto (n := (y 0).val * 8 + (y 1).val / 640) (by omega)
  exact Finset.mem_biUnion.mpr ⟨p, Finset.mem_univ _, (mem_iK _ y).mpr (by rw [hp]; omega)⟩
theorem preds_cover : (Finset.univ : Finset (Fin 2 × Fin 16)).biUnion pSet = Finset.univ := by
  refine Finset.eq_univ_of_forall fun y => ?_
  have h0 : (y 0).val < 4 := (y 0).isLt
  have h1 : (y 1).val < 5120 := (y 1).isLt
  obtain ⟨p, hp⟩ := wid_onto (n := (y 0).val * 8 + (y 1).val / 640) (by omega)
  exact Finset.mem_biUnion.mpr ⟨p, Finset.mem_univ _, (mem_pK _ y).mpr (by rw [hp]; omega)⟩
theorem scores_cover : (Finset.univ : Finset (Fin 2 × Fin 16)).biUnion sSet = Finset.univ := by
  refine Finset.eq_univ_of_forall fun y => ?_
  have h0 : (y 0).val < 4 := (y 0).isLt
  have h1 : (y 1).val < 46080 := (y 1).isLt
  obtain ⟨p, hp⟩ := wid_onto (n := (y 0).val * 8 + (y 1).val / 5760) (by omega)
  exact Finset.mem_biUnion.mpr ⟨p, Finset.mem_univ _, (mem_sK _ y).mpr (by rw [hp]; omega)⟩

variable (d : Dev nD) (tab : Vec F S20488x16 .f32) (idx : IVec S4x5120 32) (fs : Vec F S4x46080 .f32) (fp : IVec S4x5120 32)

/-- The list of rows, whole. -/
def listWhole : sProp 𝕄 := iLoc d ↦{fullShare} (idx : Vec F S4x5120 .i32)
/-- The table, whole. -/
def tabWhole : sProp 𝕄 := tLoc d ↦{fullShare} tab
/-- The scores, whole. -/
def scoresWhole : sProp 𝕄 := sLoc d ↦{fullShare} fs
/-- The class numbers, whole. -/
def predsWhole : sProp 𝕄 := pLoc d ↦{fullShare} (fp : Vec F S4x5120 .i32)
/-- A tile's share of the table. -/
def tabShare (p : Fin 2 × Fin 16) : sProp 𝕄 := tLoc d ↦{tq p} tab

theorem list_split : listWhole (F := F) d idx = bigSep Finset.univ fun p : Fin 2 × Fin 16 => listPart (F := F) d (at2 p) idx := by
  unfold listWhole listPart
  rw [← pointsTo_biUnion Finset.univ (ℓ := iLoc d) iSet list_disjoint, list_cover]
theorem preds_split : predsWhole (F := F) d fp = bigSep Finset.univ fun p : Fin 2 × Fin 16 => predsPart (F := F) d (at2 p) fp := by
  unfold predsWhole predsPart
  rw [← pointsTo_biUnion Finset.univ (ℓ := pLoc d) pSet preds_disjoint, preds_cover]
theorem scores_split : scoresWhole d fs = bigSep Finset.univ fun p : Fin 2 × Fin 16 => scoresPart d (at2 p) fs := by
  unfold scoresWhole scoresPart
  rw [← pointsTo_biUnion Finset.univ (ℓ := sLoc d) sSet scores_disjoint, scores_cover]
theorem tab_split : tabWhole d tab = bigSep Finset.univ fun p : Fin 2 × Fin 16 => tabShare d tab p := by
  unfold tabWhole tabShare tq
  exact (pointsTo_piecesOf (ℓ := tLoc d) Finset.univ tab (o := 2 * 16) (by decide) fullShare).trans (bigSep_univ_equiv finProdFinEquiv _)

/-- The four arrays, whole, are what the tiles hold together. -/
theorem parts : iprop(listWhole (F := F) d idx ∗ tabWhole d tab ∗ scoresWhole d fs ∗ predsWhole (F := F) d fp)
    = bigSep Finset.univ fun c : Fin 2 => bigSep Finset.univ fun s : Fin 16 => tileIn d (coordsV c s) (tq (c, s)) tab idx fs fp := by
  rw [list_split, preds_split, scores_split, tab_split, ← bigSep_sep', ← bigSep_sep', ← bigSep_sep', bigSep_univ_prod]
  rfl

end Cert.Proof.Run
end
-- ==== Proof.Vals.lean ====
/-
  What every array of the host's TensorCore holds from step to step of @main.
-/
module

public import proofs.«01_k».proof.Proof.Region
public import proofs.«01_k».proof.Proof.Parts
public import Idealize.ShloMosaic.Lib.StableHlo.Run

@[expose] public section

noncomputable section

namespace Cert.Proof.Run

open Cert.KernelIdeal Cert.KernelIdeal.Gen

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix1 eq_ix2)

variable {F : FTy → Type} [FloatOps F]

local notation "𝕄" => MM F

abbrev opBias : HloOp τ sig (Elt F) := StableHlo.reshape main_arg7 main_v0 (rfl : (.f32 : EltTy) = .f32) shapeCasts_S9_S1x9
abbrev opValid : HloOp τ sig (Elt F) := StableHlo.unary main_arg4 main_v1 ((extui 32 · natLt_1_32) : (⟨S4x5075, .i1⟩ : BufTy).Contents (Elt F) → (⟨S4x5075, .i32⟩ : BufTy).Contents (Elt F))
abbrev opRows : HloOp τ sig (Elt F) := StableHlo.reshape main_v2_0 main_v3 (rfl : (.f32 : EltTy) = .f32) shapeCasts_S2561x128_S20488x16
abbrev opScores : HloOp τ sig (Elt F) := StableHlo.reshape main_v4_0 main_v5 (rfl : (.f32 : EltTy) = .f32) shapeCasts_S4x46080_S4x5120x9
abbrev opCut : HloOp τ sig (Elt F) := StableHlo.unary main_v5 main_v6 ((extractStridedSlice S4x5075x9 ![0, 0, 0] · slices_S4x5120x9_S4x5075x9_0_0_0) : (⟨S4x5120x9, .f32⟩ : BufTy).Contents (Elt F) → (⟨S4x5075x9, .f32⟩ : BufTy).Contents (Elt F))
abbrev opCutPreds : HloOp τ sig (Elt F) := StableHlo.unary main_v4_1 main_v7 ((extractStridedSlice S4x5075 ![0, 0] · slices_S4x5120_S4x5075_0_0) : (⟨S4x5120, .i32⟩ : BufTy).Contents (Elt F) → (⟨S4x5075, .i32⟩ : BufTy).Contents (Elt F))

variable (m : (ℓ : Loc nD τ sig) → Buf (Elt F) ℓ) (d : Dev nD)

/-- A reference of the host's TensorCore as the device names it. -/
abbrev dr (b : Ref sig .tc) : DevRef τ sig := Proc.devRef .tc b

/-- At the launch. -/
def V0 : Valuation τ sig (Elt F) := fun b => m (d, b)
/-- Before the table call. -/
def V2 : Valuation τ sig (Elt F) := opValid.result (opBias.result (V0 m d))
/-- The same as the table call's arrays. -/
def A2 : Arrays F := fun c b => V2 m c (dr b)
/-- After it. -/
def V3 : Valuation τ sig (Elt F) := Function.update (Function.update (V2 m d) (dr main_v2_0) (tabOf (A2 m) d)) (dr main_v2_1) (idxOf (A2 m) d)
/-- Before the SparseCore call. -/
def V4 : Valuation τ sig (Elt F) := opRows.result (V3 m d)

/-- The bias as the table call takes it. -/
def biasOf : Vec F S1x9 .f32 := shapeCast S1x9 (m ((d.tc : Thread nD τ).loc main_arg7) : Vec F S9 .f32) shapeCasts_S9_S1x9
/-- Which spans are there, as words. -/
def validOf : IVec S4x5075 32 := extui 32 (m ((d.tc : Thread nD τ).loc main_arg4) : IVec S4x5075 1) natLt_1_32

/-- The table the SparseCores read. -/
def tabM : Vec F S20488x16 .f32 :=
  shapeCast S20488x16 (tableVal (m ((d.tc : Thread nD τ).loc main_arg0)) (m ((d.tc : Thread nD τ).loc main_arg5)) (m ((d.tc : Thread nD τ).loc main_arg6)) (biasOf m d)) shapeCasts_S2561x128_S20488x16
/-- The list of rows they read. -/
def idxM : IVec S4x5120 32 := idxVal (F := F) (m ((d.tc : Thread nD τ).loc main_arg2)) (m ((d.tc : Thread nD τ).loc main_arg3)) (validOf m d)

/-- After it. -/
def V5 : Valuation τ sig (Elt F) :=
  Function.update (Function.update (V4 m d) (dr main_v4_0) (scoresOut (tabM m d) (idxM m d))) (dr main_v4_1) (predsOut (tabM m d) (idxM m d) : Vec F S4x5120 .i32)
/-- At the end. -/
def V8 : Valuation τ sig (Elt F) := opCutPreds.result (opCut.result (opScores.result (V5 m d)))

theorem V2_keep {b : Ref sig .tc} (h0 : b ≠ main_v0) (h1 : b ≠ main_v1) : V2 m d (dr b) = m ((d.tc : Thread nD τ).loc b) :=
  (StableHlo.unary_result_ne _ _ _ _ _ _ h1).trans (StableHlo.reshape_result_ne _ _ _ _ _ _ _ h0)

theorem V2_bias : V2 m d (dr main_v0) = biasOf m d :=
  (StableHlo.unary_result_ne _ _ _ _ _ _ (by decide)).trans (StableHlo.reshape_result _ _ _ _ _ _ _)

theorem V2_valid : V2 m d (dr main_v1) = validOf m d :=
  (StableHlo.unary_result _ _ _ _ _ _).trans (congrArg (extui 32 · natLt_1_32) (StableHlo.reshape_result_ne _ _ _ _ _ _ _ (by decide)))

theorem tabOf_A2 : tabOf (A2 m) d = tableVal (m ((d.tc : Thread nD τ).loc main_arg0)) (m ((d.tc : Thread nD τ).loc main_arg5)) (m ((d.tc : Thread nD τ).loc main_arg6)) (biasOf m d) := by
  show tableVal (V2 m d (dr main_arg0)) (V2 m d (dr main_arg5)) (V2 m d (dr main_arg6)) (V2 m d (dr main_v0)) = _
  rw [V2_keep m d (b := main_arg0) (by decide) (by decide), V2_keep m d (b := main_arg5) (by decide) (by decide),
    V2_keep m d (b := main_arg6) (by decide) (by decide), V2_bias]

theorem idxOf_A2 : idxOf (A2 m) d = idxM m d := by
  show idxVal (F := F) (V2 m d (dr main_arg2)) (V2 m d (dr main_arg3)) (V2 m d (dr main_v1)) = _
  rw [V2_keep m d (b := main_arg2) (by decide) (by decide), V2_keep m d (b := main_arg3) (by decide) (by decide), V2_valid]
  rfl

theorem ne_dr {x y : Ref sig .tc} (h : x ≠ y) : dr x ≠ dr y := StableHlo.devRef_ne_of_ne h

theorem V3_tab : V3 m d (dr main_v2_0) = tabOf (A2 m) d :=
  (Function.update_of_ne (ne_dr (by decide)) _ _).trans (Function.update_self _ _ _)
theorem V3_idx : V3 m d (dr main_v2_1) = idxOf (A2 m) d := Function.update_self _ _ _
theorem V3_keep {b : Ref sig .tc} (h0 : b ≠ main_v2_0) (h1 : b ≠ main_v2_1) : V3 m d (dr b) = V2 m d (dr b) :=
  (Function.update_of_ne (ne_dr h1) _ _).trans (Function.update_of_ne (ne_dr h0) _ _)

theorem V4_keep {b : Ref sig .tc} (h : b ≠ main_v3) : V4 m d (dr b) = V3 m d (dr b) := StableHlo.reshape_result_ne _ _ _ _ _ _ _ h
theorem V4_tab : V4 m d (dr main_v3) = tabM m d := by
  refine (StableHlo.reshape_result _ _ _ _ _ _ _).trans ?_
  show shapeCast S20488x16 (V3 m d (dr main_v2_0)) shapeCasts_S2561x128_S20488x16 = _
  rw [V3_tab, tabOf_A2]
  rfl
theorem V4_idx : V4 m d (dr main_v2_1) = idxM m d := by
  rw [V4_keep m d (by decide), V3_idx, idxOf_A2]

theorem V5_scores : V5 m d (dr main_v4_0) = scoresOut (tabM m d) (idxM m d) :=
  (Function.update_of_ne (ne_dr (by decide)) _ _).trans (Function.update_self _ _ _)
theorem V5_preds : V5 m d (dr main_v4_1) = (predsOut (tabM m d) (idxM m d) : Vec F S4x5120 .i32) := Function.update_self _ _ _
theorem V5_keep {b : Ref sig .tc} (h0 : b ≠ main_v4_0) (h1 : b ≠ main_v4_1) : V5 m d (dr b) = V4 m d (dr b) :=
  (Function.update_of_ne (ne_dr h1) _ _).trans (Function.update_of_ne (ne_dr h0) _ _)

/-- The scores the program returns. -/
def scoresFin : Vec F S4x5075x9 .f32 :=
  extractStridedSlice S4x5075x9 ![0, 0, 0] (shapeCast S4x5120x9 (scoresOut (tabM m d) (idxM m d)) shapeCasts_S4x46080_S4x5120x9) slices_S4x5120x9_S4x5075x9_0_0_0
/-- The class numbers it returns. -/
def predsFin : IVec S4x5075 32 := extractStridedSlice S4x5075 ![0, 0] (predsOut (tabM m d) (idxM m d)) slices_S4x5120_S4x5075_0_0

theorem V8_keep {b : Ref sig .tc} (h5 : b ≠ main_v5) (h6 : b ≠ main_v6) (h7 : b ≠ main_v7) : V8 m d (dr b) = V5 m d (dr b) :=
  (StableHlo.unary_result_ne _ _ _ _ _ _ h7).trans ((StableHlo.unary_result_ne _ _ _ _ _ _ h6).trans (StableHlo.reshape_result_ne _ _ _ _ _ _ _ h5))

theorem V8_scores : V8 m d (dr main_v6) = scoresFin m d := by
  have h3 : (opScores.result (V5 m d) (dr main_v5) : Vec F S4x5120x9 .f32) = shapeCast S4x5120x9 (scoresOut (tabM m d) (idxM m d)) shapeCasts_S4x46080_S4x5120x9 := by
    refine (StableHlo.reshape_result _ _ _ _ _ _ _).trans ?_
    show shapeCast S4x5120x9 (V5 m d (dr main_v4_0)) shapeCasts_S4x46080_S4x5120x9 = _
    rw [V5_scores]
  have h1 : V8 m d (dr main_v6) = opCut.result (opScores.result (V5 m d)) (dr main_v6) := StableHlo.unary_result_ne _ _ _ _ _ _ (by decide)
  have h2 : opCut.result (opScores.result (V5 m d)) (dr main_v6)
      = extractStridedSlice S4x5075x9 ![0, 0, 0] (opScores.result (V5 m d) (dr main_v5) : Vec F S4x5120x9 .f32) slices_S4x5120x9_S4x5075x9_0_0_0 :=
    StableHlo.unary_result _ _ _ _ _ _
  unfold scoresFin
  rw [h1, h2, h3]

theorem V8_preds : V8 m d (dr main_v7) = predsFin m d := by
  have h3 : (opCut.result (opScores.result (V5 m d)) (dr main_v4_1) : IVec S4x5120 32) = predsOut (tabM m d) (idxM m d) :=
    (StableHlo.unary_result_ne _ _ _ _ _ _ (by decide)).trans ((StableHlo.reshape_result_ne _ _ _ _ _ _ _ (by decide)).trans (V5_preds m d))
  have h1 : V8 m d (dr main_v7)
      = extractStridedSlice S4x5075 ![0, 0] (opCut.result (opScores.result (V5 m d)) (dr main_v4_1) : IVec S4x5120 32) slices_S4x5120_S4x5075_0_0 :=
    StableHlo.unary_result _ _ _ _ _ _
  unfold predsFin
  rw [h1, h3]

/-- An argument ends as it was. -/
theorem V8_arg {b : Ref sig .tc} (h : b ∉ [main_v0, main_v1, main_v2_0, main_v2_1, main_v3, main_v4_0, main_v4_1, main_v5, main_v6, main_v7]) :
    V8 m d (dr b) = m ((d.tc : Thread nD τ).loc b) := by
  simp only [List.mem_cons, List.not_mem_nil, or_false, not_or] at h
  obtain ⟨h0, h1, h2, h3, h4, h5, h6, h7, h8, h9⟩ := h
  rw [V8_keep m d h7 h8 h9, V5_keep m d h5 h6, V4_keep m d h4, V3_keep m d h2 h3, V2_keep m d h0 h1]

end Cert.Proof.Run
end
-- ==== Proof.Launch.lean ====
/-
  The program's launch: what the SparseCore call hands each tile and takes back, and @main.
-/
module

public import proofs.«01_k».proof.Proof.Vals
public import Idealize.ShloMosaic.Lib.SparseCore.Quiescent

@[expose] public section

noncomputable section

namespace Cert.Proof.Run

open Cert.KernelIdeal Cert.KernelIdeal.Gen

open Idealize.ShloMosaic
open Idealize.ShloMosaic.TcCoe
open Idealize.ShloMosaic.Rounds
open Idealize.ShloMosaic.SparseCore (S V T)
open Idealize.ShloMosaic.SparseCore.Cfg (HIx Pay ownSems0 ownBufs ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MM F

variable (m : (ℓ : Loc nD τ sig) → Buf (Elt F) ℓ) (ρ : Dev nD → PrngReg)

/-- What a tile is handed. -/
def goP (d : Dev nD) (c : Fin 2) (s : Fin 16) : sProp 𝕄 :=
  tileIn d (coordsV c s) (tq (c, s)) (tabM m d) (idxM m d) (m (sLoc d)) (m (pLoc d))
/-- What it hands back. -/
def tdP (d : Dev nD) (c : Fin 2) (s : Fin 16) : sProp 𝕄 :=
  tileOut d (coordsV c s) (tq (c, s)) (tabM m d) (idxM m d)

instance goP_storable (d : Dev nD) (c : Fin 2) (s : Fin 16) : BI.Storable (upEmb : UEmb _ 𝕄) (goP m d c s) := by
  unfold goP tileIn listPart scoresPart predsPart; infer_instance
instance tdP_storable (d : Dev nD) (c : Fin 2) (s : Fin 16) : BI.Storable (upEmb : UEmb _ 𝕄) (tdP m d c s) := by
  unfold tdP tileOut tileIn listPart scoresPart predsPart; infer_instance

def P : (K (F := F)).Pay (nD := nD) (Val := Elt F) (Name := ℕ) (U := UU) where
  st := fun q d c => match q with | 0 => bigSep Finset.univ fun s : Fin 16 => goP m d (Fin.cast nCore_zero c) s
  dn := fun q d c => match q with | 0 => bigSep Finset.univ fun s : Fin 16 => tdP m d (Fin.cast nCore_zero c) s
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun s : Fin 16 => goP m d (Fin.cast nCore_zero c) s))
  dn q d c := match q with
    | 0 => (inferInstance : BI.Storable (upEmb : UEmb _ 𝕄) (bigSep Finset.univ fun s : Fin 16 => tdP m d (Fin.cast nCore_zero c) s))
  go q d c i := match q with
    | 0 => (inferInstance : BI.Storable (upEmb : UEmb _ 𝕄) (goP m d (Fin.cast nCore_zero c) (Fin.cast nSub_zero i)))
  td q d c i := match q with
    | 0 => (inferInstance : BI.Storable (upEmb : UEmb _ 𝕄) (tdP m d (Fin.cast nCore_zero c) (Fin.cast nSub_zero i)))

theorem defs₀_vector (c : Fin τ.nSC) (s : Fin τ.nSub) :
    defs₀ (F := F) (.scVector c s) 1 ()
      = SparseCore.onTile hcore1 hsub1 (fun c s => cc1_gather_kernel (coordsV c s)
          tV (Memref.isWhole_whole _) iV (Memref.isWhole_whole _) oV (Memref.isWhole_whole _) pV (Memref.isWhole_whole _)
          lV (Memref.isWhole_whole _) rV (Memref.isWhole_whole _) cV' (Memref.isWhole_whole _) nV (Memref.isWhole_whole _)
          cc1_scratch4 cc1_scoped0 cc1_scoped1 cc1_scoped2) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (tq (Fin.cast nCore_zero c, Fin.cast nSub_zero i)) (tabM m d) (idxM m d)
    (fun y => idxVal_lt _ _ _ y) (m (sLoc d)) (m (pLoc d)) O W hO).trans (wp_mono frame _ _ fun _ => obl_post)

theorem vecSplit : (K (F := F)).VecSplit' (P m) 0 := by
  intro d c
  show (bigSep Finset.univ fun s : Fin 16 => goP m d (Fin.cast nCore_zero c) s) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i))
          -∗ (bigSep Finset.univ fun s : Fin 16 => tdP m d (Fin.cast nCore_zero c) s)))
  iintro H; imodintro
  isplitl [H]; · iexact H
  iintro H; iexact H

end Cert.Proof.Run
end
-- ==== Proof.Whole.lean ====
/-
  @main on the host's TensorCore, and the whole program's run.
-/
module

public import proofs.«01_k».proof.Proof.Launch
public import Idealize.ShloMosaic.Lib.Pipeline.Kit

@[expose] public section

noncomputable section

namespace Cert.Proof.Run

open Cert.KernelIdeal Cert.KernelIdeal.Gen

open Idealize.ShloMosaic
open Idealize.ShloMosaic.TcCoe
open Idealize.ShloMosaic.Rounds
open Idealize.ShloMosaic.SparseCore (S V T)
open Idealize.ShloMosaic.SparseCore.Cfg (HIx Pay ownSems0 ownBufs ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MM F

variable (m : (ℓ : Loc nD τ sig) → Buf (Elt F) ℓ) (ρ : Dev nD → PrngReg)

/-! ## The arrays of the host's TensorCore as one set -/

/-- Its arrays that live through the whole program. -/
def ucRefs : Finset (DevRef τ sig) := (StableHlo.tcRefs τ sig).filter fun b => ¬ b.isScoped

theorem unscoped_eq_held (d : Dev nD) (W : Valuation τ sig (Elt F)) :
    (unscopedBufs d (fun b => W (dr b)) : sProp 𝕄) = held (T d) ucRefs W := by
  unfold unscopedBufs held ucRefs StableHlo.tcRefs
  rw [Finset.filter_map, bigSep_map]
  rfl

theorem unscoped_launch (d : Dev nD) :
    (unscopedBufs d (fun b => m ((T d : Thread nD τ).loc b)) : sProp 𝕄) = held (T d) ucRefs (V0 m d) := unscoped_eq_held d (V0 m d)

/-- The four arrays of the SparseCore call. -/
def callRefs : Finset (DevRef τ sig) := {dr main_v2_1, dr main_v3, dr main_v4_0, dr main_v4_1}

theorem callRefs_sub : callRefs ⊆ ucRefs := by decide

theorem held_callRefs (d : Dev nD) (W : Valuation τ sig (Elt F)) :
    (held (T d) callRefs W : sProp 𝕄) = iprop(listWhole (F := F) d (W (dr main_v2_1)) ∗ tabWhole d (W (dr main_v3))
      ∗ scoresWhole d (W (dr main_v4_0)) ∗ predsWhole (F := F) d (W (dr main_v4_1))) := by
  unfold held callRefs
  rw [SparseCore.bigSep_insert' (by decide), SparseCore.bigSep_insert' (by decide), SparseCore.bigSep_insert' (by decide), bigSep_singleton]
  rfl

theorem rest_keep (d : Dev nD) : (held (T d) (ucRefs \ callRefs) (V4 m d) : sProp 𝕄) = held (T d) (ucRefs \ callRefs) (V5 m d) :=
  StableHlo.held_congr _ fun b hb => by
    have hn : b ∉ callRefs := (Finset.mem_sdiff.mp hb).2
    have h0 : b ≠ dr main_v4_0 := fun h => hn (h ▸ by decide)
    have h1 : b ≠ dr main_v4_1 := fun h => hn (h ▸ by decide)
    exact ((Function.update_of_ne h1 _ _).trans (Function.update_of_ne h0 _ _)).symm

theorem V4_scores0 (d : Dev nD) : V4 m d (dr main_v4_0) = m (sLoc d) := by
  rw [V4_keep m d (by decide), V3_keep m d (by decide) (by decide), V2_keep m d (by decide) (by decide)]
theorem V4_preds0 (d : Dev nD) : V4 m d (dr main_v4_1) = m (pLoc d) := by
  rw [V4_keep m d (by decide), V3_keep m d (by decide) (by decide), V2_keep m d (by decide) (by decide)]

/-- The arrays as the SparseCore call is started: what it takes, and the rest. -/
theorem start_split (d : Dev nD) : (held (T d) ucRefs (V4 m d) : sProp 𝕄)
    = iprop((bigSep Finset.univ fun c : Fin ((K (F := F)).nCore 0) => (P m).st 0 d c) ∗ held (T d) (ucRefs \ callRefs) (V5 m d)) := by
  rw [StableHlo.held_sub_split (T d) callRefs_sub, held_callRefs, rest_keep, V4_idx, V4_tab, V4_scores0, V4_preds0]
  have h := parts (F := F) d (tabM m d) (idxM m d) (m (sLoc d)) (m (pLoc d))
  rw [h]
  rfl

/-- The arrays as it has ended. -/
theorem done_join (d : Dev nD) : iprop((bigSep Finset.univ fun c : Fin ((K (F := F)).nCore 0) => (P m).dn 0 d c) ∗ held (T d) (ucRefs \ callRefs) (V5 m d))
    = (held (T d) ucRefs (V5 m d) : sProp 𝕄) := by
  rw [StableHlo.held_sub_split (T d) callRefs_sub (V5 m d), held_callRefs, V5_keep m d (b := main_v2_1) (by decide) (by decide),
    V5_keep m d (b := main_v3) (by decide) (by decide), V4_idx, V4_tab, V5_scores, V5_preds]
  have h := parts (F := F) d (tabM m d) (idxM m d) (scoresOut (tabM m d) (idxM m d)) (predsOut (tabM m d) (idxM m d))
  rw [h]
  rfl

/-! ## The table call -/

/-- The table call's arguments are as its pipeline needs them. -/
abbrev adm : (p : Fin 1) → (pcfgs (F := F) p).Adm := fun p => (cfgs p).toPCfg_adm

/-- The ghost state of the table call's pipeline. -/
def G (d : Dev nD) : sProp 𝕄 :=
  iprop(Pipeline.cellsGhost (Pipeline.pin (pcfgs (F := F)) adm) EP 0 d ∗ Pipeline.toksInit (Pipeline.pin (pcfgs (F := F)) adm) EP 0 d)

/-- The call of the table's body, before the SparseCore's calls are joined to the program. -/
def tableCall : Prog (TpuEff nD τ sig (Elt F) (Pipeline.Sig Λ₀ (Fin 1) fun p => (pcfgs (F := F) p).Adm) .tc) PUnit :=
  .op (.customCall (Pipeline.entry 0) ()) fun _ => .ret ⟨⟩

theorem tableCall_lift : SparseCore.liftProg (Q := 1) (tableCall (F := F)) = Prog.lift (.customCall (SparseCore.inner (Pipeline.entry 0)) ()) := rfl

theorem table_step [∀ e, Nonempty (Elt F e)] (d : Dev nD) (Φ : PUnit → sProp 𝕄) :
    iprop(boundary (T d) ∗ held (T d) ucRefs (V2 m d)
        ∗ (∃ W, ⌜(K (F := F)).WBelow (T d) W 0⌝ ∗ owes (T d) ((K (F := F)).Otc d 0) W)
        ∗ levAts (K (F := F)).L (K (F := F)).lev ∗ G d
        ∗ (iprop(boundary (T d) ∗ held (T d) ucRefs (V3 m d)
            ∗ (∃ W, ⌜(K (F := F)).WBelow (T d) W 0⌝ ∗ owes (T d) ((K (F := F)).Otc d 0) W)) -∗ Φ ⟨⟩))
      ⊢ wp frame (wpE ((K (F := F)).defs (D (F := F))) 𝒱 (T d) none) Set.univ
          (Prog.lift (.customCall (SparseCore.inner (Pipeline.entry 0)) ())) Φ := by
  have hl := (K (F := F)).wp_liftProg (D (F := F)) 𝒱 (T d) Set.univ none (tableCall (F := F)) Φ
  rw [tableCall_lift] at hl
  refine BIBase.Entails.trans ?_ hl
  unfold tableCall
  have hr := Pipeline.RegionSeg.wp (pcfgs (F := F)) adm (pdats (A2 m) adm) (default : HIx 1) cellOf_inj EP defs₀ 𝒱₀ (K (F := F)).L (K (F := F)).lev
    (reg (A2 m) adm (fun c b => V3 m c (dr b)) (fun c => V3_tab m c) (fun c => V3_idx m c) (fun c b h0 h1 => V3_keep m c h0 h1)) d none
    (fun u hu => nomatch hu) (fun _ => .ret ⟨⟩) Φ
  refine BIBase.Entails.trans ?_ hr
  have hpre : (reg (A2 m) adm (fun c b => V3 m c (dr b)) (fun c => V3_tab m c) (fun c => V3_idx m c) (fun c b h0 h1 => V3_keep m c h0 h1)).pre d
      = iprop(held (T d) ucRefs (V2 m d) ∗ ∃ W, ⌜(K (F := F)).WBelow (T d) W 0⌝ ∗ owes (T d) ((K (F := F)).Otc d 0) W) := by
    rw [← unscoped_eq_held]; rfl
  have hpost : (reg (A2 m) adm (fun c b => V3 m c (dr b)) (fun c => V3_tab m c) (fun c => V3_idx m c) (fun c b h0 h1 => V3_keep m c h0 h1)).post d
      = iprop(held (T d) ucRefs (V3 m d) ∗ ∃ W, ⌜(K (F := F)).WBelow (T d) W 0⌝ ∗ owes (T d) ((K (F := F)).Otc d 0) W) := by
    rw [← unscoped_eq_held]; rfl
  rw [hpre, hpost]
  unfold G
  iintro ⟨Hb, Hh, Ho, Hl, ⟨Hg, Ht⟩, Hk⟩
  isplitl [Hk]
  · iintro ⟨Hb, Hh, Ho⟩
    rw [wp_ret]; imodintro
    iapply Hk
    isplitl [Hb]; · iexact Hb
    isplitl [Hh]; · iexact Hh
    iexact Ho
  isplitl [Hb]; · iexact Hb
  isplitl [Hh Ho]
  · isplitl [Hh]; · iexact Hh
    iexact Ho
  isplitl [Hl]; · iexact Hl
  isplitl [Hg]; · iexact Hg
  iexact Ht

/-! ## The launch's ghost state -/

def u₀ : UU :=
  (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb _ _ _) $$ HR
  icases H2 with ⟨HP, -⟩
  have hf : (BI.own (EP (F := F) (initOf (Pipeline.cells cfgs cellOf_inj) (Pipeline.launchToks cfgs cellOf_inj))) : sProp 𝕄)
      ⊢ iprop(|==> (bigSep Finset.univ fun d : Dev nD => G (F := F) d)) := by
    refine (Pipeline.fund_ghost (Pipeline.pin (pcfgs (F := F)) adm) EP cellOf_inj).trans ?_
    unfold G
    rw [bigSep_sep']
    simp only [bigSep_univ_of_subsingleton (0 : Fin 1)]
    exact BI.Entails.refl _
  have hP : (BI.own (((Emb.inl : Emb UP (UP × Counters)).trans embR) (initOf (Pipeline.cells cfgs cellOf_inj) (Pipeline.launchToks cfgs cellOf_inj))) : sProp 𝕄)
      ⊢ BI.own (EP (F := F) (initOf (Pipeline.cells cfgs cellOf_inj) (Pipeline.launchToks cfgs cellOf_inj))) := BI.Entails.refl _
  ihave HP' := hP $$ HP
  imod hf $$ HP' with HG
  imodintro
  isplitl [HH]; · iexact HH
  isplitl [HG]; · iexact HG
  have hx : (iprop(emp) : sProp 𝕄) ⊢ bigSep Finset.univ fun thr : Thread nD τ => bigSep Finset.univ fun q : Fin 1 => (P m).x q thr := by
    have : (bigSep Finset.univ fun thr : Thread nD τ => bigSep Finset.univ fun q : Fin 1 => (P m).x q thr) = (bigSep Finset.univ fun thr : Thread nD τ => (iprop(emp) : sProp 𝕄)) :=
      bigSep_congr fun _ _ => bigSep_univ_of_subsingleton (0 : Fin 1)
    rw [this]
    exact BIBase.Entails.of_eq (bigSep_emp_const _).symm
  iapply hx
  iempintro

end Cert.Proof.Run
end
-- ==== Proof.Program.lean ====
/-
  @main step by step, and the run of the whole program.
-/
module

public import proofs.«01_k».proof.Proof.Whole
public import Idealize.ShloMosaic.Lib.Pipeline.Kit

@[expose] public section

noncomputable section

namespace Cert.Proof.Run

open Cert.KernelIdeal Cert.KernelIdeal.Gen

open Idealize.ShloMosaic
open Idealize.ShloMosaic.TcCoe
open Idealize.ShloMosaic.Rounds
open Idealize.ShloMosaic.SparseCore (S V T)
open Idealize.ShloMosaic.SparseCore.Cfg (HIx Pay ownSems0 ownBufs ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx (ix1 ix2 eq_ix1 eq_ix2)

variable {F : FTy → Type} [FloatOps F]

local notation "𝕄" => MM F

variable (m : (ℓ : Loc nD τ sig) → Buf (Elt F) ℓ) (ρ : Dev nD → PrngReg)

/-! ## @main -/

/-- What @main leaves. -/
abbrev FIN (d : Dev nD) : sProp 𝕄 := held (T d) ucRefs (V8 m d)

/-- The first thing of a thread's state, taken out and put back. -/
theorem tcSt_open (d : Dev nD) : ((K (F := F)).tcSt EH d 0 : sProp 𝕄)
    ⊢ iprop((∃ W, ⌜(K (F := F)).WBelow (T d) W 0⌝ ∗ owes (T d) ((K (F := F)).Otc d 0) W)
        ∗ ((∃ W, ⌜(K (F := F)).WBelow (T d) W 0⌝ ∗ owes (T d) ((K (F := F)).Otc d 0) W) -∗ (K (F := F)).tcSt EH d 0)) := by
  unfold SparseCore.Cfg.tcSt
  iintro ⟨Ho, Hr⟩
  isplitl [Ho]; · iexact Ho
  iintro Ho
  isplitl [Ho]; · iexact Ho
  iexact Hr

theorem bias_sub : (opBias (F := F)).bufs ⊆ ucRefs := show ({dr main_arg7, dr main_v0} : Finset (DevRef τ sig)) ⊆ ucRefs by decide
theorem valid_sub : (opValid (F := F)).bufs ⊆ ucRefs := show ({dr main_arg4, dr main_v1} : Finset (DevRef τ sig)) ⊆ ucRefs by decide
theorem rows_sub : (opRows (F := F)).bufs ⊆ ucRefs := show ({dr main_v2_0, dr main_v3} : Finset (DevRef τ sig)) ⊆ ucRefs by decide
theorem scores_sub : (opScores (F := F)).bufs ⊆ ucRefs := show ({dr main_v4_0, dr main_v5} : Finset (DevRef τ sig)) ⊆ ucRefs by decide
theorem cut_sub : (opCut (F := F)).bufs ⊆ ucRefs := show ({dr main_v5, dr main_v6} : Finset (DevRef τ sig)) ⊆ ucRefs by decide
theorem cutPreds_sub : (opCutPreds (F := F)).bufs ⊆ ucRefs := show ({dr main_v4_1, dr main_v7} : Finset (DevRef τ sig)) ⊆ ucRefs by decide

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_launch]
  simp only [main, wp_bind, wp_pure]
  iintro ⟨#Hctx, Hst, ⟨Hb, Hheld, Hts, -⟩, HG⟩
  iapply (wp_hlo_within 𝒱 (T d) none Set.univ (op := opBias) (S := ucRefs) bias_sub (V := V0 m d)) $$ [Hb Hheld]
  · isplitl [Hb]; · iexact Hb
    iexact Hheld
  iintro ⟨Hb, Hheld⟩
  rw [wp_ret]; imodintro
  iapply (wp_hlo_within 𝒱 (T d) none Set.univ (op := opValid) (S := ucRefs) valid_sub (V := (opBias (F := F)).result (V0 m d))) $$ [Hb Hheld]
  · isplitl [Hb]; · iexact Hb
    iexact Hheld
  iintro ⟨Hb, Hheld⟩
  rw [wp_ret]; imodintro
  ihave Hl := ((K (F := F)).ctx_levAts (EH := EH) (P := P m) κ) $$ Hctx
  ihave Hop := (tcSt_open (F := F) d) $$ Hst
  icases Hop with ⟨Ho, Hst⟩
  iapply (table_step m d)
  isplitl [Hb]; · iexact Hb
  isplitl [Hheld]; · iexact Hheld
  isplitl [Ho]; · iexact Ho
  isplitl [Hl]; · iexact Hl
  isplitl [HG]; · iexact HG
  iintro ⟨Hb, Hheld, Ho⟩
  ihave Hst := Hst $$ Ho
  iapply (wp_hlo_within 𝒱 (T d) none Set.univ (op := opRows) (S := ucRefs) rows_sub (V := V3 m d)) $$ [Hb Hheld]
  · isplitl [Hb]; · iexact Hb
    iexact Hheld
  iintro ⟨Hb, Hheld⟩
  rw [wp_ret]; imodintro
  have hV4 : (held (T d) ucRefs ((opRows (F := F)).result (V3 m d)) : sProp 𝕄) ⊢ _ := BIBase.Entails.of_eq (start_split m d)
  ihave Hs := hV4 $$ Hheld
  icases Hs with ⟨Hgo, Hrest⟩
  iapply ((K (F := F)).wp_run (D (F := F)) 𝒱 (EH := EH) (P := P m) κ d 0) $$ [Hst Hgo Hb Hrest Hts]
  isplitr; · iexact Hctx
  isplitl [Hst]; · iexact Hst
  isplitl [Hgo]; · iexact Hgo
  iintro ⟨Hst, Hdn⟩
  ihave Hheld := (BIBase.Entails.of_eq (done_join m d)) $$ [Hdn Hrest]
  · isplitl [Hdn]; · iexact Hdn
    iexact Hrest
  iapply (wp_hlo_within 𝒱 (T d) none Set.univ (op := opScores) (S := ucRefs) scores_sub (V := V5 m d)) $$ [Hb Hheld]
  · isplitl [Hb]; · iexact Hb
    iexact Hheld
  iintro ⟨Hb, Hheld⟩
  rw [wp_ret]; imodintro
  iapply (wp_hlo_within 𝒱 (T d) none Set.univ (op := opCut) (S := ucRefs) cut_sub (V := (opScores (F := F)).result (V5 m d))) $$ [Hb Hheld]
  · isplitl [Hb]; · iexact Hb
    iexact Hheld
  iintro ⟨Hb, Hheld⟩
  rw [wp_ret]; imodintro
  iapply (wp_hlo_within 𝒱 (T d) none Set.univ (op := opCutPreds) (S := ucRefs) cutPreds_sub (V := (opCut (F := F)).result ((opScores (F := F)).result (V5 m d)))) $$ [Hb Hheld]
  · isplitl [Hb]; · iexact Hb
    iexact Hheld
  iintro ⟨Hb, Hheld⟩
  rw [wp_ret]; imodintro; imodintro
  isplitl [Hst]; · iexact Hst
  isplitr [Hb Hts]
  · iexact Hheld
  isplitl [Hb] <;> iassumption

/-! ## The run -/

def fq (d : Dev nD) (s' : Phys nD τ sig (Elt F)) : Prop :=
  ∀ b ∈ ucRefs, s'.mem.mem (d, b) = V8 m d b

theorem hfin (d : Dev nD) (s' : Phys nD τ sig (Elt F)) : iprop(FIN m d ∗ SI s') ⊢ (⌜fq m d s'⌝ : sProp 𝕄) := by
  intro x hx b hb
  refine (?_ : iprop(FIN m d ∗ SI s') ⊢ (⌜s'.mem.mem (d, b) = V8 m d b⌝ : sProp 𝕄)) x hx
  refine (sep_mono_left (SparseCore.ent (bigSep_elim hb))).trans ?_
  iintro ⟨Hx, HSI⟩
  ihave H := (SI_pointsTo_agree (st := s') (ℓ := (d, b)) (I := Finset.univ) (q := fullShare) (f := V8 m d b)) $$ [HSI Hx]
  · isplitl [HSI] <;> iassumption
  icases H with %h
  ipureintro; exact funext fun i => h i (Finset.mem_univ i)

/-- The two results, and the arguments as they were. -/
def QC : PUnit × MemSt nD τ sig (Elt F) → Prop := fun r =>
  (∀ d : Dev nD, (r.2.mem ((d.tc : Thread nD τ).loc main_v6) = scoresFin m d ∧ r.2.mem ((d.tc : Thread nD τ).loc main_v7) = predsFin m d)
    ∧ (r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)))
    ∧ r.2.sem = fun _ => 0

theorem hQ (s' : Phys nD τ sig (Elt F)) (h : ∀ d, fq m d s') (hz : s'.mem.sem = fun _ => 0) : QC m (⟨⟩, s'.mem) :=
  ⟨fun d => ⟨⟨(h d (dr main_v6) (by decide)).trans (V8_scores m d), (h d (dr main_v7) (by decide)).trans (V8_preds m d)⟩,
    (h d (dr main_arg0) (by decide)).trans (V8_arg m d (by decide)), (h d (dr main_arg1) (by decide)).trans (V8_arg m d (by decide)),
    (h d (dr main_arg2) (by decide)).trans (V8_arg m d (by decide)), (h d (dr main_arg3) (by decide)).trans (V8_arg m d (by decide)),
    (h d (dr main_arg4) (by decide)).trans (V8_arg m d (by decide)), (h d (dr main_arg5) (by decide)).trans (V8_arg m d (by decide)),
    (h d (dr main_arg6) (by decide)).trans (V8_arg m d (by decide)), (h d (dr main_arg7) (by decide)).trans (V8_arg m d (by decide))⟩, hz⟩

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (hQ m)

end Cert.Proof.Run
end
-- ==== Proof.Same.lean ====
/-
  The kernel's program and its idealization are the same text, so they are the same program.
-/
module

public import proofs.«01_k».proof.Proof.Gen.Kernel
public import proofs.«01_k».proof.Proof.Gen.KernelIdeal

@[expose] public section

noncomputable section

namespace Cert.Proof.Same

open Idealize.ShloMosaic

variable {F : FTy → Type} [FloatOps F]

set_option maxRecDepth 100000 in
theorem table_same : @Cert.Kernel.cc0__table_body F _ _ = @Cert.KernelIdeal.cc0__table_body F _ _ := rfl

set_option maxRecDepth 100000 in
theorem gather_same : @Cert.Kernel.cc1_gather_kernel F _ _ = @Cert.KernelIdeal.cc1_gather_kernel F _ _ := rfl

set_option maxRecDepth 100000 in
theorem bodies_same : @Cert.Kernel.defs₀ F _ _ = @Cert.KernelIdeal.defs₀ F _ _ := by
  funext p l a
  rcases p with _ | c | ⟨c, s⟩
  all_goals rcases l with ⟨_ | _ | l, hl⟩
  all_goals rfl

set_option maxRecDepth 100000 in
theorem windows_same : Cert.Kernel.win0 = Cert.KernelIdeal.win0 := rfl

set_option maxRecDepth 100000 in
theorem calls_same : (Cert.Kernel.pcfgs (F := F)) = Cert.KernelIdeal.pcfgs (F := F) := rfl

set_option maxRecDepth 100000 in
theorem launch_same : (Cert.Kernel.sc (F := F)) = Cert.KernelIdeal.sc (F := F) := rfl

set_option maxRecDepth 100000 in
theorem defs_same : (Cert.Kernel.defs (F := F)) = Cert.KernelIdeal.defs (F := F) :=
  congrArg (fun D => Cert.KernelIdeal.sc.defs (Pipeline.defs Cert.KernelIdeal.pcfgs D)) (bodies_same (F := F))

set_option maxRecDepth 100000 in
theorem main_same : (Cert.Kernel.main (F := F)) = Cert.KernelIdeal.main (F := F) := rfl

set_option maxRecDepth 100000 in
theorem threads_same : (Cert.Kernel.threads (F := F)) = Cert.KernelIdeal.threads (F := F) := rfl

end Cert.Proof.Same
end
-- ==== Proof.RefRun.lean ====
/-
  What the reference computes, step by step, and its run.
-/
module

public import proofs.«01_k».proof.Proof.Gen.ReferenceIdeal
public import Idealize.ShloMosaic.Lib.StableHlo.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-! ## The steps -/

/-- The words each span looks at, counted from its start. -/
def posOf (s : IVec S4x5075 32) : IVec S4x5075x10 32 :=
  addi (broadcastInDim S4x5075x10 ![0, 1, 2] bcast_S4x5075x1_S4x5075x10_0_1_2 (broadcastInDim S4x5075x1 ![0, 1] bcast_S4x5075_S4x5075x1_0_1 s))
    (broadcastInDim S4x5075x10 ![0, 1, 2] bcast_S1x1x10_S4x5075x10_0_1_2 (broadcastInDim S1x1x10 ![2] bcast_S10_S1x1x10_2 (iotaInDim S10 32 0)))

/-- Which of them lie before its end. -/
def insideOf (s e : IVec S4x5075 32) : IVec S4x5075x10 1 :=
  cmpi .slt (posOf s) (broadcastInDim S4x5075x10 ![0, 1, 2] bcast_S4x5075x1_S4x5075x10_0_1_2 (broadcastInDim S4x5075x1 ![0, 1] bcast_S4x5075_S4x5075x1_0_1 e))

/-- The same words, no further than the last one. -/
def cappedOf (s : IVec S4x5075 32) : IVec S4x5075x10 32 :=
  minsi (posOf s) (broadcastInDim S4x5075x10 ![] bcast_S_S4x5075x10 (constantI S_ 32 511#32))

/-- The same as indices, a negative one counted from the back. -/
def wordOf (s : IVec S4x5075 32) : IVec S4x5075x10 32 :=
  select (cmpi .slt (cappedOf s) (broadcastInDim S4x5075x10 ![] bcast_S_S4x5075x10 (constantI S_ 32 0#32)))
    (addi (cappedOf s) (broadcastInDim S4x5075x10 ![] bcast_S_S4x5075x10 (constantI S_ 32 512#32))) (cappedOf s)

/-- Their encodings. -/
def gatheredOf (enc : FVec F S4x512x256 .f32) (s : IVec S4x5075 32) : FVec F S4x5075x10x256 .f32 :=
  Host.gather gather_S4x512x256_S4x5075x10x1_S4x5075x10x256_3_1_0_0_1_3_11256 enc
    (broadcastInDim S4x5075x10x1 ![0, 1, 2] bcast_S4x5075x10_S4x5075x10x1_0_1_2 (wordOf s))

/-- The encodings, those past the end masked. -/
def maskedOf (enc : FVec F S4x512x256 .f32) (s e : IVec S4x5075 32) : FVec F S4x5075x10x256 .f32 :=
  select (broadcastInDim S4x5075x10x256 ![0, 1, 2, 3] bcast_S4x5075x10x1_S4x5075x10x256_0_1_2_3
      (broadcastInDim S4x5075x10x1 ![0, 1, 2] bcast_S4x5075x10_S4x5075x10x1_0_1_2 (insideOf s e)))
    (gatheredOf enc s)
    (broadcastInDim S4x5075x10x256 ![] bcast_S_S4x5075x10x256 (id (constant S_ .f32 0xFF800000#32)))

/-- Each feature's greatest. -/
def greatestOf (enc : FVec F S4x512x256 .f32) (s e : IVec S4x5075 32) : FVec F S4x5075x256 .f32 :=
  Host.reduce FloatOps.maximumf (maskedOf enc s e) (constant S_ .f32 0xFF800000#32) reducesTo_S4x5075x10x256_S4x5075x256_d2 h_S_

/-- The same, zero for a span that is not there. -/
def pooledOf (enc : FVec F S4x512x256 .f32) (s e : IVec S4x5075 32) (v : IVec S4x5075 1) : FVec F S4x5075x256 .f32 :=
  select (broadcastInDim S4x5075x256 ![0, 1, 2] bcast_S4x5075x1_S4x5075x256_0_1_2 (broadcastInDim S4x5075x1 ![0, 1] bcast_S4x5075_S4x5075x1_0_1 v))
    (greatestOf enc s e) (broadcastInDim S4x5075x256 ![] bcast_S_S4x5075x256 (id (constant S_ .f32 0x00000000#32)))

/-- The span's length, counted from zero, within the table. -/
def lenOf (s e : IVec S4x5075 32) : IVec S4x5075 32 :=
  minsi (broadcastInDim S4x5075 ![] bcast_S_S4x5075 (id (constantI S_ 32 9#32)))
    (maxsi (broadcastInDim S4x5075 ![] bcast_S_S4x5075 (id (constantI S_ 32 0#32)))
      (subi (subi e s) (broadcastInDim S4x5075 ![] bcast_S_S4x5075 (constantI S_ 32 1#32))))

/-- The same as an index. -/
def lenIndexOf (s e : IVec S4x5075 32) : IVec S4x5075 32 :=
  select (cmpi .slt (lenOf s e) (broadcastInDim S4x5075 ![] bcast_S_S4x5075 (constantI S_ 32 0#32)))
    (addi (lenOf s e) (broadcastInDim S4x5075 ![] bcast_S_S4x5075 (constantI S_ 32 10#32))) (lenOf s e)

/-- The length's encoding. -/
def lenRowOf (lens : FVec F S10x25 .f32) (s e : IVec S4x5075 32) : FVec F S4x5075x25 .f32 :=
  Host.gather gather_S10x25_S4x5075x1_S4x5075x25_2_0_n_n_0_2_125 lens
    (broadcastInDim S4x5075x1 ![0, 1] bcast_S4x5075_S4x5075x1_0_1 (lenIndexOf s e))

/-- Two arrays side by side. -/
def joined (a : FVec F S4x5075x256 .f32) (b : FVec F S4x5075x25 .f32) : FVec F S4x5075x281 .f32 :=
  concatenate S4x5075x281 2 [⟨S4x5075x256, a⟩, ⟨S4x5075x25, b⟩] concatenates_S4x5075x256_S4x5075x25_S4x5075x281_d2

/-- The span's representation, zero for one that is not there. -/
def repOf (enc : FVec F S4x512x256 .f32) (s e : IVec S4x5075 32) (v : IVec S4x5075 1) (lens : FVec F S10x25 .f32) : FVec F S4x5075x281 .f32 :=
  select (broadcastInDim S4x5075x281 ![0, 1, 2] bcast_S4x5075x1_S4x5075x281_0_1_2 (broadcastInDim S4x5075x1 ![0, 1] bcast_S4x5075_S4x5075x1_0_1 v))
    (joined (pooledOf enc s e v) (lenRowOf lens s e)) (broadcastInDim S4x5075x281 ![] bcast_S_S4x5075x281 (id (constant S_ .f32 0x00000000#32)))

/-- The scores. -/
def scoresOf (enc : FVec F S4x512x256 .f32) (s e : IVec S4x5075 32) (v : IVec S4x5075 1) (lens : FVec F S10x25 .f32)
    (w : FVec F S281x9 .f32) (b : FVec F S9 .f32) : FVec F S4x5075x9 .f32 :=
  addf (Host.dotGeneral dot_S4x5075x281_S281x9_S4x5075x9_2_0_01_1_n_n none (repOf enc s e v lens) w)
    (broadcastInDim S4x5075x9 ![0, 1, 2] bcast_S1x1x9_S4x5075x9_0_1_2 (broadcastInDim S1x1x9 ![2] bcast_S9_S1x1x9_2 b))

/-- The class numbers of scores. -/
def classesOf (x : FVec F S4x5075x9 .f32) : IVec S4x5075 32 := fun j =>
  (Host.argReduce reducer_argmax_f32_i32 x (iotaInDim S4x5075x9 32 2) (constant S_ .f32 0xFF800000#32) (constantI S_ 32 0#32)
    reducesTo_S4x5075x9_S4x5075_d2 h_S_ j).2

/-! ## The operations in order -/

/-- @main's 72 operations, a called function's standing in the call's place. -/
abbrev ops : List (HloOp τ sig (Elt F)) :=
  [ nullary main_v0 (iotaInDim S10 32 0),
    unary main_arg2 main_v1 (broadcastInDim S4x5075x1 ![0, 1] bcast_S4x5075_S4x5075x1_0_1 : (⟨S4x5075, .i32⟩ : BufTy).Contents (Elt F) → (⟨S4x5075x1, .i32⟩ : BufTy).Contents (Elt F)),
    unary main_v0 main_v2 (broadcastInDim S1x1x10 ![2] bcast_S10_S1x1x10_2 : (⟨S10, .i32⟩ : BufTy).Contents (Elt F) → (⟨S1x1x10, .i32⟩ : BufTy).Contents (Elt F)),
    unary main_v1 main_v3 (broadcastInDim S4x5075x10 ![0, 1, 2] bcast_S4x5075x1_S4x5075x10_0_1_2 : (⟨S4x5075x1, .i32⟩ : BufTy).Contents (Elt F) → (⟨S4x5075x10, .i32⟩ : BufTy).Contents (Elt F)),
    unary main_v2 main_v4 (broadcastInDim S4x5075x10 ![0, 1, 2] bcast_S1x1x10_S4x5075x10_0_1_2 : (⟨S1x1x10, .i32⟩ : BufTy).Contents (Elt F) → (⟨S4x5075x10, .i32⟩ : BufTy).Contents (Elt F)),
    binary main_v3 main_v4 main_v5 (addi : (⟨S4x5075x10, .i32⟩ : BufTy).Contents (Elt F) → (⟨S4x5075x10, .i32⟩ : BufTy).Contents (Elt F) → (⟨S4x5075x10, .i32⟩ : BufTy).Contents (Elt F)),
    unary main_arg3 main_v6 (broadcastInDim S4x5075x1 ![0, 1] bcast_S4x5075_S4x5075x1_0_1 : (⟨S4x5075, .i32⟩ : BufTy).Contents (Elt F) → (⟨S4x5075x1, .i32⟩ : BufTy).Contents (Elt F)),
    unary main_v6 main_v7 (broadcastInDim S4x5075x10 ![0, 1, 2] bcast_S4x5075x1_S4x5075x10_0_1_2 : (⟨S4x5075x1, .i32⟩ : BufTy).Contents (Elt F) → (⟨S4x5075x10, .i32⟩ : BufTy).Contents (Elt F)),
    binary main_v5 main_v7 main_v8 (cmpi .slt : (⟨S4x5075x10, .i32⟩ : BufTy).Contents (Elt F) → (⟨S4x5075x10, .i32⟩ : BufTy).Contents (Elt F) → (⟨S4x5075x10, .i1⟩ : BufTy).Contents (Elt F)),
    nullary main_c (constantI S_ 32 511#32),
    unary main_c main_v9 (broadcastInDim S4x5075x10 ![] bcast_S_S4x5075x10 : (⟨S_, .i32⟩ : BufTy).Contents (Elt F) → (⟨S4x5075x10, .i32⟩ : BufTy).Contents (Elt F)),
    binary main_v5 main_v9 main_v10 (minsi : (⟨S4x5075x10, .i32⟩ : BufTy).Contents (Elt F) → (⟨S4x5075x10, .i32⟩ : BufTy).Contents (Elt F) → (⟨S4x5075x10, .i32⟩ : BufTy).Contents (Elt F)),
    nullary main_c_0 (constantI S_ 32 0#32),
    unary main_c_0 main_v11 (broadcastInDim S4x5075x10 ![] bcast_S_S4x5075x10 : (⟨S_, .i32⟩ : BufTy).Contents (Elt F) → (⟨S4x5075x10, .i32⟩ : BufTy).Contents (Elt F)),
    binary main_v10 main_v11 main_v12 (cmpi .slt : (⟨S4x5075x10, .i32⟩ : BufTy).Contents (Elt F) → (⟨S4x5075x10, .i32⟩ : BufTy).Contents (Elt F) → (⟨S4x5075x10, .i1⟩ : BufTy).Contents (Elt F)),
    nullary main_c_1 (constantI S_ 32 512#32),
    unary main_c_1 main_v13 (broadcastInDim S4x5075x10 ![] bcast_S_S4x5075x10 : (⟨S_, .i32⟩ : BufTy).Contents (Elt F) → (⟨S4x5075x10, .i32⟩ : BufTy).Contents (Elt F)),
    binary main_v10 main_v13 main_v14 (addi : (⟨S4x5075x10, .i32⟩ : BufTy).Contents (Elt F) → (⟨S4x5075x10, .i32⟩ : BufTy).Contents (Elt F) → (⟨S4x5075x10, .i32⟩ : BufTy).Contents (Elt F)),
    ternary main_v12 main_v14 main_v10 main_v15 (select : (⟨S4x5075x10, .i1⟩ : BufTy).Contents (Elt F) → (⟨S4x5075x10, .i32⟩ : BufTy).Contents (Elt F) → (⟨S4x5075x10, .i32⟩ : BufTy).Contents (Elt F) → (⟨S4x5075x10, .i32⟩ : BufTy).Contents (Elt F)),
    unary main_v15 main_v16 (broadcastInDim S4x5075x10x1 ![0, 1, 2] bcast_S4x5075x10_S4x5075x10x1_0_1_2 : (⟨S4x5075x10, .i32⟩ : BufTy).Contents (Elt F) → (⟨S4x5075x10x1, .i32⟩ : BufTy).Contents (Elt F)),
    binary main_arg0 main_v16 main_v17 ((fun x i => Host.gather gather_S4x512x256_S4x5075x10x1_S4x5075x10x256_3_1_0_0_1_3_11256 x i) : (⟨S4x512x256, .f32⟩ : BufTy).Contents (Elt F) → (⟨S4x5075x10x1, .i32⟩ : BufTy).Contents (Elt F) → (⟨S4x5075x10x256, .f32⟩ : BufTy).Contents (Elt F)),
    unary main_v8 main_v18 (broadcastInDim S4x5075x10x1 ![0, 1, 2] bcast_S4x5075x10_S4x5075x10x1_0_1_2 : (⟨S4x5075x10, .i1⟩ : BufTy).Contents (Elt F) → (⟨S4x5075x10x1, .i1⟩ : BufTy).Contents (Elt F)),
    nullary main_cst (constant S_ .f32 0xFF800000#32),
    TRef.unary (TRef.of (T := ⟨S_, .f32⟩) main_cst) (TRef.of (T := ⟨S_, .f32⟩) main_call0_v0) id,
    TRef.unary (TRef.of (T := ⟨S4x5075x10x1, .i1⟩) main_v18) (TRef.of (T := ⟨S4x5075x10x256, .i1⟩) main_call0_v1) (broadcastInDim S4x5075x10x256 ![0, 1, 2, 3] bcast_S4x5075x10x1_S4x5075x10x256_0_1_2_3),
    TRef.unary (TRef.of (T := ⟨S_, .f32⟩) main_call0_v0) (TRef.of (T := ⟨S4x5075x10x256, .f32⟩) main_call0_v2) (broadcastInDim S4x5075x10x256 ![] bcast_S_S4x5075x10x256),
    TRef.ternary (TRef.of (T := ⟨S4x5075x10x256, .i1⟩) main_call0_v1) (TRef.of (T := ⟨S4x5075x10x256, .f32⟩) main_v17) (TRef.of (T := ⟨S4x5075x10x256, .f32⟩) main_call0_v2) (TRef.of (T := ⟨S4x5075x10x256, .f32⟩) main_v19) select,
    nullary main_cst_2 (constant S_ .f32 0xFF800000#32),
    binary main_v19 main_cst_2 main_v20 ((fun x v => Host.reduce FloatOps.maximumf x v reducesTo_S4x5075x10x256_S4x5075x256_d2 h_S_) : (⟨S4x5075x10x256, .f32⟩ : BufTy).Contents (Elt F) → (⟨S_, .f32⟩ : BufTy).Contents (Elt F) → (⟨S4x5075x256, .f32⟩ : BufTy).Contents (Elt F)),
    unary main_arg4 main_v21 (broadcastInDim S4x5075x1 ![0, 1] bcast_S4x5075_S4x5075x1_0_1 : (⟨S4x5075, .i1⟩ : BufTy).Contents (Elt F) → (⟨S4x5075x1, .i1⟩ : BufTy).Contents (Elt F)),
    nullary main_cst_3 (constant S_ .f32 0x00000000#32),
    TRef.unary (TRef.of (T := ⟨S_, .f32⟩) main_cst_3) (TRef.of (T := ⟨S_, .f32⟩) main_call1_v0) id,
    TRef.unary (TRef.of (T := ⟨S4x5075x1, .i1⟩) main_v21) (TRef.of (T := ⟨S4x5075x256, .i1⟩) main_call1_v1) (broadcastInDim S4x5075x256 ![0, 1, 2] bcast_S4x5075x1_S4x5075x256_0_1_2),
    TRef.unary (TRef.of (T := ⟨S_, .f32⟩) main_call1_v0) (TRef.of (T := ⟨S4x5075x256, .f32⟩) main_call1_v2) (broadcastInDim S4x5075x256 ![] bcast_S_S4x5075x256),
    TRef.ternary (TRef.of (T := ⟨S4x5075x256, .i1⟩) main_call1_v1) (TRef.of (T := ⟨S4x5075x256, .f32⟩) main_v20) (TRef.of (T := ⟨S4x5075x256, .f32⟩) main_call1_v2) (TRef.of (T := ⟨S4x5075x256, .f32⟩) main_v22) select,
    binary main_arg3 main_arg2 main_v23 (subi : (⟨S4x5075, .i32⟩ : BufTy).Contents (Elt F) → (⟨S4x5075, .i32⟩ : BufTy).Contents (Elt F) → (⟨S4x5075, .i32⟩ : BufTy).Contents (Elt F)),
    nullary main_c_4 (constantI S_ 32 1#32),
    unary main_c_4 main_v24 (broadcastInDim S4x5075 ![] bcast_S_S4x5075 : (⟨S_, .i32⟩ : BufTy).Contents (Elt F) → (⟨S4x5075, .i32⟩ : BufTy).Contents (Elt F)),
    binary main_v23 main_v24 main_v25 (subi : (⟨S4x5075, .i32⟩ : BufTy).Contents (Elt F) → (⟨S4x5075, .i32⟩ : BufTy).Contents (Elt F) → (⟨S4x5075, .i32⟩ : BufTy).Contents (Elt F)),
    nullary main_c_5 (constantI S_ 32 0#32),
    nullary main_c_6 (constantI S_ 32 9#32),
    TRef.unary (TRef.of (T := ⟨S_, .i32⟩) main_c_5) (TRef.of (T := ⟨S_, .i32⟩) main_call2_v0) id,
    TRef.unary (TRef.of (T := ⟨S_, .i32⟩) main_call2_v0) (TRef.of (T := ⟨S4x5075, .i32⟩) main_call2_v1) (broadcastInDim S4x5075 ![] bcast_S_S4x5075),
    TRef.binary (TRef.of (T := ⟨S4x5075, .i32⟩) main_call2_v1) (TRef.of (T := ⟨S4x5075, .i32⟩) main_v25) (TRef.of (T := ⟨S4x5075, .i32⟩) main_call2_v2) maxsi,
    TRef.unary (TRef.of (T := ⟨S_, .i32⟩) main_c_6) (TRef.of (T := ⟨S_, .i32⟩) main_call2_v3) id,
    TRef.unary (TRef.of (T := ⟨S_, .i32⟩) main_call2_v3) (TRef.of (T := ⟨S4x5075, .i32⟩) main_call2_v4) (broadcastInDim S4x5075 ![] bcast_S_S4x5075),
    TRef.binary (TRef.of (T := ⟨S4x5075, .i32⟩) main_call2_v4) (TRef.of (T := ⟨S4x5075, .i32⟩) main_call2_v2) (TRef.of (T := ⟨S4x5075, .i32⟩) main_v26) minsi,
    nullary main_c_7 (constantI S_ 32 0#32),
    unary main_c_7 main_v27 (broadcastInDim S4x5075 ![] bcast_S_S4x5075 : (⟨S_, .i32⟩ : BufTy).Contents (Elt F) → (⟨S4x5075, .i32⟩ : BufTy).Contents (Elt F)),
    binary main_v26 main_v27 main_v28 (cmpi .slt : (⟨S4x5075, .i32⟩ : BufTy).Contents (Elt F) → (⟨S4x5075, .i32⟩ : BufTy).Contents (Elt F) → (⟨S4x5075, .i1⟩ : BufTy).Contents (Elt F)),
    nullary main_c_8 (constantI S_ 32 10#32),
    unary main_c_8 main_v29 (broadcastInDim S4x5075 ![] bcast_S_S4x5075 : (⟨S_, .i32⟩ : BufTy).Contents (Elt F) → (⟨S4x5075, .i32⟩ : BufTy).Contents (Elt F)),
    binary main_v26 main_v29 main_v30 (addi : (⟨S4x5075, .i32⟩ : BufTy).Contents (Elt F) → (⟨S4x5075, .i32⟩ : BufTy).Contents (Elt F) → (⟨S4x5075, .i32⟩ : BufTy).Contents (Elt F)),
    ternary main_v28 main_v30 main_v26 main_v31 (select : (⟨S4x5075, .i1⟩ : BufTy).Contents (Elt F) → (⟨S4x5075, .i32⟩ : BufTy).Contents (Elt F) → (⟨S4x5075, .i32⟩ : BufTy).Contents (Elt F) → (⟨S4x5075, .i32⟩ : BufTy).Contents (Elt F)),
    unary main_v31 main_v32 (broadcastInDim S4x5075x1 ![0, 1] bcast_S4x5075_S4x5075x1_0_1 : (⟨S4x5075, .i32⟩ : BufTy).Contents (Elt F) → (⟨S4x5075x1, .i32⟩ : BufTy).Contents (Elt F)),
    binary main_arg5 main_v32 main_v33 ((fun x i => Host.gather gather_S10x25_S4x5075x1_S4x5075x25_2_0_n_n_0_2_125 x i) : (⟨S10x25, .f32⟩ : BufTy).Contents (Elt F) → (⟨S4x5075x1, .i32⟩ : BufTy).Contents (Elt F) → (⟨S4x5075x25, .f32⟩ : BufTy).Contents (Elt F)),
    binary main_v22 main_v33 main_v34 (joined (F := F)),
    unary main_arg4 main_v35 (broadcastInDim S4x5075x1 ![0, 1] bcast_S4x5075_S4x5075x1_0_1 : (⟨S4x5075, .i1⟩ : BufTy).Contents (Elt F) → (⟨S4x5075x1, .i1⟩ : BufTy).Contents (Elt F)),
    nullary main_cst_9 (constant S_ .f32 0x00000000#32),
    TRef.unary (TRef.of (T := ⟨S_, .f32⟩) main_cst_9) (TRef.of (T := ⟨S_, .f32⟩) main_call3_v0) id,
    TRef.unary (TRef.of (T := ⟨S4x5075x1, .i1⟩) main_v35) (TRef.of (T := ⟨S4x5075x281, .i1⟩) main_call3_v1) (broadcastInDim S4x5075x281 ![0, 1, 2] bcast_S4x5075x1_S4x5075x281_0_1_2),
    TRef.unary (TRef.of (T := ⟨S_, .f32⟩) main_call3_v0) (TRef.of (T := ⟨S4x5075x281, .f32⟩) main_call3_v2) (broadcastInDim S4x5075x281 ![] bcast_S_S4x5075x281),
    TRef.ternary (TRef.of (T := ⟨S4x5075x281, .i1⟩) main_call3_v1) (TRef.of (T := ⟨S4x5075x281, .f32⟩) main_v34) (TRef.of (T := ⟨S4x5075x281, .f32⟩) main_call3_v2) (TRef.of (T := ⟨S4x5075x281, .f32⟩) main_v36) select,
    binary main_v36 main_arg6 main_v37 ((fun l r => Host.dotGeneral dot_S4x5075x281_S281x9_S4x5075x9_2_0_01_1_n_n none l r) : (⟨S4x5075x281, .f32⟩ : BufTy).Contents (Elt F) → (⟨S281x9, .f32⟩ : BufTy).Contents (Elt F) → (⟨S4x5075x9, .f32⟩ : BufTy).Contents (Elt F)),
    unary main_arg7 main_v38 (broadcastInDim S1x1x9 ![2] bcast_S9_S1x1x9_2 : (⟨S9, .f32⟩ : BufTy).Contents (Elt F) → (⟨S1x1x9, .f32⟩ : BufTy).Contents (Elt F)),
    unary main_v38 main_v39 (broadcastInDim S4x5075x9 ![0, 1, 2] bcast_S1x1x9_S4x5075x9_0_1_2 : (⟨S1x1x9, .f32⟩ : BufTy).Contents (Elt F) → (⟨S4x5075x9, .f32⟩ : BufTy).Contents (Elt F)),
    binary main_v37 main_v39 main_v40 (addf : (⟨S4x5075x9, .f32⟩ : BufTy).Contents (Elt F) → (⟨S4x5075x9, .f32⟩ : BufTy).Contents (Elt F) → (⟨S4x5075x9, .f32⟩ : BufTy).Contents (Elt F)),
    TRef.nullary (TRef.of (T := ⟨S4x5075x9, .i32⟩) main_call4_v0) (iotaInDim S4x5075x9 32 2),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S4x5075x9, .f32⟩) main_v40) (TRef.of (T := ⟨S4x5075x9, .i32⟩) main_call4_v0) (TRef.of (T := ⟨S_, .f32⟩) main_call4_cst) (TRef.of (T := ⟨S_, .i32⟩) main_call4_c) (TRef.of (T := ⟨S4x5075, .f32⟩) main_call4_v1_0) (fun x y u v j => (Host.argReduce reducer_argmax_f32_i32 x y u v reducesTo_S4x5075x9_S4x5075_d2 h_S_ j).1),
    TRef.quaternary (TRef.of (T := ⟨S4x5075x9, .f32⟩) main_v40) (TRef.of (T := ⟨S4x5075x9, .i32⟩) main_call4_v0) (TRef.of (T := ⟨S_, .f32⟩) main_call4_cst) (TRef.of (T := ⟨S_, .i32⟩) main_call4_c) (TRef.of (T := ⟨S4x5075, .i32⟩) main_v41) (fun x y u v j => (Host.argReduce reducer_argmax_f32_i32 x y u v reducesTo_S4x5075x9_S4x5075_d2 h_S_ j).2) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., unary_bufs_sub .., unary_bufs_sub .., ternary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., unary_bufs_sub .., unary_bufs_sub .., ternary_bufs_sub .., binary_bufs_sub .., unary_bufs_sub .., unary_bufs_sub .., binary_bufs_sub .., nullary_bufs_sub .., nullary_bufs_sub .., nullary_bufs_sub .., quaternary_bufs_sub .., quaternary_bufs_sub ..⟩

/-- The scores of the arguments at the launch. -/
def scoresAt (m : (ℓ : Loc nD τ sig) → Buf (Elt F) ℓ) (c : Dev nD) : FVec F S4x5075x9 .f32 :=
  scoresOf (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

set_option maxRecDepth 8192 in
set_option maxHeartbeats 26800000 in
/-- The reference runs to its end, with the scores and their classes as results and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = scoresAt m c
      ∧ r.2.mem ((c.tc : Thread nD τ).loc main_v41) = classesOf (scoresAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v40).trans (by simp only [ops, TRef.nullary, TRef.binary, TRef.ternary, TRef.unary, TRef.quaternary, TRef.toBuf, TRef.ofBuf, cast_eq]; after_results_simp <;> rfl),
      (h c main_v41).trans (by simp only [ops, TRef.nullary, TRef.binary, TRef.ternary, TRef.unary, TRef.quaternary, TRef.toBuf, TRef.ofBuf, cast_eq]; after_results_simp <;> rfl),
      (h c main_arg0).trans (by simp only [ops, TRef.nullary, TRef.binary, TRef.ternary, TRef.unary, TRef.quaternary, TRef.toBuf, TRef.ofBuf, cast_eq]; after_results_simp <;> rfl),
      (h c main_arg1).trans (by simp only [ops, TRef.nullary, TRef.binary, TRef.ternary, TRef.unary, TRef.quaternary, TRef.toBuf, TRef.ofBuf, cast_eq]; after_results_simp <;> rfl),
      (h c main_arg2).trans (by simp only [ops, TRef.nullary, TRef.binary, TRef.ternary, TRef.unary, TRef.quaternary, TRef.toBuf, TRef.ofBuf, cast_eq]; after_results_simp <;> rfl),
      (h c main_arg3).trans (by simp only [ops, TRef.nullary, TRef.binary, TRef.ternary, TRef.unary, TRef.quaternary, TRef.toBuf, TRef.ofBuf, cast_eq]; after_results_simp <;> rfl),
      (h c main_arg4).trans (by simp only [ops, TRef.nullary, TRef.binary, TRef.ternary, TRef.unary, TRef.quaternary, TRef.toBuf, TRef.ofBuf, cast_eq]; after_results_simp <;> rfl),
      (h c main_arg5).trans (by simp only [ops, TRef.nullary, TRef.binary, TRef.ternary, TRef.unary, TRef.quaternary, TRef.toBuf, TRef.ofBuf, cast_eq]; after_results_simp <;> rfl),
      (h c main_arg6).trans (by simp only [ops, TRef.nullary, TRef.binary, TRef.ternary, TRef.unary, TRef.quaternary, TRef.toBuf, TRef.ofBuf, cast_eq]; after_results_simp <;> rfl),
      (h c main_arg7).trans (by simp only [ops, TRef.nullary, TRef.binary, TRef.ternary, TRef.unary, TRef.quaternary, TRef.toBuf, TRef.ofBuf, cast_eq]; after_results_simp <;> rfl)⟩)
    (run_seq scopedRefs_eq scopedSems_eq defs main (fun _ => ops) main_eq (fun _ => ops_sub) m ρ)

end Cert.Proof.Ref
end
-- ==== Proof.Frames.lean ====
/-
  The frames: each program runs to its end and leaves its arguments and every counter as they were.
-/
module

public import proofs.«01_k».proof.Defs
public import proofs.«01_k».proof.Proof.Program
public import proofs.«01_k».proof.Proof.Same
public import proofs.«01_k».proof.Proof.RefRun

@[expose] public section

noncomputable section

namespace Cert.Proof.Run

open Cert.KernelIdeal Cert.KernelIdeal.Gen Idealize.ShloMosaic Idealize.ShloMosaic.TcCoe Idealize.SL.Sem

/-- At any float type the arguments and the counters end as they were. -/
theorem frame_any {F : FTy → Type} [FloatOps F] [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) ∧ r.2.sem = fun _ => 0 :=
  (θ_run Cert.KernelIdeal.defs _ _).mono (fun _ h => ⟨fun c => (h.1 c).2, h.2⟩) (run_main m ρ)

set_option maxRecDepth 100000 in
theorem frame_kernel : Cert.quiescent_Kernel := fun m ρ _ => by
  rw [Same.defs_same]
  exact frame_any m ρ

theorem frame_ideal : Cert.quiescent_KernelIdeal := fun m ρ _ => frame_any m ρ

theorem frame_reference : Cert.quiescent_ReferenceIdeal := fun m ρ _ =>
  (θ_run Cert.ReferenceIdeal.defs _ _).mono
    (fun r h => ⟨fun c => (h c).2.2, sem_eq_zero_of_no_sems (by decide) r.2⟩) (Ref.run (F := Ideal) m ρ)

end Cert.Proof.Run
end
-- ==== Proof.Entries.lean ====
/-
  The program's results entry by entry: each is a row of the table at the row number of its span.
-/
module

public import proofs.«01_k».proof.Proof.Vals
public import proofs.«01_k».proof.Proof.Words
public import Idealize.ShloMosaic.Lib.Pipeline.Value

@[expose] public section

noncomputable section

namespace Cert.Proof.Run

open Cert.KernelIdeal Cert.KernelIdeal.Gen
open Idealize.ShloMosaic
open Idealize.ShloMosaic.TcCoe
open Idealize.SL.Sem
open Idealize.ShloMosaic.ValueIdx (ix1 ix2 ix3 eq_ix1 eq_ix2)

variable {F : FTy → Type} [FloatOps F]

/-! ## The table's rows -/

theorem eight_at (b : Fin 8 → FVec F S512x16 .f32) (st : Fin 512) (c : Fin 128) :
    eight (b 0) (b 1) (b 2) (b 3) (b 4) (b 5) (b 6) (b 7) (ix2 st c)
      = b ⟨c.val / 16, by omega⟩ (ix2 st ⟨c.val % 16, Nat.mod_lt _ (by decide)⟩) :=
  concatenate_ofFn_apply (s₁ := S512x16) (1 : Fin S512x128.rank) b
    concatenates_S512x16_S512x16_S512x16_S512x16_S512x16_S512x16_S512x16_S512x16_S512x128_d1 rfl 16 rfl (ix2 st c) ⟨c.val / 16, by omega⟩ rfl
    (ix2 st ⟨c.val % 16, Nat.mod_lt _ (by decide)⟩) rfl fun a ha => by
      match a with
      | 0 => rfl
      | 1 => exact absurd rfl ha

theorem eight1_at (b : FVec F S1x16 .f32) (c : Fin 128) :
    eight1 b (ix2 0 c) = b (ix2 0 ⟨c.val % 16, Nat.mod_lt _ (by decide)⟩) :=
  concatenate_ofFn_apply (s₁ := S1x16) (N := 8) (1 : Fin S1x128.rank) (fun _ => b)
    concatenates_S1x16_S1x16_S1x16_S1x16_S1x16_S1x16_S1x16_S1x16_S1x128_d1 rfl 16 rfl (ix2 0 c) ⟨c.val / 16, by omega⟩ rfl
    (ix2 0 ⟨c.val % 16, Nat.mod_lt _ (by decide)⟩) rfl fun a ha => by
      match a with
      | 0 => rfl
      | 1 => exact absurd rfl ha

theorem group_at (enc : Vec F S4x512x256 .f32) (lenb : Vec F S10x25 .f32) (w : Vec F S281x9 .f32) (b : Vec F S1x9 .f32) (g : ℕ) (st : Fin 512) (c : Fin 128) :
    groupN enc lenb w b g (ix2 st c) = blockN enc lenb w b (8 * g + c.val / 16) (ix2 st ⟨c.val % 16, Nat.mod_lt _ (by decide)⟩) :=
  eight_at (fun i => blockN enc lenb w b (8 * g + i.val)) st c

/-- Entry of the reshaped table. -/
theorem entry_cast (T : Vec F S2561x128 .f32) (w : BitVec 32) (R : ℕ) (hw : w = BitVec.ofNat 32 R) (hR : R < 20488) (c : Fin 16) :
    entry (shapeCast S20488x16 T shapeCasts_S2561x128_S20488x16) w c
      = T (ix2 ⟨R / 8, by omega⟩ ⟨R % 8 * 16 + c.val, by have := c.isLt; omega⟩) := by
  have hm : w.toNat % 20488 = R := by rw [hw, BitVec.toNat_ofNat]; omega
  unfold entry
  refine shapeCast_apply _ _ _ _ ?_
  rw [show ((S2561x128.rowMajor (ix2 ⟨R / 8, by omega⟩ ⟨R % 8 * 16 + c.val, by have := c.isLt; omega⟩) : Fin _) : ℕ) = _ from Shape.rowMajor_val_two _,
    show ((S20488x16.rowMajor (ix2 ⟨w.toNat % 20488, Nat.mod_lt _ (by decide)⟩ c) : Fin _) : ℕ) = _ from Shape.rowMajor_val_two _]
  show R / 8 * 128 + (R % 8 * 16 + c.val) = w.toNat % 20488 * 16 + c.val
  omega

/-- The row of a span that is there. -/
theorem entry_span (enc : Vec F S4x512x256 .f32) (lenb : Vec F S10x25 .f32) (w : Vec F S281x9 .f32) (b : Vec F S1x9 .f32)
    (n : ℕ) (hn : n < 40) (st : Fin 512) (c : Fin 16) :
    entry (shapeCast S20488x16 (tableVal enc lenb w b) shapeCasts_S2561x128_S20488x16) (BitVec.ofNat 32 (rowNat n st.val)) c
      = blockN enc lenb w b n (ix2 st c) := by
  have hst := st.isLt
  have hc := c.isLt
  have hR := rowNat_lt n st.val hn hst
  rw [entry_cast _ _ _ rfl (by omega)]
  have hq : rowNat n st.val / 8 = n / 8 * 512 + st.val := by unfold rowNat; omega
  have hr : rowNat n st.val % 8 = n % 8 := by unfold rowNat; omega
  unfold tableVal
  rw [if_pos (show rowNat n st.val / 8 < 2560 by omega)]
  refine (group_at enc lenb w b _ _ _).trans ?_
  have e1 : 8 * (rowNat n st.val / 8 / 512) + (rowNat n st.val % 8 * 16 + c.val) / 16 = n := by rw [hq, hr]; omega
  have e2 : (⟨rowNat n st.val / 8 % 512, Nat.mod_lt _ (by decide)⟩ : Fin 512) = st := Fin.ext (by show rowNat n st.val / 8 % 512 = st.val; rw [hq]; omega)
  have e3 : (⟨(rowNat n st.val % 8 * 16 + c.val) % 16, Nat.mod_lt _ (by decide)⟩ : Fin 16) = c := Fin.ext (by show (rowNat n st.val % 8 * 16 + c.val) % 16 = c.val; omega)
  show blockN enc lenb w b (8 * (rowNat n st.val / 8 / 512) + (rowNat n st.val % 8 * 16 + c.val) / 16)
    (ix2 (⟨rowNat n st.val / 8 % 512, _⟩ : Fin 512) (⟨(rowNat n st.val % 8 * 16 + c.val) % 16, _⟩ : Fin 16)) = _
  rw [e1, e2, e3]

/-- The row of one that is not. -/
theorem entry_absent (enc : Vec F S4x512x256 .f32) (lenb : Vec F S10x25 .f32) (w : Vec F S281x9 .f32) (b : Vec F S1x9 .f32) (c : Fin 16) :
    entry (shapeCast S20488x16 (tableVal enc lenb w b) shapeCasts_S2561x128_S20488x16) 20480#32 c = padRow1 (k0_pay4 b) (ix2 0 c) := by
  have hc := c.isLt
  rw [entry_cast _ _ 20480 rfl (by omega)]
  unfold tableVal
  rw [if_neg (show ¬ (20480 / 8 < 2560) by decide)]
  refine (eight1_at _ _).trans ?_
  exact congrArg (fun x => padRow1 (k0_pay4 b) (ix2 0 x)) (Fin.ext (by show (20480 % 8 * 16 + c.val) % 16 = c.val; omega))

/-! ## The lanes of a row -/

theorem padRow_score (sc : FVec F S512x9 .f32) (st : Fin 512) (l : Fin 9) :
    padRow sc (ix2 st ⟨l.val, by omega⟩) = sc (ix2 st l) :=
  concatenate_apply_piece (1 : Fin S512x16.rank) _ _ _ 0 (by simp) S512x9 sc rfl rfl 0 rfl (ix2 st l)
    (fun a ha => by match a with
      | 0 => rfl
      | 1 => exact absurd rfl ha) (Nat.zero_add _)

theorem padRow_class (sc : FVec F S512x9 .f32) (st : Fin 512) :
    padRow sc (ix2 st 9) = FloatOps.sitofp .f32 (firstLane sc (ix2 st 0)) :=
  concatenate_apply_piece (1 : Fin S512x16.rank) _ _ _ 1 (by simp) S512x1 (sitofp .f32 (firstLane sc)) rfl rfl 9 rfl (ix2 st 0)
    (fun a ha => by match a with
      | 0 => rfl
      | 1 => exact absurd rfl ha) rfl

theorem padRow1_score (sc : FVec F S1x9 .f32) (l : Fin 9) : padRow1 sc (ix2 0 ⟨l.val, by omega⟩) = sc (ix2 0 l) :=
  concatenate_apply_piece (1 : Fin S1x16.rank) _ _ _ 0 (by simp) S1x9 sc rfl rfl 0 rfl (ix2 0 l)
    (fun a ha => by match a with
      | 0 => rfl
      | 1 => exact absurd rfl ha) (Nat.zero_add _)

theorem padRow1_class (sc : FVec F S1x9 .f32) : padRow1 sc (ix2 0 9) = FloatOps.sitofp .f32 (firstLane1 sc (ix2 0 0)) :=
  concatenate_apply_piece (1 : Fin S1x16.rank) _ _ _ 1 (by simp) S1x1 (sitofp .f32 (firstLane1 sc)) rfl rfl 9 rfl (ix2 0 0)
    (fun a ha => by match a with
      | 0 => rfl
      | 1 => exact absurd rfl ha) rfl

/-! ## The results -/

variable (m : (ℓ : Loc nD τ sig) → Buf (Elt F) ℓ) (d : Dev nD)

theorem scores_at (b : Fin 4) (j : Fin 5075) (l : Fin 9) :
    scoresFin m d (ix3 b j l) = entry (tabM m d) (idxM m d (ix2 b ⟨j.val, by omega⟩)) ⟨l.val, by omega⟩ := by
  have hb := b.isLt
  have hj := j.isLt
  have hl := l.isLt
  unfold scoresFin
  refine (extractStridedSlice_apply _ _ _ _ (ix3 b ⟨j.val, by omega⟩ l) fun a => ?_).trans ?_
  · match a with
    | 0 => exact (Nat.zero_add _).symm
    | 1 => exact (Nat.zero_add _).symm
    | 2 => exact (Nat.zero_add _).symm
  refine (shapeCast_apply _ _ _ (ix2 b ⟨j.val * 9 + l.val, by omega⟩) ?_).trans ?_
  · rw [show ((S4x46080.rowMajor (ix2 b ⟨j.val * 9 + l.val, by omega⟩) : Fin _) : ℕ) = _ from Shape.rowMajor_val_two _,
      show ((S4x5120x9.rowMajor (ix3 b ⟨j.val, by omega⟩ l) : Fin _) : ℕ) = _ from Shape.rowMajor_val_three _]
    show b.val * 46080 + (j.val * 9 + l.val) = (b.val * 5120 + j.val) * 9 + l.val
    omega
  · unfold scoresOut
    have e1 : (⟨(j.val * 9 + l.val) / 9, by omega⟩ : Fin 5120) = ⟨j.val, by omega⟩ := Fin.ext (by show (j.val * 9 + l.val) / 9 = j.val; omega)
    have e2 : (⟨(j.val * 9 + l.val) % 9, by omega⟩ : Fin 16) = ⟨l.val, by omega⟩ := Fin.ext (by show (j.val * 9 + l.val) % 9 = l.val; omega)
    show entry (tabM m d) (idxM m d (ix2 b (⟨(j.val * 9 + l.val) / 9, _⟩ : Fin 5120))) (⟨(j.val * 9 + l.val) % 9, _⟩ : Fin 16) = _
    rw [e1, e2]

theorem preds_at (b : Fin 4) (j : Fin 5075) :
    predsFin m d (ix2 b j) = FloatOps.fptosi 32 (entry (tabM m d) (idxM m d (ix2 b ⟨j.val, by omega⟩)) 9) := by
  unfold predsFin
  refine (extractStridedSlice_apply _ _ _ _ (ix2 b ⟨j.val, by omega⟩) fun a => ?_).trans rfl
  match a with
  | 0 => exact (Nat.zero_add _).symm
  | 1 => exact (Nat.zero_add _).symm

end Cert.Proof.Run
end
-- ==== Proof.Scores.lean ====
/-
  A row of the table at the ideal values: the scores of one start at one length as the sums of the mathematics.
-/
module

public import proofs.«01_k».proof.Proof.Entries
public import Idealize.ShloMosaic.PureOps.Ideal.Laws
public import Idealize.ShloMosaic.Lib.MatmulPlain

@[expose] public section

noncomputable section

namespace Cert.Proof.Run

open Cert.KernelIdeal Cert.KernelIdeal.Gen
open Idealize.ShloMosaic
open Idealize.ShloMosaic.TcCoe
open Idealize.SL.Sem
open Idealize.ShloMosaic.ValueIdx (ix1 ix2 ix3 eq_ix1 eq_ix2)

/-- The greatest of the first `k + 1` values. -/
def topTo (x : ℕ → EReal) : ℕ → EReal
  | 0 => x 0
  | k + 1 => max (topTo x k) (x (k + 1))

/-- The word `j` places after the start, no further than the last. -/
def wordAt (st j : ℕ) : Fin 512 := ⟨min (st + j) 511, by omega⟩

/-- The score of class `l` for the span of batch `i` that starts at word `st` and has `k + 1` words. -/
def score (enc : FVec Ideal S4x512x256 .f32) (lens : FVec Ideal S10x25 .f32) (w : FVec Ideal S281x9 .f32) (b : Fin 9 → EReal)
    (i : Fin 4) (st : ℕ) (k : Fin 10) (l : Fin 9) : EReal :=
  ((∑ c : Fin 256, topTo (fun j => enc (ix3 i (wordAt st j) c)) k.val * w (ix2 ⟨c.val, by omega⟩ l) : EReal)
    + (∑ c : Fin 25, (lens (ix2 k c) : EReal) * w (ix2 ⟨256 + c.val, by omega⟩ l) : EReal)) + b l

/-! ## The shifts -/

section Shift

variable {α : Type}

theorem shift_at {n k : ℕ} (hn : n + k = 512) (x₁ : (⟨2, ![n, 256]⟩ : Shape).Idx → α) (x₂ : (⟨2, ![k, 256]⟩ : Shape).Idx → α)
    (h : Shape.Concatenates [⟨2, ![n, 256]⟩, ⟨2, ![k, 256]⟩] S512x256 0) (e : S512x256.Idx → α)
    (h₁ : ∀ (r : Fin n) (c : Fin 256), x₁ (ix2 r c) = e (ix2 ⟨r.val + k, by omega⟩ c))
    (h₂ : ∀ (r : Fin k) (c : Fin 256), x₂ (ix2 r c) = e (ix2 511 c)) (st : Fin 512) (c : Fin 256) :
    concatenate S512x256 0 [⟨⟨2, ![n, 256]⟩, x₁⟩, ⟨⟨2, ![k, 256]⟩, x₂⟩] h (ix2 st c) = e (ix2 (wordAt st.val k) c) := by
  have hst := st.isLt
  by_cases hlt : st.val < n
  · refine (concatenate_pair_apply_left _ _ _ h (ix2 st c) rfl (ix2 ⟨st.val, hlt⟩ c) fun a => ?_).trans ((h₁ _ _).trans ?_)
    · match a with
      | 0 => rfl
      | 1 => rfl
    · exact congrArg (fun r => e (ix2 r c)) (Fin.ext (by show st.val + k = min (st.val + k) 511; omega))
  · refine (concatenate_pair_apply_right _ _ _ h (ix2 st c) rfl rfl (ix2 ⟨st.val - n, by omega⟩ c) (fun a ha => ?_) ?_).trans ((h₂ _ _).trans ?_)
    · match a with
      | 0 => exact absurd rfl ha
      | 1 => rfl
    · show st.val - n + n = st.val
      omega
    · exact congrArg (fun r => e (ix2 r c)) (Fin.ext (by show 511 = min (st.val + k) 511; omega))

theorem slice_at {n k : ℕ} (hn : n + k ≤ 512) (e : S512x256.Idx → α) (h : S512x256.Slices ![k, 0] ⟨2, ![n, 256]⟩) (r : Fin n) (c : Fin 256) :
    extractStridedSlice ⟨2, ![n, 256]⟩ ![k, 0] e h (ix2 r c) = e (ix2 ⟨r.val + k, by omega⟩ c) :=
  extractStridedSlice_apply _ _ h _ _ fun a => by
    match a with
    | 0 => exact Nat.add_comm _ _
    | 1 => exact (Nat.zero_add _).symm

theorem last_at {k : ℕ} (e : S512x256.Idx → α) (h : S512x256.Slices ![511, 0] S1x256) (hc : S1x256.ShapeCasts S1x256)
    (hb : S1x256.Broadcasts ⟨2, ![k, 256]⟩) (r : Fin k) (c : Fin 256) :
    broadcastTo ⟨2, ![k, 256]⟩ (shapeCast S1x256 (extractStridedSlice S1x256 ![511, 0] e h) hc) hb (ix2 r c) = e (ix2 511 c) := by
  rw [shapeCast_self]
  refine (broadcastTo_apply _ hb (ix2 r c) (ix2 0 c) fun a => ?_).trans ((slice_at (n := 1) (k := 511) (by omega) e h 0 c).trans rfl)
  match a with
  | 0 => rfl
  | 1 => rfl

end Shift

theorem shifted_at (e : FVec Ideal S512x256 .f32) (k : ℕ) (hk : k < 9) (st : Fin 512) (c : Fin 256) :
    shifted e (k + 1) (ix2 st c) = e (ix2 (wordAt st.val (k + 1)) c) := by
  match k, hk with
  | 0, _ =>
    exact shift_at (n := 511) (k := 1) rfl _ _ concatenates_S511x256_S1x256_S512x256_d0 e (slice_at (by omega) e _)
      (fun r c => (slice_at (n := 1) (k := 511) (by omega) e _ r c).trans (congrArg (fun r => e (ix2 r c)) (Fin.ext (by show r.val + 511 = 511; omega)))) st c
  | 1, _ => exact shift_at (n := 510) (k := 2) rfl _ _ concatenates_S510x256_S2x256_S512x256_d0 e (slice_at (by omega) e _) (last_at e _ _ _) st c
  | 2, _ => exact shift_at (n := 509) (k := 3) rfl _ _ concatenates_S509x256_S3x256_S512x256_d0 e (slice_at (by omega) e _) (last_at e _ _ _) st c
  | 3, _ => exact shift_at (n := 508) (k := 4) rfl _ _ concatenates_S508x256_S4x256_S512x256_d0 e (slice_at (by omega) e _) (last_at e _ _ _) st c
  | 4, _ => exact shift_at (n := 507) (k := 5) rfl _ _ concatenates_S507x256_S5x256_S512x256_d0 e (slice_at (by omega) e _) (last_at e _ _ _) st c
  | 5, _ => exact shift_at (n := 506) (k := 6) rfl _ _ concatenates_S506x256_S6x256_S512x256_d0 e (slice_at (by omega) e _) (last_at e _ _ _) st c
  | 6, _ => exact shift_at (n := 505) (k := 7) rfl _ _ concatenates_S505x256_S7x256_S512x256_d0 e (slice_at (by omega) e _) (last_at e _ _ _) st c
  | 7, _ => exact shift_at (n := 504) (k := 8) rfl _ _ concatenates_S504x256_S8x256_S512x256_d0 e (slice_at (by omega) e _) (last_at e _ _ _) st c
  | 8, _ => exact shift_at (n := 503) (k := 9) rfl _ _ concatenates_S503x256_S9x256_S512x256_d0 e (slice_at (by omega) e _) (last_at e _ _ _) st c

theorem runMax_at (e : FVec Ideal S512x256 .f32) (k : ℕ) (hk : k < 10) (st : Fin 512) (c : Fin 256) :
    runMax e k (ix2 st c) = topTo (fun j => e (ix2 (wordAt st.val j) c)) k := by
  induction k with
  | zero => exact congrArg (fun r => e (ix2 r c)) (Fin.ext (by show st.val = min (st.val + 0) 511; omega))
  | succ k ih =>
    show max (runMax e k (ix2 st c) : EReal) (shifted e (k + 1) (ix2 st c)) = _
    rw [ih (by omega), shifted_at e k (by omega)]
    rfl

/-! ## The parts -/

theorem slab_at (enc : FVec Ideal S4x512x256 .f32) (i : Fin 4) (r : Fin 512) (c : Fin 256) :
    k0_pay6 (F := Ideal) (slab enc i) (ix2 r c) = enc (ix3 i r c) := by
  unfold k0_pay6
  refine (shapeCast_apply _ _ (ix2 r c) (ix3 0 r c) ?_).trans rfl
  rw [show ((S1x512x256.rowMajor (ix3 (0 : Fin 1) r c) : Fin _) : ℕ) = _ from Shape.rowMajor_val_three _,
    show ((S512x256.rowMajor (ix2 r c) : Fin _) : ℕ) = _ from Shape.rowMajor_val_two _]
  show (0 * 512 + r.val) * 256 + c.val = r.val * 256 + c.val
  omega

theorem weights_at (w : FVec Ideal S281x9 .f32) (c : Fin 256) (l : Fin 9) :
    (k0_pay3 (F := Ideal) w (ix2 c l) : EReal) = w (ix2 ⟨c.val, by omega⟩ l) :=
  extractStridedSlice_apply _ w slices_S281x9_o0_0_S256x9 (ix2 c l) _ fun a => by
    match a with
    | 0 => exact (Nat.zero_add _).symm
    | 1 => exact (Nat.zero_add _).symm

theorem lens_at (w : FVec Ideal S281x9 .f32) (lens : FVec Ideal S10x25 .f32) (k : Fin 10) (l : Fin 9) :
    (k0_pay5 (F := Ideal) w lens (ix2 k l) : EReal) = ∑ c : Fin 25, (lens (ix2 k c) : EReal) * w (ix2 ⟨256 + c.val, by omega⟩ l) := by
  unfold k0_pay5
  refine (Ideal.matmul_plain_apply (M := 10) (K := 25) (N := 9) none _ _ _ k l).trans ?_
  rw [show (constant S10x9 .f32 0x00000000#32 (ix2 k l) : Ideal .f32) = (0 : EReal) from Ideal.ofBits_zero_f32, zero_add]
  refine Finset.sum_congr rfl fun c _ => ?_
  refine congrArg (fun y : EReal => (lens (ix2 k c) : EReal) * y) ?_
  exact extractStridedSlice_apply _ w slices_S281x9_o256_0_S25x9 (ix2 c l) _ fun a => by
    match a with
    | 0 => rfl
    | 1 => exact (Nat.zero_add _).symm

theorem one_row (k : Fin 10) (l : Fin 9) (a : Fin S10x9.rank) :
    ((ix2 k l : S10x9.Idx) a).val = (![k.val, 0] : Fin 2 → ℕ) a + ((ix2 (0 : Fin 1) l : S1x9.Idx) (a.cast rfl)).val := by
  match a with
  | 0 => rfl
  | 1 => exact (Nat.zero_add _).symm

theorem lenRow_at (x : FVec Ideal S10x9 .f32) (k : Fin 10) (l : Fin 9) : lenRow x k.val (ix2 0 l) = x (ix2 k l) := by
  match k with
  | 0 => exact extractStridedSlice_apply _ x slices_S10x9_o0_0_S1x9 _ _ (one_row _ l)
  | 1 => exact extractStridedSlice_apply _ x slices_S10x9_o1_0_S1x9 _ _ (one_row _ l)
  | 2 => exact extractStridedSlice_apply _ x slices_S10x9_o2_0_S1x9 _ _ (one_row _ l)
  | 3 => exact extractStridedSlice_apply _ x slices_S10x9_o3_0_S1x9 _ _ (one_row _ l)
  | 4 => exact extractStridedSlice_apply _ x slices_S10x9_o4_0_S1x9 _ _ (one_row _ l)
  | 5 => exact extractStridedSlice_apply _ x slices_S10x9_o5_0_S1x9 _ _ (one_row _ l)
  | 6 => exact extractStridedSlice_apply _ x slices_S10x9_o6_0_S1x9 _ _ (one_row _ l)
  | 7 => exact extractStridedSlice_apply _ x slices_S10x9_o7_0_S1x9 _ _ (one_row _ l)
  | 8 => exact extractStridedSlice_apply _ x slices_S10x9_o8_0_S1x9 _ _ (one_row _ l)
  | 9 => exact extractStridedSlice_apply _ x slices_S10x9_o9_0_S1x9 _ _ (one_row _ l)

theorem row_spread (x : FVec Ideal S1x9 .f32) (st : Fin 512) (l : Fin 9) :
    broadcastTo S512x9 x broadcasts_S1x9_S512x9 (ix2 st l) = x (ix2 0 l) :=
  broadcastTo_apply _ _ _ _ fun a => by
    match a with
    | 0 => rfl
    | 1 => rfl

/-! ## The scores of a row -/

theorem scoresAtLen_at (enc : FVec Ideal S4x512x256 .f32) (lens : FVec Ideal S10x25 .f32) (w : FVec Ideal S281x9 .f32) (b : FVec Ideal S1x9 .f32)
    (i : Fin 4) (k : Fin 10) (st : Fin 512) (l : Fin 9) :
    scoresAtLen (F := Ideal) (k0_pay3 w) (k0_pay4 b) (k0_pay5 w lens) (k0_pay6 (slab enc i)) k.val (ix2 st l)
      = score enc lens w (fun l => b (ix2 0 l)) i st.val k l := by
  have e1 : (FloatOps.matmul (F := Ideal) dot_S512x256_S256x9_S512x9_1_0_0_1_n_n none (truncf .bf16 (runMax (k0_pay6 (slab enc i)) k.val) bitsLt_bf16_f32) (k0_pay3 w)
      (constant S512x9 .f32 0) (ix2 st l) : EReal)
      = ∑ c : Fin 256, topTo (fun j => enc (ix3 i (wordAt st.val j) c)) k.val * w (ix2 ⟨c.val, by omega⟩ l) := by
    refine (Ideal.matmul_plain_apply (M := 512) (K := 256) (N := 9) none _ _ _ st l).trans ?_
    rw [show (constant S512x9 .f32 0 (ix2 st l) : Ideal .f32) = (0 : EReal) from Ideal.ofBits_zero_f32, zero_add]
    refine Finset.sum_congr rfl fun c _ => ?_
    refine congrArg₂ (fun x y : EReal => x * y) ?_ (weights_at w c l)
    refine (runMax_at _ k.val k.isLt st c).trans ?_
    exact congrArg (fun x => topTo x k.val) (funext fun j => slab_at enc i _ c)
  have e2 : (broadcastTo S512x9 (lenRow (F := Ideal) (k0_pay5 w lens) k.val) broadcasts_S1x9_S512x9 (ix2 st l) : EReal)
      = ∑ c : Fin 25, (lens (ix2 k c) : EReal) * w (ix2 ⟨256 + c.val, by omega⟩ l) :=
    (row_spread (lenRow (k0_pay5 w lens) k.val) st l).trans ((lenRow_at _ k l).trans (lens_at w lens k l))
  have e3 : (broadcastTo S512x9 (k0_pay4 (F := Ideal) b) broadcasts_S1x9_S512x9 (ix2 st l) : EReal) = b (ix2 0 l) :=
    (row_spread _ st l).trans (congrFun (shapeCast_self b shapeCasts_S1x9_S1x9) _)
  exact congrArg₂ (fun x y : EReal => x + y) (congrArg₂ (fun x y : EReal => x + y) e1 e2) e3

end Cert.Proof.Run
end
-- ==== Proof.Pick.lean ====
/-
  A fold by an operation that always picks one of its two operands: the result is one of the entries and dominates
  them all. The maximum, the minimum of words and the pair reduction of an arg-max are such operations.
-/
module

public import Idealize.ShloMosaic.PureOps.Ideal.Laws
public import Idealize.ShloMosaic.PureOps.Reduce

@[expose] public section

noncomputable section

namespace Cert.Proof.Pick

open Idealize.ShloMosaic

/-- An operation that picks an operand, the picked one dominating both. -/
structure Picks {α : Type} (f : α → α → α) (dom : α → α → Prop) : Prop where
  one : ∀ a b, f a b = a ∨ f a b = b
  left : ∀ a b, dom (f a b) a
  right : ∀ a b, dom (f a b) b
  refl : ∀ a, dom a a
  trans : ∀ a b c, dom a b → dom b c → dom a c

theorem fold_picks {α ι : Type} {f : α → α → α} {dom : α → α → Prop} (P : Picks f dom) (x : ι → α) (l : List ι) (init : α) :
    (l.foldl (fun r i => f r (x i)) init = init ∨ ∃ i ∈ l, l.foldl (fun r i => f r (x i)) init = x i)
      ∧ dom (l.foldl (fun r i => f r (x i)) init) init
      ∧ ∀ i ∈ l, dom (l.foldl (fun r i => f r (x i)) init) (x i) := by
  induction l generalizing init with
  | nil => exact ⟨.inl rfl, P.refl _, fun _ h => absurd h List.not_mem_nil⟩
  | cons a l ih =>
    obtain ⟨h1, h2, h3⟩ := ih (f init (x a))
    simp only [List.foldl_cons]
    refine ⟨?_, P.trans _ _ _ h2 (P.left _ _), fun i hi => ?_⟩
    · rcases h1 with h | ⟨i, hi, h⟩
      · rcases P.one init (x a) with h' | h'
        · exact .inl (h.trans h')
        · exact .inr ⟨a, List.mem_cons_self, h.trans h'⟩
      · exact .inr ⟨i, List.mem_cons_of_mem _ hi, h⟩
    · rcases List.mem_cons.1 hi with rfl | hi
      · exact P.trans _ _ _ h2 (P.right _ _)
      · exact h3 i hi

section Axis

variable {α : Type} {s t : Shape} {a : Fin s.rank}

theorem mem_fiber (h : s.Reduces [a] t) (j : t.Idx) (i : s.Idx) :
    i ∈ ((List.finRange s.numel).map s.rowMajor.symm).filter (fun i => h.drop i = j) ↔ ∃ k, i = h.lift j k := by
  simp only [List.mem_filter, List.mem_map, List.mem_finRange, true_and, decide_eq_true_eq]
  constructor
  · rintro ⟨-, rfl⟩
    exact ⟨i a, (h.lift_drop i).symm⟩
  · rintro ⟨k, rfl⟩
    exact ⟨⟨s.rowMajor (h.lift j k), Equiv.symm_apply_apply _ _⟩, h.drop_lift j k⟩

/-- A reduction along one axis by such an operation. -/
theorem reduceFold_picks {f : α → α → α} {dom : α → α → Prop} (P : Picks f dom) (h : s.Reduces [a] t) (init : α) (x : s.Idx → α) (j : t.Idx) :
    (reduceFold h f init x j = init ∨ ∃ k, reduceFold h f init x j = x (h.lift j k))
      ∧ dom (reduceFold h f init x j) init ∧ ∀ k, dom (reduceFold h f init x j) (x (h.lift j k)) := by
  rw [reduceFold_eq_foldl]
  obtain ⟨h1, h2, h3⟩ := fold_picks P x (((List.finRange s.numel).map s.rowMajor.symm).filter (fun i => h.drop i = j)) init
  refine ⟨h1.imp id ?_, h2, fun k => h3 _ ((mem_fiber h j _).2 ⟨k, rfl⟩)⟩
  rintro ⟨i, hi, e⟩
  obtain ⟨k, rfl⟩ := (mem_fiber h j i).1 hi
  exact ⟨k, e⟩

/-- The same of the host's reduction. -/
theorem hostReduce_picks {u : Shape} {f : α → α → α} {dom : α → α → Prop} (P : Picks f dom) (h' : s.ReducesTo [a] t) (h : s.Reduces [a] t)
    (hu : 0 < u.numel) (x : s.Idx → α) (init : u.Idx → α) (j : t.Idx) :
    (Host.reduce f x init h' hu j = init (Shape.Idx.first hu) ∨ ∃ k, Host.reduce f x init h' hu j = x (h.lift j k))
      ∧ dom (Host.reduce f x init h' hu j) (init (Shape.Idx.first hu)) ∧ ∀ k, dom (Host.reduce f x init h' hu j) (x (h.lift j k)) := by
  have e : Host.reduce f x init h' hu j = reduceFold h f (init (Shape.Idx.first hu)) x j := by
    rw [Host.reduce_eq_foldl, reduceFold_eq_foldl]
    rfl
  rw [e]
  exact reduceFold_picks P h _ x j

/-- The same of the host's pair reduction. -/
theorem reduce2_picks {β : Type} {u : Shape} {f : α × β → α × β → α × β} {dom : α × β → α × β → Prop} (P : Picks f dom)
    (h' : s.ReducesTo [a] t) (h : s.Reduces [a] t) (hu : 0 < u.numel) (x : s.Idx → α) (y : s.Idx → β) (ix : u.Idx → α) (iy : u.Idx → β) (j : t.Idx) :
    (Host.reduce2 f x y ix iy h' hu j = (ix (Shape.Idx.first hu), iy (Shape.Idx.first hu))
        ∨ ∃ k, Host.reduce2 f x y ix iy h' hu j = (x (h.lift j k), y (h.lift j k)))
      ∧ dom (Host.reduce2 f x y ix iy h' hu j) (ix (Shape.Idx.first hu), iy (Shape.Idx.first hu))
      ∧ ∀ k, dom (Host.reduce2 f x y ix iy h' hu j) (x (h.lift j k), y (h.lift j k)) := by
  have e : Host.reduce2 f x y ix iy h' hu j = reduceFold h f (ix (Shape.Idx.first hu), iy (Shape.Idx.first hu)) (fun i => (x i, y i)) j := by
    rw [Host.reduce2_eq_foldl_fiber, Host.argReduceFiber, List.foldl_map]
    rfl
  rw [e]
  exact reduceFold_picks P h _ _ j

end Axis

/-! ## The operations -/

theorem picks_max : Picks (FloatOps.maximumf (F := Ideal) (φ := .f32)) (fun r a : EReal => a ≤ r) where
  one a b := max_choice (a : EReal) b
  left a b := le_max_left (a : EReal) b
  right a b := le_max_right (a : EReal) b
  refl a := le_refl (a : EReal)
  trans _ _ _ h h' := le_trans (α := EReal) h' h

theorem picks_min : Picks (IntOp.minsi (w := 32)) (fun r a : BitVec 32 => r.toInt ≤ a.toInt) where
  one a b := by unfold IntOp.minsi; split <;> simp
  left a b := by unfold IntOp.minsi; simp only [BitVec.slt, decide_eq_true_eq]; split <;> omega
  right a b := by unfold IntOp.minsi; simp only [BitVec.slt, decide_eq_true_eq]; split <;> omega
  refl a := le_refl _
  trans _ _ _ h h' := le_trans h h'

/-- The place of the greatest of nine values, the first of several. -/
def IsBest (x : Fin 9 → EReal) (l : Fin 9) : Prop := (∀ k, x k ≤ x l) ∧ ∀ k, x k = x l → l ≤ k

theorem IsBest.unique {x : Fin 9 → EReal} {l l' : Fin 9} (h : IsBest x l) (h' : IsBest x l') : l = l' :=
  le_antisymm (h.2 _ (le_antisymm (h.1 _) (h'.1 _))) (h'.2 _ (le_antisymm (h'.1 _) (h.1 _)))

/-- A small number as a word, through the reals and back. -/
theorem word_of_real (l : ℕ) (hl : l < 16) :
    (FloatOps.fptosi 32 ((FloatOps.sitofp .f32 (BitVec.ofNat 32 l) : Ideal .f32)) : BitVec 32) = BitVec.ofNat 32 l := by
  show Ideal.fptosi 32 (((BitVec.ofNat 32 l).toInt : ℝ) : EReal) = _
  have h : (BitVec.ofNat 32 l).toInt = (l : ℤ) := by
    rw [BitVec.toInt_eq_toNat_cond, BitVec.toNat_ofNat]
    split <;> omega
  rw [h, Ideal.fptosi, Ideal.toIntClamped_coe, if_pos (by exact_mod_cast Int.natCast_nonneg l), Int.floor_intCast]
  have : max (-((2 ^ (32 - 1) : ℕ) : ℤ)) (min (((2 ^ (32 - 1) : ℕ) : ℤ) - 1) (l : ℤ)) = (l : ℤ) := by norm_num; omega
  rw [this]
  exact BitVec.ofInt_natCast 32 l

end Cert.Proof.Pick
end
-- ==== Proof.Classes.lean ====
/-
  The class of a span at the ideal values: the kernel and the reference both take the first of the greatest scores.
-/
module

public import proofs.«01_k».proof.Proof.Pick
public import proofs.«01_k».proof.Proof.Table
public import proofs.«01_k».proof.Proof.RefRun
public import Idealize.ShloMosaic.Lib.Pipeline.Value

@[expose] public section

noncomputable section

namespace Cert.Proof.Pick

open Idealize.ShloMosaic
open Idealize.ShloMosaic.ValueIdx (ix1 ix2 ix3 eq_ix1 eq_ix2)

theorem ofBits_bot : (FloatOps.ofBits .f32 0xFF800000#32 : Ideal .f32) = (⊥ : EReal) := by
  show Ideal.ofBits .f32 0xFF800000#32 = ⊥
  simp [Ideal.ofBits, Ideal.ieee]

theorem toInt_small (n : ℕ) (hn : n < 2 ^ 31) : (BitVec.ofNat 32 n).toInt = (n : ℤ) := by
  rw [BitVec.toInt_eq_toNat_cond, BitVec.toNat_ofNat]
  split <;> omega

/-! ## The kernel's way: the least lane holding the maximum -/

/-- A lane's number where the lane holds `M`, nine elsewhere. -/
def mark (x : Fin 9 → EReal) (M : EReal) (k : Fin 9) : BitVec 32 := if x k = M then BitVec.ofNat 32 k.val else 9#32

theorem lane_best (x : Fin 9 → EReal) (M : EReal) (hM : M = ⊥ ∨ ∃ k, M = x k) (hle : ∀ k, x k ≤ M) (W : BitVec 32)
    (hW : W = 2147483647#32 ∨ ∃ k, W = mark x M k) (hmin : ∀ k, W.toInt ≤ (mark x M k).toInt) :
    ∃ l, IsBest x l ∧ W = BitVec.ofNat 32 l.val := by
  obtain ⟨k₀, hk₀⟩ : ∃ k, M = x k := hM.elim (fun h => ⟨0, le_antisymm (h ▸ bot_le) (hle 0)⟩) id
  have hm : ∀ k, x k = M → W.toInt ≤ (k.val : ℤ) := fun k hk => by
    have := hmin k
    rwa [mark, if_pos hk, toInt_small _ (by omega)] at this
  have h0 := hm k₀ hk₀.symm
  rcases hW with rfl | ⟨l, rfl⟩
  · exact absurd h0 (by rw [show (2147483647#32 : BitVec 32).toInt = 2147483647 by decide]; omega)
  · by_cases hl : x l = M
    · refine ⟨l, ⟨fun k => hl ▸ hle k, fun k hk => ?_⟩, by rw [mark, if_pos hl]⟩
      have := hm k (hk.trans hl)
      rw [mark, if_pos hl, toInt_small _ (by omega)] at this
      exact Fin.le_def.2 (by omega)
    · rw [mark, if_neg hl, show (9#32 : BitVec 32).toInt = 9 by decide] at h0
      omega

theorem mark_eq (x : Fin 9 → EReal) (M : EReal) (k : Fin 9) (i : BitVec 32) (hi : i = BitVec.ofNat 32 k.val) :
    Scalar.select (FloatOps.cmpf (F := Ideal) (φ := .f32) .oeq (x k) M) i 9#32 = mark x M k := by
  rw [Ideal.cmpf_def, Ideal.cmp, hi, mark]
  by_cases h : x k = M <;> simp [h, Scalar.select]

section Kernel

open Cert.KernelIdeal Cert.KernelIdeal.Gen Cert.Proof.Run

theorem lift_many (st : Fin 512) (k : Fin 9) : reduces_S512x9_S512.lift (ix1 st) k = (ix2 st k : S512x9.Idx) :=
  funext fun a => by
    match a with
    | 0 => rfl
    | 1 => rfl

theorem lift_one (k : Fin 9) : reduces_S1x9_S1.lift (ix1 0) k = (ix2 0 k : S1x9.Idx) :=
  funext fun a => by
    match a with
    | 0 => rfl
    | 1 => rfl

/-- Every lane's number where it holds the maximum, nine elsewhere. -/
def marks (sc : FVec Ideal S512x9 .f32) : IVec S512x9 32 :=
  select (cmpf .oeq sc (broadcastTo S512x9 (shapeCast S512x1
        (multiReduction .maximumf [1] S512 sc 0xFF800000#32 reduces_S512x9_S512 (.inl rfl) rfl)
        shapeCasts_S512_S512x1) broadcasts_S512x1_S512x9))
      (iota .tc S512x9 32 [1] iota_S512x9_d1_w32) (broadcast S512x9 9#32)

theorem firstLane_best (sc : FVec Ideal S512x9 .f32) (st : Fin 512) :
    ∃ l, IsBest (fun k => sc (ix2 st k)) l ∧ firstLane sc (ix2 st 0) = BitVec.ofNat 32 l.val := by
  have hx := reduceFold_picks picks_max reduces_S512x9_S512 (FloatOps.ofBits .f32 0xFF800000#32 : Ideal .f32) sc (ix1 st)
  have e : firstLane sc (ix2 st 0) = reduceFold reduces_S512x9_S512 IntOp.minsi 2147483647#32 (marks sc) (ix1 st) := shapeCast_apply _ shapeCasts_S512_S512x1 (ix2 st 0) (ix1 st) (by
    rw [show ((S512.rowMajor (ix1 st) : Fin _) : ℕ) = _ from Shape.rowMajor_val_one _,
      show ((S512x1.rowMajor (ix2 st (0 : Fin 1)) : Fin _) : ℕ) = _ from Shape.rowMajor_val_two _]
    show st.val = st.val * 1 + 0
    omega)
  rw [e]
  have hy := reduceFold_picks picks_min reduces_S512x9_S512 2147483647#32 (marks sc) (ix1 st)
  have hs : ∀ k : Fin 9, marks sc (reduces_S512x9_S512.lift (ix1 st) k)
      = mark (fun k => sc (ix2 st k)) (reduceFold reduces_S512x9_S512 (FloatOps.maximumf (F := Ideal) (φ := .f32)) (FloatOps.ofBits .f32 0xFF800000#32 : Ideal .f32) sc (ix1 st)) k := by
    intro k
    refine (congrArg (marks sc) (lift_many st k)).trans (Eq.trans ?_ (mark_eq _ _ k (iota .tc S512x9 32 [1] iota_S512x9_d1_w32 (ix2 st k)) (iota_single_apply _ _ _ _ _ _)))
    refine congrArg (fun M => Scalar.select (FloatOps.cmpf (F := Ideal) (φ := .f32) .oeq (sc (ix2 st k)) M) _ _) ?_
    refine (broadcastTo_apply _ _ (ix2 st k) (ix2 st 0) fun a => ?_).trans (shapeCast_apply _ shapeCasts_S512_S512x1 (ix2 st 0) (ix1 st) ?_)
    · match a with
      | 0 => rfl
      | 1 => rfl
    · rw [show ((S512.rowMajor (ix1 st) : Fin _) : ℕ) = _ from Shape.rowMajor_val_one _,
        show ((S512x1.rowMajor (ix2 st (0 : Fin 1)) : Fin _) : ℕ) = _ from Shape.rowMajor_val_two _]
      show st.val = st.val * 1 + 0
      omega
  refine lane_best (fun k => sc (ix2 st k)) _ (hx.1.imp (fun h => h.trans ofBits_bot) ?_) (fun k => ?_) _ (hy.1.imp id ?_) (fun k => ?_)
  · rintro ⟨k, h⟩
    exact ⟨k, h.trans (congrArg sc (lift_many st k))⟩
  · exact (congrArg sc (lift_many st k)) ▸ hx.2.2 k
  · rintro ⟨k, h⟩
    exact ⟨k, h.trans (hs k)⟩
  · exact hs k ▸ hy.2.2 k

/-- The same of one row. -/
def marks1 (sc : FVec Ideal S1x9 .f32) : IVec S1x9 32 :=
  select (cmpf .oeq sc (broadcastTo S1x9 (shapeCast S1x1
        (multiReduction .maximumf [1] S1 sc 0xFF800000#32 reduces_S1x9_S1 (.inl rfl) rfl)
        shapeCasts_S1_S1x1) broadcasts_S1x1_S1x9))
      (iota .tc S1x9 32 [1] iota_S1x9_d1_w32) (broadcast S1x9 9#32)

theorem firstLane1_best (sc : FVec Ideal S1x9 .f32) :
    ∃ l, IsBest (fun k => sc (ix2 0 k)) l ∧ firstLane1 sc (ix2 0 0) = BitVec.ofNat 32 l.val := by
  have hx := reduceFold_picks picks_max reduces_S1x9_S1 (FloatOps.ofBits .f32 0xFF800000#32 : Ideal .f32) sc (ix1 0)
  have e : firstLane1 sc (ix2 0 0) = reduceFold reduces_S1x9_S1 IntOp.minsi 2147483647#32 (marks1 sc) (ix1 0) := shapeCast_apply _ shapeCasts_S1_S1x1 (ix2 0 0) (ix1 0) (by
    rw [show ((S1.rowMajor (ix1 (0 : Fin 1)) : Fin _) : ℕ) = _ from Shape.rowMajor_val_one _,
      show ((S1x1.rowMajor (ix2 (0 : Fin 1) (0 : Fin 1)) : Fin _) : ℕ) = _ from Shape.rowMajor_val_two _]
    rfl)
  rw [e]
  have hy := reduceFold_picks picks_min reduces_S1x9_S1 2147483647#32 (marks1 sc) (ix1 0)
  have hs : ∀ k : Fin 9, marks1 sc (reduces_S1x9_S1.lift (ix1 0) k)
      = mark (fun k => sc (ix2 0 k)) (reduceFold reduces_S1x9_S1 (FloatOps.maximumf (F := Ideal) (φ := .f32)) (FloatOps.ofBits .f32 0xFF800000#32 : Ideal .f32) sc (ix1 0)) k := by
    intro k
    refine (congrArg (marks1 sc) (lift_one k)).trans (Eq.trans ?_ (mark_eq _ _ k (iota .tc S1x9 32 [1] iota_S1x9_d1_w32 (ix2 0 k)) (iota_single_apply _ _ _ _ _ _)))
    refine congrArg (fun M => Scalar.select (FloatOps.cmpf (F := Ideal) (φ := .f32) .oeq (sc (ix2 0 k)) M) _ _) ?_
    refine (broadcastTo_apply _ _ (ix2 0 k) (ix2 0 0) fun a => ?_).trans (shapeCast_apply _ shapeCasts_S1_S1x1 (ix2 0 0) (ix1 0) ?_)
    · match a with
      | 0 => rfl
      | 1 => rfl
    · rw [show ((S1.rowMajor (ix1 (0 : Fin 1)) : Fin _) : ℕ) = _ from Shape.rowMajor_val_one _,
        show ((S1x1.rowMajor (ix2 (0 : Fin 1) (0 : Fin 1)) : Fin _) : ℕ) = _ from Shape.rowMajor_val_two _]
      rfl
  refine lane_best (fun k => sc (ix2 0 k)) _ (hx.1.imp (fun h => h.trans ofBits_bot) ?_) (fun k => ?_) _ (hy.1.imp id ?_) (fun k => ?_)
  · rintro ⟨k, h⟩
    exact ⟨k, h.trans (congrArg sc (lift_one k))⟩
  · exact (congrArg sc (lift_one k)) ▸ hx.2.2 k
  · rintro ⟨k, h⟩
    exact ⟨k, h.trans (hs k)⟩
  · exact hs k ▸ hy.2.2 k

end Kernel

/-! ## The reference's way: one pass over pairs of score and lane -/

section Reference

open Cert.ReferenceIdeal Cert.ReferenceIdeal.Gen Cert.Proof.Ref

/-- The order the pass keeps: a greater score, or the same at a lane no later. -/
def ahead (p q : EReal × BitVec 32) : Prop := q.1 < p.1 ∨ (q.1 = p.1 ∧ p.2.toInt ≤ q.2.toInt)

open Classical in
theorem reducer_eq (a b : EReal × BitVec 32) :
    reducer_argmax_f32_i32 (F := Ideal) a b = if b.1 < a.1 ∨ (a.1 = b.1 ∧ a.2.toInt < b.2.toInt) then a else b := by
  obtain ⟨x, i⟩ := a
  obtain ⟨y, j⟩ := b
  simp only [reducer_argmax_f32_i32, Ideal.cmpf_def, Ideal.cmp, IntOp.ori, IntOp.andi, IntOp.cmpi, Scalar.select, BitVec.slt]
  by_cases h1 : y < x
  · simp [h1, h1.ne']
  · by_cases h2 : x = y
    · by_cases h3 : i.toInt < j.toInt
      · simp [h2, h3]
      · simp [h2, h3]
    · simp [h1, h2]

theorem picks_argmax : Picks (reducer_argmax_f32_i32 (F := Ideal)) ahead where
  one a b := by rw [reducer_eq]; split <;> simp
  left a b := by
    rw [reducer_eq]
    split
    · exact .inr ⟨rfl, le_refl _⟩
    · next h =>
      push Not at h
      rcases lt_or_eq_of_le h.1 with h' | h'
      · exact .inl h'
      · exact .inr ⟨h', h.2 h'⟩
  right a b := by
    rw [reducer_eq]
    split
    · next h =>
      rcases h with h | ⟨h, h'⟩
      · exact .inl h
      · exact .inr ⟨h.symm, h'.le⟩
    · exact .inr ⟨rfl, le_refl _⟩
  refl a := .inr ⟨rfl, le_refl _⟩
  trans a b c h h' := by
    rcases h with h | ⟨h, g⟩ <;> rcases h' with h' | ⟨h', g'⟩
    · exact .inl (h'.trans h)
    · exact .inl (h' ▸ h)
    · exact .inl (h ▸ h')
    · exact .inr ⟨h'.trans h, g.trans g'⟩

theorem reduces_classes : S4x5075x9.Reduces [2] S4x5075 := by decide

theorem lift_classes (b : Fin 4) (j : Fin 5075) (k : Fin 9) : reduces_classes.lift (ix2 b j) k = (ix3 b j k : S4x5075x9.Idx) :=
  funext fun a => by
    match a with
    | 0 => rfl
    | 1 => rfl
    | 2 => rfl

theorem pair_best (y : Fin 9 → EReal) (r : EReal × BitVec 32) (h1 : r = (⊥, 0#32) ∨ ∃ k : Fin 9, r = (y k, BitVec.ofNat 32 k.val))
    (h3 : ∀ k : Fin 9, ahead r (y k, BitVec.ofNat 32 k.val)) : ∃ l, IsBest y l ∧ r.2 = BitVec.ofNat 32 l.val := by
  rcases h1 with rfl | ⟨l, rfl⟩
  · have hb : ∀ k, y k = ⊥ := fun k => by
      rcases h3 k with g | ⟨g, -⟩
      · exact absurd g not_lt_bot
      · exact g
    exact ⟨0, ⟨fun k => by rw [hb, hb], fun k _ => Fin.zero_le k⟩, rfl⟩
  · refine ⟨l, ⟨fun k => ?_, fun k g => ?_⟩, rfl⟩
    · rcases h3 k with g | ⟨g, -⟩
      · exact le_of_lt g
      · exact le_of_eq g
    · rcases h3 k with g' | ⟨-, g'⟩
      · exact absurd g (ne_of_lt g')
      · have g'' : (BitVec.ofNat 32 l.val).toInt ≤ (BitVec.ofNat 32 k.val).toInt := g'
        rw [toInt_small _ (by omega), toInt_small _ (by omega)] at g''
        exact Fin.le_def.2 (by omega)

theorem classes_best (x : FVec Ideal S4x5075x9 .f32) (b : Fin 4) (j : Fin 5075) :
    ∃ l, IsBest (fun k => x (ix3 b j k)) l ∧ classesOf x (ix2 b j) = BitVec.ofNat 32 l.val := by
  have h := reduce2_picks picks_argmax reducesTo_S4x5075x9_S4x5075_d2 reduces_classes h_S_ x (iotaInDim S4x5075x9 32 2)
    (constant S_ .f32 0xFF800000#32) (constantI S_ 32 0#32) (ix2 b j)
  have e : classesOf x (ix2 b j) = (Host.reduce2 (reducer_argmax_f32_i32 (F := Ideal)) x (iotaInDim S4x5075x9 32 2)
      (constant S_ .f32 0xFF800000#32) (constantI S_ 32 0#32) reducesTo_S4x5075x9_S4x5075_d2 h_S_ (ix2 b j)).2 := by
    unfold classesOf
    rw [Ideal.argReduce_eq_reduce2]
  have hk : ∀ k : Fin 9, (x (reduces_classes.lift (ix2 b j) k), iotaInDim S4x5075x9 32 2 (reduces_classes.lift (ix2 b j) k))
      = ((x (ix3 b j k) : EReal), BitVec.ofNat 32 k.val) := fun k =>
    Prod.ext (congrArg x (lift_classes b j k)) (congrArg (iotaInDim S4x5075x9 32 2) (lift_classes b j k))
  rw [e]
  exact pair_best _ _ (h.1.imp (fun g => g.trans (Prod.ext ofBits_bot rfl)) fun ⟨k, g⟩ => ⟨k, g.trans (hk k)⟩) fun k => hk k ▸ h.2.2 k

end Reference

end Cert.Proof.Pick
end
-- ==== Proof.RefVal.lean ====
/-
  The reference's scores entry by entry at the ideal values: for a span in range the sums of the mathematics, for one
  that is not there the bias.
-/
module

public import proofs.«01_k».proof.Proof.Scores
public import proofs.«01_k».proof.Proof.Classes

@[expose] public section

noncomputable section

namespace Cert.Proof.Ref

open Cert.ReferenceIdeal Cert.ReferenceIdeal.Gen
open Cert.Proof.Run (topTo wordAt score startIx lenIx lenIx_lt toInt_minsi toInt_maxsi)
open Idealize.ShloMosaic
open Idealize.ShloMosaic.TcCoe
open Idealize.ShloMosaic.ValueIdx (ix1 ix2 ix3 ix4 eq_ix1 eq_ix2 contrEquiv1 contrEquiv1_symm_val)

/-! ## Broadcasts of a value per span -/

section Spread

variable {α : Type}

theorem spread_unit (h : S4x5075.BroadcastsInDim S4x5075x1 ![0, 1]) (x : S4x5075.Idx → α) (b : Fin 4) (j : Fin 5075) (u : Fin 1) :
    broadcastInDim S4x5075x1 ![0, 1] h x (ix3 b j u) = x (ix2 b j) :=
  broadcastInDim_apply _ h x _ _ fun a => by
    match a with
    | 0 => rfl
    | 1 => rfl

theorem spread_span {n : ℕ} (h : S4x5075.BroadcastsInDim S4x5075x1 ![0, 1]) (h' : S4x5075x1.BroadcastsInDim ⟨3, ![4, 5075, n]⟩ ![0, 1, 2])
    (x : S4x5075.Idx → α) (b : Fin 4) (j : Fin 5075) (k : Fin n) :
    broadcastInDim ⟨3, ![4, 5075, n]⟩ ![0, 1, 2] h' (broadcastInDim S4x5075x1 ![0, 1] h x) (ix3 b j k) = x (ix2 b j) :=
  (broadcastInDim_apply _ h' _ _ (ix3 b j 0) fun a => by
    match a with
    | 0 => rfl
    | 1 => rfl
    | 2 => rfl).trans (spread_unit h x b j 0)

theorem spread_word_unit (h : S4x5075x10.BroadcastsInDim S4x5075x10x1 ![0, 1, 2]) (x : S4x5075x10.Idx → α)
    (b : Fin 4) (j : Fin 5075) (t : Fin 10) (u : Fin 1) : broadcastInDim S4x5075x10x1 ![0, 1, 2] h x (ix4 b j t u) = x (ix3 b j t) :=
  broadcastInDim_apply _ h x _ _ fun a => by
    match a with
    | 0 => rfl
    | 1 => rfl
    | 2 => rfl

theorem spread_word (h : S4x5075x10.BroadcastsInDim S4x5075x10x1 ![0, 1, 2])
    (h' : S4x5075x10x1.BroadcastsInDim S4x5075x10x256 ![0, 1, 2, 3]) (x : S4x5075x10.Idx → α)
    (b : Fin 4) (j : Fin 5075) (t : Fin 10) (c : Fin 256) :
    broadcastInDim S4x5075x10x256 ![0, 1, 2, 3] h' (broadcastInDim S4x5075x10x1 ![0, 1, 2] h x) (ix4 b j t c) = x (ix3 b j t) :=
  (broadcastInDim_apply _ h' _ _ (ix4 b j t 0) fun a => by
    match a with
    | 0 => rfl
    | 1 => rfl
    | 2 => rfl
    | 3 => rfl).trans (spread_word_unit h x b j t 0)

end Spread

/-! ## The words of a span -/

section Words

variable (s e : IVec S4x5075 32) (b : Fin 4) (j : Fin 5075)

theorem pos_at (t : Fin 10) : posOf s (ix3 b j t) = s (ix2 b j) + BitVec.ofNat 32 t.val := by
  refine congrArg₂ (fun x y : BitVec 32 => x + y) (spread_span bcast_S4x5075_S4x5075x1_0_1 bcast_S4x5075x1_S4x5075x10_0_1_2 s b j t) ?_
  refine (broadcastInDim_apply _ bcast_S1x1x10_S4x5075x10_0_1_2 _ _ (ix3 0 0 t) fun a => ?_).trans
    (broadcastInDim_apply _ bcast_S10_S1x1x10_2 _ _ (ix1 t) fun a => ?_)
  · match a with
    | 0 => rfl
    | 1 => rfl
    | 2 => rfl
  · match a with
    | 0 => rfl

variable (h0 : 0 ≤ (s (ix2 b j)).toInt) (h1 : (s (ix2 b j)).toInt < 512)

include h0 h1

theorem pos_toInt (t : Fin 10) : (posOf s (ix3 b j t)).toInt = (s (ix2 b j)).toInt + t.val := by
  rw [pos_at, BitVec.toInt_add, Pick.toInt_small _ (by omega), Int.bmod_eq_of_le (by omega) (by omega)]

theorem inside_at (t : Fin 10) :
    insideOf s e (ix3 b j t) = BitVec.ofBool (decide ((s (ix2 b j)).toInt + t.val < (e (ix2 b j)).toInt)) := by
  have h : insideOf s e (ix3 b j t) = IntOp.cmpi .slt (posOf s (ix3 b j t)) (e (ix2 b j)) :=
    congrArg (IntOp.cmpi .slt (posOf s (ix3 b j t))) (spread_span bcast_S4x5075_S4x5075x1_0_1 bcast_S4x5075x1_S4x5075x10_0_1_2 e b j t)
  rw [h, ← pos_toInt s b j h0 h1 t]
  rfl

theorem capped_toInt (t : Fin 10) : (cappedOf s (ix3 b j t)).toInt = (wordAt (startIx (s (ix2 b j))) t.val).val := by
  have h : cappedOf s (ix3 b j t) = IntOp.minsi (posOf s (ix3 b j t)) 511#32 := rfl
  rw [h, toInt_minsi, pos_toInt s b j h0 h1 t, show (511#32 : BitVec 32).toInt = 511 by decide]
  show _ = ((min (startIx (s (ix2 b j)) + t.val) 511 : ℕ) : ℤ)
  unfold startIx
  omega

theorem word_toInt (t : Fin 10) : (wordOf s (ix3 b j t)).toInt = (wordAt (startIx (s (ix2 b j))) t.val).val := by
  have hc := capped_toInt s b j h0 h1 t
  have h : wordOf s (ix3 b j t) = Scalar.select (BitVec.ofBool ((cappedOf s (ix3 b j t)).slt 0#32)) (cappedOf s (ix3 b j t) + 512#32) (cappedOf s (ix3 b j t)) := rfl
  rw [h, show (cappedOf s (ix3 b j t)).slt 0#32 = false by
    simp only [BitVec.slt, show (0#32 : BitVec 32).toInt = 0 by decide, decide_eq_false_iff_not]; omega]
  exact hc

omit h1 in
theorem len_toInt (h2 : (s (ix2 b j)).toInt < (e (ix2 b j)).toInt) : (lenOf s e (ix2 b j)).toInt = lenIx (s (ix2 b j)) (e (ix2 b j)) := by
  have h : lenOf s e (ix2 b j) = IntOp.minsi 9#32 (IntOp.maxsi 0#32 ((e (ix2 b j) - s (ix2 b j)) - 1#32)) := rfl
  have hs := BitVec.toInt_lt (x := e (ix2 b j))
  have hd : (e (ix2 b j) - s (ix2 b j)).toInt = (e (ix2 b j)).toInt - (s (ix2 b j)).toInt := by
    rw [BitVec.toInt_sub, Int.bmod_eq_of_le (by omega) (by omega)]
  have h1' : (1#32 : BitVec 32).toInt = 1 := by decide
  have hd' : (e (ix2 b j) - s (ix2 b j) - 1#32).toInt = (e (ix2 b j)).toInt - (s (ix2 b j)).toInt - 1 := by
    rw [BitVec.toInt_sub, hd, h1', Int.bmod_eq_of_le (by omega) (by omega)]
  rw [h, toInt_minsi, toInt_maxsi, hd', show (9#32 : BitVec 32).toInt = 9 by decide, show (0#32 : BitVec 32).toInt = 0 by decide]
  unfold lenIx
  rw [hd]
  omega

omit h1 in
theorem lenIndex_toInt (h2 : (s (ix2 b j)).toInt < (e (ix2 b j)).toInt) : (lenIndexOf s e (ix2 b j)).toInt = lenIx (s (ix2 b j)) (e (ix2 b j)) := by
  have hc := len_toInt s e b j h0 h2
  have h : lenIndexOf s e (ix2 b j) = Scalar.select (BitVec.ofBool ((lenOf s e (ix2 b j)).slt 0#32)) (lenOf s e (ix2 b j) + 10#32) (lenOf s e (ix2 b j)) := rfl
  rw [h, show (lenOf s e (ix2 b j)).slt 0#32 = false by
    simp only [BitVec.slt, show (0#32 : BitVec 32).toInt = 0 by decide, decide_eq_false_iff_not]; omega]
  exact hc

omit h1 in
theorem inside_iff (h2 : (s (ix2 b j)).toInt < (e (ix2 b j)).toInt) (t : Fin 10) :
    (s (ix2 b j)).toInt + t.val < (e (ix2 b j)).toInt ↔ t.val ≤ lenIx (s (ix2 b j)) (e (ix2 b j)) := by
  have hs := BitVec.toInt_lt (x := e (ix2 b j))
  have hd : (e (ix2 b j) - s (ix2 b j)).toInt = (e (ix2 b j)).toInt - (s (ix2 b j)).toInt := by
    rw [BitVec.toInt_sub, Int.bmod_eq_of_le (by omega) (by omega)]
  have ht := t.isLt
  unfold lenIx
  rw [hd]
  omega

end Words

/-! ## The two lookups -/

section Lookups

variable {α : Type}

/-- The lookup of words reads its matrix at the word its index names, kept within the matrix. -/
theorem lookup_word (x : S4x512x256.Idx → α) (i : IVec S4x5075x10x1 32) (b : Fin 4) (j : Fin 5075) (t : Fin 10) (c : Fin 256) :
    Host.gather gather_S4x512x256_S4x5075x10x1_S4x5075x10x256_3_1_0_0_1_3_11256 x i (ix4 b j t c)
      = x (ix3 b ⟨min (i (ix4 b j t 0)).toInt.toNat 511, by omega⟩ c) := by
  set D := gather_S4x512x256_S4x5075x10x1_S4x5075x10x256_3_1_0_0_1_3_11256 with hD
  refine congrArg x (funext fun a => Fin.ext ?_)
  change D.start (ix4 b j t c) i a + D.batchCoord (ix4 b j t c) a + D.offCoord (ix4 b j t c) a = _
  have hmap : (1 : Fin 3) ∈ D.startIndexMap := List.mem_singleton.mpr rfl
  have hbat : (0 : Fin 3) ∈ D.operandBatchingDims := List.mem_singleton.mpr rfl
  have hcol : (1 : Fin 3) ∈ D.collapsedSliceDims := List.mem_singleton.mpr rfl
  have nbat (a : Fin 3) (ha : a ≠ 0) : a ∉ D.operandBatchingDims := fun h => ha (List.mem_singleton.mp h)
  have ncol (a : Fin 3) (ha : a ≠ 1) : a ∉ D.collapsedSliceDims := fun h => ha (List.mem_singleton.mp h)
  have nmap (a : Fin 3) (ha : a ≠ 1) : a ∉ D.startIndexMap := fun h => ha (List.mem_singleton.mp h)
  match a with
  | 0 =>
    rw [GatherDims.start_batching _ _ _ _ hbat, GatherDims.offCoord_eq_zero _ _ _ (fun h => ((GatherDims.mem_sKept _ _).mp h).2 hbat)]
    unfold GatherDims.batchCoord
    rw [dif_pos hbat]
    exact (Nat.zero_add _).trans rfl
  | 1 =>
    rw [GatherDims.batchCoord_eq_zero _ _ _ (nbat 1 (by decide)),
      GatherDims.offCoord_eq_zero _ _ _ (fun h => ((GatherDims.mem_sKept _ _).mp h).1 hcol)]
    unfold GatherDims.start
    rw [dif_pos hmap]
    have hi : D.siIdx (ix4 b j t c) ⟨List.idxOf (1 : Fin 3) D.startIndexMap, List.idxOf_lt_length_iff.2 hmap⟩ = ix4 b j t 0 := by
      funext u; refine Fin.ext ?_
      match u with
      | 0 => rfl
      | 1 => rfl
      | 2 => rfl
      | 3 => rfl
    rw [hi]
    rfl
  | 2 =>
    rw [GatherDims.batchCoord_eq_zero _ _ _ (nbat 2 (by decide))]
    unfold GatherDims.start GatherDims.offCoord
    rw [dif_neg (nmap 2 (by decide)), dif_pos ((GatherDims.mem_sKept _ _).mpr ⟨ncol 2 (by decide), nbat 2 (by decide)⟩)]
    exact (Nat.zero_add _).trans rfl

/-- The lookup of length rows reads the table at the row its index names, kept within the table. -/
theorem lookup_len (x : S10x25.Idx → α) (i : IVec S4x5075x1 32) (b : Fin 4) (j : Fin 5075) (c : Fin 25) :
    Host.gather gather_S10x25_S4x5075x1_S4x5075x25_2_0_n_n_0_2_125 x i (ix3 b j c)
      = x (ix2 ⟨min (i (ix3 b j 0)).toInt.toNat 9, by omega⟩ c) := by
  set D := gather_S10x25_S4x5075x1_S4x5075x25_2_0_n_n_0_2_125 with hD
  refine congrArg x (funext fun a => Fin.ext ?_)
  change D.start (ix3 b j c) i a + D.batchCoord (ix3 b j c) a + D.offCoord (ix3 b j c) a = _
  have hmap : (0 : Fin 2) ∈ D.startIndexMap := List.mem_singleton.mpr rfl
  have hcol : (0 : Fin 2) ∈ D.collapsedSliceDims := List.mem_singleton.mpr rfl
  have nbat (a : Fin 2) : a ∉ D.operandBatchingDims := List.not_mem_nil
  rw [GatherDims.batchCoord_eq_zero _ _ _ (nbat a)]
  match a with
  | 0 =>
    rw [GatherDims.offCoord_eq_zero _ _ _ (fun h => ((GatherDims.mem_sKept _ _).mp h).1 hcol)]
    unfold GatherDims.start
    rw [dif_pos hmap]
    have hi : D.siIdx (ix3 b j c) ⟨List.idxOf (0 : Fin 2) D.startIndexMap, List.idxOf_lt_length_iff.2 hmap⟩ = ix3 b j 0 := by
      funext u; refine Fin.ext ?_
      match u with
      | 0 => rfl
      | 1 => rfl
      | 2 => rfl
    rw [hi]
    rfl
  | 1 =>
    unfold GatherDims.start GatherDims.offCoord
    have nmap : (1 : Fin 2) ∉ D.startIndexMap := fun h => absurd (List.mem_singleton.mp h) (by decide)
    have ncol : (1 : Fin 2) ∉ D.collapsedSliceDims := fun h => absurd (List.mem_singleton.mp h) (by decide)
    rw [dif_neg nmap, dif_pos ((GatherDims.mem_sKept _ _).mpr ⟨ncol, nbat 1⟩)]
    exact (Nat.zero_add _).trans rfl

end Lookups

/-! ## The greatest over a span -/

theorem le_topTo (x : ℕ → EReal) (k t : ℕ) (h : t ≤ k) : x t ≤ topTo x k := by
  induction k with
  | zero =>
    obtain rfl : t = 0 := by omega
    exact le_refl _
  | succ k ih =>
    rcases Nat.lt_or_ge k t with hk | hk
    · obtain rfl : t = k + 1 := by omega
      exact le_max_right _ _
    · exact (ih hk).trans (le_max_left _ _)

theorem topTo_mem (x : ℕ → EReal) (k : ℕ) : ∃ t ≤ k, topTo x k = x t := by
  induction k with
  | zero => exact ⟨0, le_refl _, rfl⟩
  | succ k ih =>
    obtain ⟨t, ht, e⟩ := ih
    rcases max_choice (topTo x k) (x (k + 1)) with h | h
    · exact ⟨t, by omega, h.trans e⟩
    · exact ⟨k + 1, le_refl _, h⟩

section Pool

variable (enc : FVec Ideal S4x512x256 .f32) (s e : IVec S4x5075 32) (b : Fin 4) (j : Fin 5075)
variable (h0 : 0 ≤ (s (ix2 b j)).toInt) (h1 : (s (ix2 b j)).toInt < 512)

include h0 h1

theorem gathered_at (t : Fin 10) (c : Fin 256) :
    gatheredOf (F := Ideal) enc s (ix4 b j t c) = enc (ix3 b (wordAt (startIx (s (ix2 b j))) t.val) c) := by
  refine (lookup_word enc _ b j t c).trans (congrArg (fun r => enc (ix3 b r c)) (Fin.ext ?_))
  have hw := word_toInt s b j h0 h1 t
  have hl := (wordAt (startIx (s (ix2 b j))) t.val).isLt
  show min ((broadcastInDim S4x5075x10x1 ![0, 1, 2] bcast_S4x5075x10_S4x5075x10x1_0_1_2 (wordOf s) (ix4 b j t 0)).toInt.toNat) 511 = _
  rw [spread_word_unit, hw]
  omega

variable (h2 : (s (ix2 b j)).toInt < (e (ix2 b j)).toInt)

include h2

theorem masked_at (t : Fin 10) (c : Fin 256) :
    (maskedOf (F := Ideal) enc s e (ix4 b j t c) : EReal)
      = if t.val ≤ lenIx (s (ix2 b j)) (e (ix2 b j)) then (enc (ix3 b (wordAt (startIx (s (ix2 b j))) t.val) c) : EReal) else ⊥ := by
  have hb : broadcastInDim S4x5075x10x256 ![0, 1, 2, 3] bcast_S4x5075x10x1_S4x5075x10x256_0_1_2_3
      (broadcastInDim S4x5075x10x1 ![0, 1, 2] bcast_S4x5075x10_S4x5075x10x1_0_1_2 (insideOf s e)) (ix4 b j t c)
      = BitVec.ofBool (decide ((s (ix2 b j)).toInt + t.val < (e (ix2 b j)).toInt)) :=
    (spread_word _ _ _ b j t c).trans (inside_at s e b j h0 h1 t)
  have h : (maskedOf (F := Ideal) enc s e (ix4 b j t c) : EReal)
      = Scalar.select (BitVec.ofBool (decide ((s (ix2 b j)).toInt + t.val < (e (ix2 b j)).toInt)))
          (enc (ix3 b (wordAt (startIx (s (ix2 b j))) t.val) c)) (FloatOps.ofBits .f32 0xFF800000#32 : Ideal .f32) := by
    rw [← hb, ← gathered_at enc s b j h0 h1 t c]
    rfl
  rw [h, Pick.ofBits_bot]
  have hi := inside_iff s e b j h0 h2 t
  by_cases hc : t.val ≤ lenIx (s (ix2 b j)) (e (ix2 b j))
  · rw [if_pos hc, decide_eq_true (hi.2 hc)]
    rfl
  · rw [if_neg hc, decide_eq_false (fun h => hc (hi.1 h))]
    rfl

theorem greatest_at (c : Fin 256) :
    (greatestOf (F := Ideal) enc s e (ix3 b j c) : EReal)
      = topTo (fun t => enc (ix3 b (wordAt (startIx (s (ix2 b j))) t) c)) (lenIx (s (ix2 b j)) (e (ix2 b j))) := by
  have hr : S4x5075x10x256.Reduces [2] S4x5075x256 := by decide
  have hl (t : Fin 10) : hr.lift (ix3 b j c) t = ix4 b j t c := by
    funext a
    refine Fin.ext ?_
    match a with
    | 0 => rfl
    | 1 => rfl
    | 2 => rfl
    | 3 => rfl
  have hlen := lenIx_lt (s (ix2 b j)) (e (ix2 b j))
  obtain ⟨hm, -, hall⟩ := Pick.hostReduce_picks Pick.picks_max reducesTo_S4x5075x10x256_S4x5075x256_d2 hr h_S_
    (maskedOf (F := Ideal) enc s e) (constant (F := Ideal) S_ .f32 0xFF800000#32) (ix3 b j c)
  have hall' (t : Fin 10) : (maskedOf (F := Ideal) enc s e (ix4 b j t c) : EReal) ≤ greatestOf (F := Ideal) enc s e (ix3 b j c) := by
    rw [← hl t]; exact hall t
  refine le_antisymm ?_ ?_
  · rcases hm with hm | ⟨t, ht⟩
    · have : (greatestOf (F := Ideal) enc s e (ix3 b j c) : EReal) = ⊥ := hm.trans Pick.ofBits_bot
      rw [this]
      exact bot_le
    · have : (greatestOf (F := Ideal) enc s e (ix3 b j c) : EReal) = maskedOf (F := Ideal) enc s e (ix4 b j t c) :=
        ht.trans (congrArg (maskedOf (F := Ideal) enc s e) (hl t))
      rw [this, masked_at enc s e b j h0 h1 h2 t c]
      split
      · rename_i hc
        exact le_topTo (fun t => enc (ix3 b (wordAt (startIx (s (ix2 b j))) t) c)) _ t.val hc
      · exact bot_le
  · obtain ⟨t, ht, he⟩ := topTo_mem (fun t => enc (ix3 b (wordAt (startIx (s (ix2 b j))) t) c)) (lenIx (s (ix2 b j)) (e (ix2 b j)))
    rw [he]
    have h := hall' ⟨t, by omega⟩
    rw [masked_at enc s e b j h0 h1 h2 _ c, if_pos ht] at h
    exact h

omit h1 in
theorem lenRow_at (lens : FVec Ideal S10x25 .f32) (c : Fin 25) :
    lenRowOf (F := Ideal) lens s e (ix3 b j c) = lens (ix2 ⟨lenIx (s (ix2 b j)) (e (ix2 b j)), lenIx_lt _ _⟩ c) := by
  refine (lookup_len lens _ b j c).trans (congrArg (fun r => lens (ix2 r c)) (Fin.ext ?_))
  have hw := lenIndex_toInt s e b j h0 h2
  have hlen := lenIx_lt (s (ix2 b j)) (e (ix2 b j))
  show min ((broadcastInDim S4x5075x1 ![0, 1] bcast_S4x5075_S4x5075x1_0_1 (lenIndexOf s e) (ix3 b j 0)).toInt.toNat) 9 = _
  rw [spread_unit, hw]
  show min ((lenIx (s (ix2 b j)) (e (ix2 b j)) : ℤ)).toNat 9 = lenIx (s (ix2 b j)) (e (ix2 b j))
  omega

end Pool

/-! ## The scores -/

/-- The product with the weights, entry by entry, in the two parts of the representation. -/
theorem product_at (x : FVec Ideal S4x5075x281 .f32) (w : FVec Ideal S281x9 .f32) (b : Fin 4) (j : Fin 5075) (l : Fin 9) :
    (Host.dotGeneral dot_S4x5075x281_S281x9_S4x5075x9_2_0_01_1_n_n none x w (ix3 b j l) : EReal)
      = (∑ c : Fin 256, (x (ix3 b j ⟨c.val, by omega⟩) : EReal) * w (ix2 ⟨c.val, by omega⟩ l))
        + ∑ c : Fin 25, (x (ix3 b j ⟨256 + c.val, by omega⟩) : EReal) * w (ix2 ⟨256 + c.val, by omega⟩ l) := by
  have h : (Host.dotGeneral dot_S4x5075x281_S281x9_S4x5075x9_2_0_01_1_n_n none x w (ix3 b j l) : EReal)
      = ∑ c : Fin (256 + 25), (x (ix3 b j c) : EReal) * w (ix2 c l) := by
    simp only [Host.dotGeneral]
    rw [Ideal.dotGeneral_apply, ← Equiv.sum_comp (contrEquiv1 dot_S4x5075x281_S281x9_S4x5075x9_2_0_01_1_n_n 281 rfl rfl).symm]
    refine Finset.sum_congr rfl fun c _ => ?_
    have hc := contrEquiv1_symm_val dot_S4x5075x281_S281x9_S4x5075x9_2_0_01_1_n_n 281 rfl rfl c
    refine congrArg₂ (fun p q : EReal => p * q) (congrArg x ?_) (congrArg w ?_)
    · funext a
      apply Fin.ext
      match a with
      | 0 => rfl
      | 1 => rfl
      | 2 => exact hc
    · funext a
      apply Fin.ext
      match a with
      | 0 => exact hc
      | 1 => rfl
  rw [h, Fin.sum_univ_add]
  rfl

theorem bias_at (v : FVec Ideal S9 .f32) (b : Fin 4) (j : Fin 5075) (l : Fin 9) :
    broadcastInDim S4x5075x9 ![0, 1, 2] bcast_S1x1x9_S4x5075x9_0_1_2 (broadcastInDim S1x1x9 ![2] bcast_S9_S1x1x9_2 v) (ix3 b j l) = v (ix1 l) :=
  (broadcastInDim_apply _ _ _ _ (ix3 0 0 l) fun a => by
    match a with
    | 0 => rfl
    | 1 => rfl
    | 2 => rfl).trans (broadcastInDim_apply _ _ _ _ (ix1 l) fun a => by
      match a with
      | 0 => rfl)

theorem joined_left (x : FVec Ideal S4x5075x256 .f32) (y : FVec Ideal S4x5075x25 .f32) (b : Fin 4) (j : Fin 5075) (c : Fin 256) :
    joined (F := Ideal) x y (ix3 b j ⟨c.val, by omega⟩) = x (ix3 b j c) :=
  concatenate_pair_apply_left 2 x y concatenates_S4x5075x256_S4x5075x25_S4x5075x281_d2 (ix3 b j ⟨c.val, by omega⟩) rfl (ix3 b j c) fun a => by
    match a with
    | 0 => rfl
    | 1 => rfl
    | 2 => rfl

theorem joined_right (x : FVec Ideal S4x5075x256 .f32) (y : FVec Ideal S4x5075x25 .f32) (b : Fin 4) (j : Fin 5075) (c : Fin 25) :
    joined (F := Ideal) x y (ix3 b j ⟨256 + c.val, by omega⟩) = y (ix3 b j c) :=
  concatenate_pair_apply_right 2 x y concatenates_S4x5075x256_S4x5075x25_S4x5075x281_d2 (ix3 b j ⟨256 + c.val, by omega⟩) rfl rfl (ix3 b j c)
    (fun a ha => by
      match a with
      | 0 => rfl
      | 1 => rfl
      | 2 => exact absurd rfl ha) (Nat.add_comm _ _)

section Scores

variable (enc : FVec Ideal S4x512x256 .f32) (s e : IVec S4x5075 32) (v : IVec S4x5075 1) (lens : FVec Ideal S10x25 .f32)
variable (w : FVec Ideal S281x9 .f32) (bias : FVec Ideal S9 .f32) (b : Fin 4) (j : Fin 5075)

theorem rep_absent (hv : v (ix2 b j) = 0#1) (c : Fin 281) : (repOf (F := Ideal) enc s e v lens (ix3 b j c) : EReal) = 0 := by
  have hb : broadcastInDim S4x5075x281 ![0, 1, 2] bcast_S4x5075x1_S4x5075x281_0_1_2
      (broadcastInDim S4x5075x1 ![0, 1] bcast_S4x5075_S4x5075x1_0_1 v) (ix3 b j c) = 0#1 := (spread_span _ _ v b j c).trans hv
  have h : (repOf (F := Ideal) enc s e v lens (ix3 b j c) : EReal)
      = Scalar.select (0#1) (joined (F := Ideal) (pooledOf enc s e v) (lenRowOf lens s e) (ix3 b j c)) (FloatOps.ofBits .f32 0x00000000#32 : Ideal .f32) := by
    rw [← hb]
    rfl
  rw [h]
  exact Ideal.ofBits_zero_f32

theorem rep_present (hv : v (ix2 b j) = 1#1) (c : Fin 281) :
    repOf (F := Ideal) enc s e v lens (ix3 b j c) = joined (F := Ideal) (pooledOf enc s e v) (lenRowOf lens s e) (ix3 b j c) := by
  have hb : broadcastInDim S4x5075x281 ![0, 1, 2] bcast_S4x5075x1_S4x5075x281_0_1_2
      (broadcastInDim S4x5075x1 ![0, 1] bcast_S4x5075_S4x5075x1_0_1 v) (ix3 b j c) = 1#1 := (spread_span _ _ v b j c).trans hv
  have h : repOf (F := Ideal) enc s e v lens (ix3 b j c)
      = Scalar.select (1#1) (joined (F := Ideal) (pooledOf enc s e v) (lenRowOf lens s e) (ix3 b j c)) (FloatOps.ofBits .f32 0x00000000#32 : Ideal .f32) := by
    rw [← hb]
    rfl
  rw [h]
  rfl

theorem pooled_present (hv : v (ix2 b j) = 1#1) (c : Fin 256) :
    pooledOf (F := Ideal) enc s e v (ix3 b j c) = greatestOf (F := Ideal) enc s e (ix3 b j c) := by
  have hb : broadcastInDim S4x5075x256 ![0, 1, 2] bcast_S4x5075x1_S4x5075x256_0_1_2
      (broadcastInDim S4x5075x1 ![0, 1] bcast_S4x5075_S4x5075x1_0_1 v) (ix3 b j c) = 1#1 := (spread_span _ _ v b j c).trans hv
  have h : pooledOf (F := Ideal) enc s e v (ix3 b j c)
      = Scalar.select (1#1) (greatestOf (F := Ideal) enc s e (ix3 b j c)) (FloatOps.ofBits .f32 0x00000000#32 : Ideal .f32) := by
    rw [← hb]
    rfl
  rw [h]
  rfl

/-- A span that is not there scores the bias. -/
theorem scores_absent (hv : v (ix2 b j) = 0#1) (l : Fin 9) :
    (scoresOf (F := Ideal) enc s e v lens w bias (ix3 b j l) : EReal) = bias (ix1 l) := by
  have h : (scoresOf (F := Ideal) enc s e v lens w bias (ix3 b j l) : EReal) = (0 : EReal) + bias (ix1 l) := by
    refine congrArg₂ (fun p q : EReal => p + q) ?_ (bias_at bias b j l)
    rw [product_at]
    simp only [rep_absent enc s e v lens b j hv, zero_mul, Finset.sum_const_zero, add_zero]
  rw [h, zero_add]

/-- A span in range scores the sums of the mathematics. -/
theorem scores_present (hv : v (ix2 b j) = 1#1) (h0 : 0 ≤ (s (ix2 b j)).toInt) (h1 : (s (ix2 b j)).toInt < 512)
    (h2 : (s (ix2 b j)).toInt < (e (ix2 b j)).toInt) (l : Fin 9) :
    (scoresOf (F := Ideal) enc s e v lens w bias (ix3 b j l) : EReal)
      = score enc lens w (fun l => bias (ix1 l)) b (startIx (s (ix2 b j))) ⟨lenIx (s (ix2 b j)) (e (ix2 b j)), lenIx_lt _ _⟩ l := by
  refine congrArg₂ (fun p q : EReal => p + q) ?_ (bias_at bias b j l)
  rw [product_at]
  refine congrArg₂ (fun p q : EReal => p + q) (Finset.sum_congr rfl fun c _ => ?_) (Finset.sum_congr rfl fun c _ => ?_)
  · refine congrArg (fun p : EReal => p * w (ix2 ⟨c.val, by omega⟩ l)) ?_
    rw [rep_present enc s e v lens b j hv]
    exact (joined_left _ _ b j c).trans ((pooled_present enc s e v b j hv c).trans (greatest_at enc s e b j h0 h1 h2 c))
  · refine congrArg (fun p : EReal => p * w (ix2 ⟨256 + c.val, by omega⟩ l)) ?_
    rw [rep_present enc s e v lens b j hv]
    exact (joined_right _ _ b j c).trans (lenRow_at s e b j h0 h2 lens c)

end Scores

end Cert.Proof.Ref
end
-- ==== Proof.Algebraic.lean ====
/-
  The value claim: on spans in range the kernel's scores and classes are the reference's.
-/
module

public import proofs.«01_k».proof.Defs
public import proofs.«01_k».proof.Proof.Program
public import proofs.«01_k».proof.Proof.RefVal
public import Idealize.ShloMosaic.Lib.ReduceAll

@[expose] public section

noncomputable section

namespace Cert.Proof.Run

open Cert.KernelIdeal Cert.KernelIdeal.Gen
open Idealize.ShloMosaic
open Idealize.ShloMosaic.TcCoe
open Idealize.SL.Sem
open Idealize.ShloMosaic.ValueIdx (ix1 ix2 ix3 eq_ix1 eq_ix2 eq_ix3)
open Cert.Proof.Pick (IsBest)

/-! ## What the precondition says of a span -/

theorem range_facts : Cert.Pre_in_range.Facts where
  bcast_S_S4x5075 := by decide
  reducesTo_S4x5075_S_d0_1 := by decide
  h_S_ := by decide

instance : Subsingleton Cert.Pre_in_range.S_.Idx := ⟨fun _ _ => funext fun a => a.elim0⟩

/-- A span that is there starts at a word of the sequence and ends past its start. -/
def InRange (s e : IVec S4x5075 32) (v : IVec S4x5075 1) : Prop :=
  ∀ b j, v (ix2 b j) = 1#1 → 0 ≤ (s (ix2 b j)).toInt ∧ (s (ix2 b j)).toInt < 512 ∧ (s (ix2 b j)).toInt < (e (ix2 b j)).toInt

theorem inRange_of_fn [Cert.Pre_in_range.Facts] (enc : FVec Ideal S4x512x256 .f32) (n : IVec S4 32) (s e : IVec S4x5075 32) (v : IVec S4x5075 1)
    (lens : FVec Ideal S10x25 .f32) (w : FVec Ideal S281x9 .f32) (b : FVec Ideal S9 .f32)
    (h : Cert.Pre_in_range.fn (F := Ideal) enc n s e v lens w b = fun _ => 1#1) : InRange s e v := by
  intro i j hv
  have hall := Host.reduce_andi_all _ _ _ _ _ (congrFun h (Shape.Idx.first Cert.Pre_in_range.Facts.h_S_)) (ix2 i j)
  have hsel : Scalar.select (v (ix2 i j)) (IntOp.andi (IntOp.andi (IntOp.cmpi .sge (s (ix2 i j)) 0#32) (IntOp.cmpi .slt (s (ix2 i j)) 512#32))
      (IntOp.cmpi .slt (s (ix2 i j)) (e (ix2 i j)))) 1#1 = 1#1 := hall
  rw [hv] at hsel
  have h3 : IntOp.andi (IntOp.andi (IntOp.cmpi .sge (s (ix2 i j)) 0#32) (IntOp.cmpi .slt (s (ix2 i j)) 512#32))
      (IntOp.cmpi .slt (s (ix2 i j)) (e (ix2 i j))) = 1#1 := hsel
  obtain ⟨h12, h3⟩ := IntOp.andi_eq_one.1 h3
  obtain ⟨h1, h2⟩ := IntOp.andi_eq_one.1 h12
  exact ⟨IntOp.cmpi_sge.1 h1, IntOp.cmpi_slt.1 h2, IntOp.cmpi_slt.1 h3⟩

/-! ## The kernel's row of a span -/

/-- The scores of sequence `i` at length `k + 1`, a row per start. -/
abbrev rowScores (enc : FVec Ideal S4x512x256 .f32) (lens : FVec Ideal S10x25 .f32) (w : FVec Ideal S281x9 .f32) (b : FVec Ideal S1x9 .f32)
    (i : Fin 4) (k : Fin 10) : FVec Ideal S512x9 .f32 :=
  scoresAtLen (F := Ideal) (k0_pay3 w) (k0_pay4 b) (k0_pay5 w lens) (k0_pay6 (slab enc i)) k.val

theorem block_row (enc : FVec Ideal S4x512x256 .f32) (lens : FVec Ideal S10x25 .f32) (w : FVec Ideal S281x9 .f32) (b : FVec Ideal S1x9 .f32)
    (i : Fin 4) (k : Fin 10) : blockN (F := Ideal) enc lens w b (i.val * 10 + k.val) = padRow (rowScores enc lens w b i k) := by
  have e1 : (⟨(i.val * 10 + k.val) / 10 % 4, Nat.mod_lt _ (by decide)⟩ : Fin 4) = i := Fin.ext (by show (i.val * 10 + k.val) / 10 % 4 = i.val; omega)
  have e2 : (i.val * 10 + k.val) % 10 = k.val := by omega
  unfold blockN block
  rw [e1, e2]

section Rows

variable (m : (ℓ : Loc nD τ sig) → Buf (Elt Ideal) ℓ) (d : Dev nD)

/-- The start of a span, its end, and whether it is there. -/
abbrev startsOf : IVec S4x5075 32 := m ((d.tc : Thread nD τ).loc main_arg2)
abbrev endsOf : IVec S4x5075 32 := m ((d.tc : Thread nD τ).loc main_arg3)
abbrev thereOf : IVec S4x5075 1 := m ((d.tc : Thread nD τ).loc main_arg4)

abbrev lenAt (b : Fin 4) (j : Fin 5075) : Fin 10 := ⟨lenIx (startsOf m d (ix2 b j)) (endsOf m d (ix2 b j)), lenIx_lt _ _⟩
abbrev startAt (b : Fin 4) (j : Fin 5075) : Fin 512 := ⟨startIx (startsOf m d (ix2 b j)), startIx_lt _⟩

theorem valid_zero (b : Fin 4) (j : Fin 5075) (h : thereOf m d (ix2 b j) = 0#1) : validOf m d (ix2 b j) = 0#32 := by
  show (thereOf m d (ix2 b j)).setWidth 32 = 0#32
  rw [h]; rfl

theorem valid_one (b : Fin 4) (j : Fin 5075) (h : thereOf m d (ix2 b j) = 1#1) : ¬ validOf m d (ix2 b j) = 0#32 := by
  show ¬ (thereOf m d (ix2 b j)).setWidth 32 = 0#32
  rw [h]; decide

theorem list_absent (b : Fin 4) (j : Fin 5075) (h : thereOf m d (ix2 b j) = 0#1) : idxM m d (ix2 b ⟨j.val, by omega⟩) = 20480#32 := by
  unfold idxM
  rw [idxVal_at, dif_pos j.isLt]
  exact if_pos (valid_zero m d b j h)

theorem list_present (b : Fin 4) (j : Fin 5075) (h : thereOf m d (ix2 b j) = 1#1) :
    idxM m d (ix2 b ⟨j.val, by omega⟩) = BitVec.ofNat 32 (rowNat (b.val * 10 + (lenAt m d b j).val) (startAt m d b j).val) := by
  unfold idxM
  rw [idxVal_at, dif_pos j.isLt]
  exact if_neg (valid_one m d b j h)

theorem row_absent (b : Fin 4) (j : Fin 5075) (h : thereOf m d (ix2 b j) = 0#1) (c : Fin 16) :
    entry (tabM m d) (idxM m d (ix2 b ⟨j.val, by omega⟩)) c = padRow1 (k0_pay4 (biasOf m d)) (ix2 0 c) := by
  rw [list_absent m d b j h]
  exact entry_absent _ _ _ _ c

theorem row_present (b : Fin 4) (j : Fin 5075) (h : thereOf m d (ix2 b j) = 1#1) (c : Fin 16) :
    entry (tabM m d) (idxM m d (ix2 b ⟨j.val, by omega⟩)) c
      = padRow (rowScores (m ((d.tc : Thread nD τ).loc main_arg0)) (m ((d.tc : Thread nD τ).loc main_arg5)) (m ((d.tc : Thread nD τ).loc main_arg6))
          (biasOf m d) b (lenAt m d b j)) (ix2 (startAt m d b j) c) := by
  have hb := b.isLt
  have hk := (lenAt m d b j).isLt
  rw [list_present m d b j h]
  refine (entry_span _ _ _ _ _ (by omega) (startAt m d b j) c).trans ?_
  exact congrFun (block_row _ _ _ _ b (lenAt m d b j)) _

theorem there_cases (b : Fin 4) (j : Fin 5075) : thereOf m d (ix2 b j) = 0#1 ∨ thereOf m d (ix2 b j) = 1#1 := by
  generalize thereOf m d (ix2 b j) = v
  revert v
  decide

/-- The kernel's class is the first of its greatest scores. -/
theorem preds_best (b : Fin 4) (j : Fin 5075) :
    ∃ l, IsBest (fun k => scoresFin m d (ix3 b j k)) l ∧ predsFin m d (ix2 b j) = BitVec.ofNat 32 l.val := by
  rcases there_cases m d b j with h | h
  · obtain ⟨l, hl, e⟩ := Pick.firstLane1_best (k0_pay4 (biasOf m d))
    refine ⟨l, ?_, ?_⟩
    · have : (fun k => scoresFin m d (ix3 b j k)) = fun k => k0_pay4 (F := Ideal) (biasOf m d) (ix2 0 k) :=
        funext fun k => (scores_at m d b j k).trans ((row_absent m d b j h _).trans (padRow1_score _ k))
      rw [this]
      exact hl
    · rw [preds_at, row_absent m d b j h, padRow1_class, e]
      exact Pick.word_of_real l.val (by omega)
  · obtain ⟨l, hl, e⟩ := Pick.firstLane_best (rowScores (m ((d.tc : Thread nD τ).loc main_arg0)) (m ((d.tc : Thread nD τ).loc main_arg5))
      (m ((d.tc : Thread nD τ).loc main_arg6)) (biasOf m d) b (lenAt m d b j)) (startAt m d b j)
    refine ⟨l, ?_, ?_⟩
    · have : (fun k => scoresFin m d (ix3 b j k)) = fun k => rowScores (m ((d.tc : Thread nD τ).loc main_arg0)) (m ((d.tc : Thread nD τ).loc main_arg5))
          (m ((d.tc : Thread nD τ).loc main_arg6)) (biasOf m d) b (lenAt m d b j) (ix2 (startAt m d b j) k) :=
        funext fun k => (scores_at m d b j k).trans ((row_present m d b j h _).trans (padRow_score _ _ k))
      rw [this]
      exact hl
    · rw [preds_at, row_present m d b j h, padRow_class, e]
      exact Pick.word_of_real l.val (by omega)

theorem bias_lane (l : Fin 9) : biasOf m d (ix2 0 l) = (m ((d.tc : Thread nD τ).loc main_arg7) : FVec Ideal S9 .f32) (ix1 l) := by
  unfold biasOf
  refine shapeCast_apply _ _ (ix2 0 l) (ix1 l) ?_
  rw [show ((S9.rowMajor (ix1 l) : Fin _) : ℕ) = _ from Shape.rowMajor_val_one _,
    show ((S1x9.rowMajor (ix2 (0 : Fin 1) l) : Fin _) : ℕ) = _ from Shape.rowMajor_val_two _]
  show l.val = 0 * 9 + l.val
  omega

/-- The reference's scores of the kernel's arguments. -/
abbrev refScores : FVec Ideal S4x5075x9 .f32 :=
  Ref.scoresOf (F := Ideal) (m ((d.tc : Thread nD τ).loc main_arg0)) (startsOf m d) (endsOf m d) (thereOf m d)
    (m ((d.tc : Thread nD τ).loc main_arg5)) (m ((d.tc : Thread nD τ).loc main_arg6)) (m ((d.tc : Thread nD τ).loc main_arg7))

/-- The scores agree. -/
theorem scores_eq (h : InRange (startsOf m d) (endsOf m d) (thereOf m d)) : scoresFin m d = refScores m d := by
  funext y
  obtain ⟨b, j, l, rfl⟩ : ∃ b j l, ix3 b j l = y := ⟨y 0, y 1, y 2, (eq_ix3 y).symm⟩
  rcases there_cases m d b j with hv | hv
  · refine (scores_at m d b j l).trans ((row_absent m d b j hv _).trans ((padRow1_score _ l).trans ?_))
    refine Eq.trans ?_ (Ref.scores_absent _ _ _ _ _ _ _ b j hv l).symm
    exact (congrFun (shapeCast_self (biasOf m d) shapeCasts_S1x9_S1x9) _).trans (bias_lane m d l)
  · obtain ⟨h0, h1, h2⟩ := h b j hv
    refine (scores_at m d b j l).trans ((row_present m d b j hv _).trans ((padRow_score _ _ l).trans ?_))
    refine Eq.trans ?_ (Ref.scores_present _ _ _ _ _ _ _ b j hv h0 h1 h2 l).symm
    refine (scoresAtLen_at _ _ _ _ b (lenAt m d b j) (startAt m d b j) l).trans ?_
    exact congrArg (fun f => score _ _ _ f b _ _ l) (funext fun l => bias_lane m d l)

/-- So do the classes. -/
theorem preds_eq (h : InRange (startsOf m d) (endsOf m d) (thereOf m d)) : predsFin m d = Ref.classesOf (F := Ideal) (refScores m d) := by
  funext y
  obtain ⟨b, j, rfl⟩ : ∃ b j, ix2 b j = y := ⟨y 0, y 1, (eq_ix2 y).symm⟩
  obtain ⟨l, hl, e⟩ := preds_best m d b j
  obtain ⟨l', hl', e'⟩ := Pick.classes_best (refScores m d) b j
  rw [scores_eq m d h] at hl
  rw [hl.unique hl'] at e
  exact e.trans e'.symm

end Rows

/-! ## The claim -/

theorem algebraic : Cert.algebraic_KernelIdeal_ReferenceIdeal_pre_in_range (hPre_in_range := range_facts) := by
  intro m g m' g' hpre hargs
  have hin (d : Dev nD) : InRange (startsOf m d) (endsOf m d) (thereOf m d) := @inRange_of_fn range_facts _ _ _ _ _ _ _ _ (hpre d)
  have href (d : Dev nD) : Ref.scoresAt (F := Ideal) m' d = refScores m d := by
    obtain ⟨a0, -, a2, a3, a4, a5, a6, a7⟩ := hargs d
    unfold Ref.scoresAt
    rw [a0, a2, a3, a4, a5, a6, a7]
  refine ⟨fun d => scoresFin m d, fun d => predsFin m d, ?_, ?_⟩
  · exact (θ_run Cert.KernelIdeal.defs _ _).mono (fun _ h c => ⟨(h.1 c).1.1, (h.1 c).1.2, (h.1 c).2⟩) (run_main m g)
  · refine (θ_run Cert.ReferenceIdeal.defs _ _).mono (fun _ h c => ⟨?_, ?_, (h c).2.2⟩) (Ref.run (F := Ideal) m' g')
    · exact (h c).1.trans ((href c).trans (scores_eq m c (hin c)).symm)
    · exact (h c).2.1.trans ((congrArg Ref.classesOf (href c)).trans (preds_eq m c (hin c)).symm)

end Cert.Proof.Run
end
-- ==== Proof.lean ====
/-
  The certificate: the program facts, the frames, that the idealization changed nothing, and the value claim.
-/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Run.range_facts,
    Run.frame_kernel, Run.frame_ideal, fun m ρ _ => Run.frame_ideal m ρ trivial, Run.frame_reference,
    fun m ρ _ => Run.frame_reference m ρ trivial, trivial, Run.algebraic⟩

end Cert.Proof

end
